-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_OddFfn (m : (ℓ : Loc Cert.OddFfn.nD Cert.OddFfn.τ Cert.OddFfn.sig) → Buf (Elt Bits) ℓ) : Prop :=
  True

def Pre_OddFfnIdeal (m : (ℓ : Loc Cert.OddFfnIdeal.nD Cert.OddFfnIdeal.τ Cert.OddFfnIdeal.sig) → Buf (Elt Ideal) ℓ) : Prop :=
  True

def Pre_OddFfnRefIdeal (m : (ℓ : Loc Cert.OddFfnRefIdeal.nD Cert.OddFfnRefIdeal.τ Cert.OddFfnRefIdeal.sig) → Buf (Elt Ideal) ℓ) : Prop :=
  True

def Pre_EvenFfn (m : (ℓ : Loc Cert.EvenFfn.nD Cert.EvenFfn.τ Cert.EvenFfn.sig) → Buf (Elt Bits) ℓ) : Prop :=
  True

def Pre_EvenFfnIdeal (m : (ℓ : Loc Cert.EvenFfnIdeal.nD Cert.EvenFfnIdeal.τ Cert.EvenFfnIdeal.sig) → Buf (Elt Ideal) ℓ) : Prop :=
  True

def Pre_EvenFfnRefIdeal (m : (ℓ : Loc Cert.EvenFfnRefIdeal.nD Cert.EvenFfnRefIdeal.τ Cert.EvenFfnRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_LateFfn (m : (ℓ : Loc Cert.LateFfn.nD Cert.LateFfn.τ Cert.LateFfn.sig) → Buf (Elt Bits) ℓ) : Prop :=
  True

def Pre_LateFfnIdeal (m : (ℓ : Loc Cert.LateFfnIdeal.nD Cert.LateFfnIdeal.τ Cert.LateFfnIdeal.sig) → Buf (Elt Ideal) ℓ) : Prop :=
  True

def Pre_LateFfnRefIdeal (m : (ℓ : Loc Cert.LateFfnRefIdeal.nD Cert.LateFfnRefIdeal.τ Cert.LateFfnRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_OddFfn [hOddFfn : Cert.OddFfn.Facts] : Prop :=
  ∀ (m : (ℓ : Loc Cert.OddFfn.nD Cert.OddFfn.τ Cert.OddFfn.sig) → Buf (Elt Bits) ℓ) (g : Dev Cert.OddFfn.nD → PrngReg), Pre_OddFfn m →
    θ_run (Cert.OddFfn.defs (F := Bits)) (onTc (τ := Cert.OddFfn.τ) (Cert.OddFfn.main (F := Bits))) ⟨m, fun _ => 0, g⟩ (fun r => (∀ c : Dev Cert.OddFfn.nD,
      r.2.mem ((c.tc : Thread Cert.OddFfn.nD Cert.OddFfn.τ).loc Cert.OddFfn.main_arg0) = m ((c.tc : Thread Cert.OddFfn.nD Cert.OddFfn.τ).loc Cert.OddFfn.main_arg0)
      ∧ r.2.mem ((c.tc : Thread Cert.OddFfn.nD Cert.OddFfn.τ).loc Cert.OddFfn.main_arg1) = m ((c.tc : Thread Cert.OddFfn.nD Cert.OddFfn.τ).loc Cert.OddFfn.main_arg1)
      ∧ r.2.mem ((c.tc : Thread Cert.OddFfn.nD Cert.OddFfn.τ).loc Cert.OddFfn.main_arg2) = m ((c.tc : Thread Cert.OddFfn.nD Cert.OddFfn.τ).loc Cert.OddFfn.main_arg2)
      ∧ r.2.mem ((c.tc : Thread Cert.OddFfn.nD Cert.OddFfn.τ).loc Cert.OddFfn.main_arg3) = m ((c.tc : Thread Cert.OddFfn.nD Cert.OddFfn.τ).loc Cert.OddFfn.main_arg3)
      ∧ r.2.mem ((c.tc : Thread Cert.OddFfn.nD Cert.OddFfn.τ).loc Cert.OddFfn.main_arg4) = m ((c.tc : Thread Cert.OddFfn.nD Cert.OddFfn.τ).loc Cert.OddFfn.main_arg4)
      ∧ r.2.mem ((c.tc : Thread Cert.OddFfn.nD Cert.OddFfn.τ).loc Cert.OddFfn.main_arg5) = m ((c.tc : Thread Cert.OddFfn.nD Cert.OddFfn.τ).loc Cert.OddFfn.main_arg5)
      ∧ r.2.mem ((c.tc : Thread Cert.OddFfn.nD Cert.OddFfn.τ).loc Cert.OddFfn.main_arg6) = m ((c.tc : Thread Cert.OddFfn.nD Cert.OddFfn.τ).loc Cert.OddFfn.main_arg6)
      ∧ r.2.mem ((c.tc : Thread Cert.OddFfn.nD Cert.OddFfn.τ).loc Cert.OddFfn.main_arg7) = m ((c.tc : Thread Cert.OddFfn.nD Cert.OddFfn.τ).loc Cert.OddFfn.main_arg7)
      ∧ r.2.mem ((c.tc : Thread Cert.OddFfn.nD Cert.OddFfn.τ).loc Cert.OddFfn.main_arg8) = m ((c.tc : Thread Cert.OddFfn.nD Cert.OddFfn.τ).loc Cert.OddFfn.main_arg8))
      ∧ r.2.sem = fun _ => 0)

def quiescent_OddFfnIdeal [hOddFfnIdeal : Cert.OddFfnIdeal.Facts] : Prop :=
  ∀ (m : (ℓ : Loc Cert.OddFfnIdeal.nD Cert.OddFfnIdeal.τ Cert.OddFfnIdeal.sig) → Buf (Elt Ideal) ℓ) (g : Dev Cert.OddFfnIdeal.nD → PrngReg), Pre_OddFfnIdeal m →
    θ_run (Cert.OddFfnIdeal.defs (F := Ideal)) (onTc (τ := Cert.OddFfnIdeal.τ) (Cert.OddFfnIdeal.main (F := Ideal))) ⟨m, fun _ => 0, g⟩ (fun r => (∀ c : Dev Cert.OddFfnIdeal.nD,
      r.2.mem ((c.tc : Thread Cert.OddFfnIdeal.nD Cert.OddFfnIdeal.τ).loc Cert.OddFfnIdeal.main_arg0) = m ((c.tc : Thread Cert.OddFfnIdeal.nD Cert.OddFfnIdeal.τ).loc Cert.OddFfnIdeal.main_arg0)
      ∧ r.2.mem ((c.tc : Thread Cert.OddFfnIdeal.nD Cert.OddFfnIdeal.τ).loc Cert.OddFfnIdeal.main_arg1) = m ((c.tc : Thread Cert.OddFfnIdeal.nD Cert.OddFfnIdeal.τ).loc Cert.OddFfnIdeal.main_arg1)
      ∧ r.2.mem ((c.tc : Thread Cert.OddFfnIdeal.nD Cert.OddFfnIdeal.τ).loc Cert.OddFfnIdeal.main_arg2) = m ((c.tc : Thread Cert.OddFfnIdeal.nD Cert.OddFfnIdeal.τ).loc Cert.OddFfnIdeal.main_arg2)
      ∧ r.2.mem ((c.tc : Thread Cert.OddFfnIdeal.nD Cert.OddFfnIdeal.τ).loc Cert.OddFfnIdeal.main_arg3) = m ((c.tc : Thread Cert.OddFfnIdeal.nD Cert.OddFfnIdeal.τ).loc Cert.OddFfnIdeal.main_arg3)
      ∧ r.2.mem ((c.tc : Thread Cert.OddFfnIdeal.nD Cert.OddFfnIdeal.τ).loc Cert.OddFfnIdeal.main_arg4) = m ((c.tc : Thread Cert.OddFfnIdeal.nD Cert.OddFfnIdeal.τ).loc Cert.OddFfnIdeal.main_arg4)
      ∧ r.2.mem ((c.tc : Thread Cert.OddFfnIdeal.nD Cert.OddFfnIdeal.τ).loc Cert.OddFfnIdeal.main_arg5) = m ((c.tc : Thread Cert.OddFfnIdeal.nD Cert.OddFfnIdeal.τ).loc Cert.OddFfnIdeal.main_arg5)
      ∧ r.2.mem ((c.tc : Thread Cert.OddFfnIdeal.nD Cert.OddFfnIdeal.τ).loc Cert.OddFfnIdeal.main_arg6) = m ((c.tc : Thread Cert.OddFfnIdeal.nD Cert.OddFfnIdeal.τ).loc Cert.OddFfnIdeal.main_arg6)
      ∧ r.2.mem ((c.tc : Thread Cert.OddFfnIdeal.nD Cert.OddFfnIdeal.τ).loc Cert.OddFfnIdeal.main_arg7) = m ((c.tc : Thread Cert.OddFfnIdeal.nD Cert.OddFfnIdeal.τ).loc Cert.OddFfnIdeal.main_arg7)
      ∧ r.2.mem ((c.tc : Thread Cert.OddFfnIdeal.nD Cert.OddFfnIdeal.τ).loc Cert.OddFfnIdeal.main_arg8) = m ((c.tc : Thread Cert.OddFfnIdeal.nD Cert.OddFfnIdeal.τ).loc Cert.OddFfnIdeal.main_arg8))
      ∧ r.2.sem = fun _ => 0)

def quiescent_OddFfnRefIdeal [hOddFfnRefIdeal : Cert.OddFfnRefIdeal.Facts] : Prop :=
  ∀ (m : (ℓ : Loc Cert.OddFfnRefIdeal.nD Cert.OddFfnRefIdeal.τ Cert.OddFfnRefIdeal.sig) → Buf (Elt Ideal) ℓ) (g : Dev Cert.OddFfnRefIdeal.nD → PrngReg), Pre_OddFfnRefIdeal m →
    θ_run (Cert.OddFfnRefIdeal.defs (F := Ideal)) (onTc (τ := Cert.OddFfnRefIdeal.τ) (Cert.OddFfnRefIdeal.main (F := Ideal))) ⟨m, fun _ => 0, g⟩ (fun r => (∀ c : Dev Cert.OddFfnRefIdeal.nD,
      r.2.mem ((c.tc : Thread Cert.OddFfnRefIdeal.nD Cert.OddFfnRefIdeal.τ).loc Cert.OddFfnRefIdeal.main_arg0) = m ((c.tc : Thread Cert.OddFfnRefIdeal.nD Cert.OddFfnRefIdeal.τ).loc Cert.OddFfnRefIdeal.main_arg0)
      ∧ r.2.mem ((c.tc : Thread Cert.OddFfnRefIdeal.nD Cert.OddFfnRefIdeal.τ).loc Cert.OddFfnRefIdeal.main_arg1) = m ((c.tc : Thread Cert.OddFfnRefIdeal.nD Cert.OddFfnRefIdeal.τ).loc Cert.OddFfnRefIdeal.main_arg1)
      ∧ r.2.mem ((c.tc : Thread Cert.OddFfnRefIdeal.nD Cert.OddFfnRefIdeal.τ).loc Cert.OddFfnRefIdeal.main_arg2) = m ((c.tc : Thread Cert.OddFfnRefIdeal.nD Cert.OddFfnRefIdeal.τ).loc Cert.OddFfnRefIdeal.main_arg2)
      ∧ r.2.mem ((c.tc : Thread Cert.OddFfnRefIdeal.nD Cert.OddFfnRefIdeal.τ).loc Cert.OddFfnRefIdeal.main_arg3) = m ((c.tc : Thread Cert.OddFfnRefIdeal.nD Cert.OddFfnRefIdeal.τ).loc Cert.OddFfnRefIdeal.main_arg3)
      ∧ r.2.mem ((c.tc : Thread Cert.OddFfnRefIdeal.nD Cert.OddFfnRefIdeal.τ).loc Cert.OddFfnRefIdeal.main_arg4) = m ((c.tc : Thread Cert.OddFfnRefIdeal.nD Cert.OddFfnRefIdeal.τ).loc Cert.OddFfnRefIdeal.main_arg4)
      ∧ r.2.mem ((c.tc : Thread Cert.OddFfnRefIdeal.nD Cert.OddFfnRefIdeal.τ).loc Cert.OddFfnRefIdeal.main_arg5) = m ((c.tc : Thread Cert.OddFfnRefIdeal.nD Cert.OddFfnRefIdeal.τ).loc Cert.OddFfnRefIdeal.main_arg5)
      ∧ r.2.mem ((c.tc : Thread Cert.OddFfnRefIdeal.nD Cert.OddFfnRefIdeal.τ).loc Cert.OddFfnRefIdeal.main_arg6) = m ((c.tc : Thread Cert.OddFfnRefIdeal.nD Cert.OddFfnRefIdeal.τ).loc Cert.OddFfnRefIdeal.main_arg6)
      ∧ r.2.mem ((c.tc : Thread Cert.OddFfnRefIdeal.nD Cert.OddFfnRefIdeal.τ).loc Cert.OddFfnRefIdeal.main_arg7) = m ((c.tc : Thread Cert.OddFfnRefIdeal.nD Cert.OddFfnRefIdeal.τ).loc Cert.OddFfnRefIdeal.main_arg7)
      ∧ r.2.mem ((c.tc : Thread Cert.OddFfnRefIdeal.nD Cert.OddFfnRefIdeal.τ).loc Cert.OddFfnRefIdeal.main_arg8) = m ((c.tc : Thread Cert.OddFfnRefIdeal.nD Cert.OddFfnRefIdeal.τ).loc Cert.OddFfnRefIdeal.main_arg8))
      ∧ r.2.sem = fun _ => 0)

def quiescent_EvenFfn [hEvenFfn : Cert.EvenFfn.Facts] : Prop :=
  ∀ (m : (ℓ : Loc Cert.EvenFfn.nD Cert.EvenFfn.τ Cert.EvenFfn.sig) → Buf (Elt Bits) ℓ) (g : Dev Cert.EvenFfn.nD → PrngReg), Pre_EvenFfn m →
    θ_run (Cert.EvenFfn.defs (F := Bits)) (onTc (τ := Cert.EvenFfn.τ) (Cert.EvenFfn.main (F := Bits))) ⟨m, fun _ => 0, g⟩ (fun r => (∀ c : Dev Cert.EvenFfn.nD,
      r.2.mem ((c.tc : Thread Cert.EvenFfn.nD Cert.EvenFfn.τ).loc Cert.EvenFfn.main_arg0) = m ((c.tc : Thread Cert.EvenFfn.nD Cert.EvenFfn.τ).loc Cert.EvenFfn.main_arg0)
      ∧ r.2.mem ((c.tc : Thread Cert.EvenFfn.nD Cert.EvenFfn.τ).loc Cert.EvenFfn.main_arg1) = m ((c.tc : Thread Cert.EvenFfn.nD Cert.EvenFfn.τ).loc Cert.EvenFfn.main_arg1)
      ∧ r.2.mem ((c.tc : Thread Cert.EvenFfn.nD Cert.EvenFfn.τ).loc Cert.EvenFfn.main_arg2) = m ((c.tc : Thread Cert.EvenFfn.nD Cert.EvenFfn.τ).loc Cert.EvenFfn.main_arg2)
      ∧ r.2.mem ((c.tc : Thread Cert.EvenFfn.nD Cert.EvenFfn.τ).loc Cert.EvenFfn.main_arg3) = m ((c.tc : Thread Cert.EvenFfn.nD Cert.EvenFfn.τ).loc Cert.EvenFfn.main_arg3)
      ∧ r.2.mem ((c.tc : Thread Cert.EvenFfn.nD Cert.EvenFfn.τ).loc Cert.EvenFfn.main_arg4) = m ((c.tc : Thread Cert.EvenFfn.nD Cert.EvenFfn.τ).loc Cert.EvenFfn.main_arg4)
      ∧ r.2.mem ((c.tc : Thread Cert.EvenFfn.nD Cert.EvenFfn.τ).loc Cert.EvenFfn.main_arg5) = m ((c.tc : Thread Cert.EvenFfn.nD Cert.EvenFfn.τ).loc Cert.EvenFfn.main_arg5)
      ∧ r.2.mem ((c.tc : Thread Cert.EvenFfn.nD Cert.EvenFfn.τ).loc Cert.EvenFfn.main_arg6) = m ((c.tc : Thread Cert.EvenFfn.nD Cert.EvenFfn.τ).loc Cert.EvenFfn.main_arg6)
      ∧ r.2.mem ((c.tc : Thread Cert.EvenFfn.nD Cert.EvenFfn.τ).loc Cert.EvenFfn.main_arg7) = m ((c.tc : Thread Cert.EvenFfn.nD Cert.EvenFfn.τ).loc Cert.EvenFfn.main_arg7))
      ∧ r.2.sem = fun _ => 0)

def quiescent_EvenFfnIdeal [hEvenFfnIdeal : Cert.EvenFfnIdeal.Facts] : Prop :=
  ∀ (m : (ℓ : Loc Cert.EvenFfnIdeal.nD Cert.EvenFfnIdeal.τ Cert.EvenFfnIdeal.sig) → Buf (Elt Ideal) ℓ) (g : Dev Cert.EvenFfnIdeal.nD → PrngReg), Pre_EvenFfnIdeal m →
    θ_run (Cert.EvenFfnIdeal.defs (F := Ideal)) (onTc (τ := Cert.EvenFfnIdeal.τ) (Cert.EvenFfnIdeal.main (F := Ideal))) ⟨m, fun _ => 0, g⟩ (fun r => (∀ c : Dev Cert.EvenFfnIdeal.nD,
      r.2.mem ((c.tc : Thread Cert.EvenFfnIdeal.nD Cert.EvenFfnIdeal.τ).loc Cert.EvenFfnIdeal.main_arg0) = m ((c.tc : Thread Cert.EvenFfnIdeal.nD Cert.EvenFfnIdeal.τ).loc Cert.EvenFfnIdeal.main_arg0)
      ∧ r.2.mem ((c.tc : Thread Cert.EvenFfnIdeal.nD Cert.EvenFfnIdeal.τ).loc Cert.EvenFfnIdeal.main_arg1) = m ((c.tc : Thread Cert.EvenFfnIdeal.nD Cert.EvenFfnIdeal.τ).loc Cert.EvenFfnIdeal.main_arg1)
      ∧ r.2.mem ((c.tc : Thread Cert.EvenFfnIdeal.nD Cert.EvenFfnIdeal.τ).loc Cert.EvenFfnIdeal.main_arg2) = m ((c.tc : Thread Cert.EvenFfnIdeal.nD Cert.EvenFfnIdeal.τ).loc Cert.EvenFfnIdeal.main_arg2)
      ∧ r.2.mem ((c.tc : Thread Cert.EvenFfnIdeal.nD Cert.EvenFfnIdeal.τ).loc Cert.EvenFfnIdeal.main_arg3) = m ((c.tc : Thread Cert.EvenFfnIdeal.nD Cert.EvenFfnIdeal.τ).loc Cert.EvenFfnIdeal.main_arg3)
      ∧ r.2.mem ((c.tc : Thread Cert.EvenFfnIdeal.nD Cert.EvenFfnIdeal.τ).loc Cert.EvenFfnIdeal.main_arg4) = m ((c.tc : Thread Cert.EvenFfnIdeal.nD Cert.EvenFfnIdeal.τ).loc Cert.EvenFfnIdeal.main_arg4)
      ∧ r.2.mem ((c.tc : Thread Cert.EvenFfnIdeal.nD Cert.EvenFfnIdeal.τ).loc Cert.EvenFfnIdeal.main_arg5) = m ((c.tc : Thread Cert.EvenFfnIdeal.nD Cert.EvenFfnIdeal.τ).loc Cert.EvenFfnIdeal.main_arg5)
      ∧ r.2.mem ((c.tc : Thread Cert.EvenFfnIdeal.nD Cert.EvenFfnIdeal.τ).loc Cert.EvenFfnIdeal.main_arg6) = m ((c.tc : Thread Cert.EvenFfnIdeal.nD Cert.EvenFfnIdeal.τ).loc Cert.EvenFfnIdeal.main_arg6)
      ∧ r.2.mem ((c.tc : Thread Cert.EvenFfnIdeal.nD Cert.EvenFfnIdeal.τ).loc Cert.EvenFfnIdeal.main_arg7) = m ((c.tc : Thread Cert.EvenFfnIdeal.nD Cert.EvenFfnIdeal.τ).loc Cert.EvenFfnIdeal.main_arg7))
      ∧ r.2.sem = fun _ => 0)

def quiescent_EvenFfnRefIdeal [hEvenFfnRefIdeal : Cert.EvenFfnRefIdeal.Facts] : Prop :=
  ∀ (m : (ℓ : Loc Cert.EvenFfnRefIdeal.nD Cert.EvenFfnRefIdeal.τ Cert.EvenFfnRefIdeal.sig) → Buf (Elt Ideal) ℓ) (g : Dev Cert.EvenFfnRefIdeal.nD → PrngReg), Pre_EvenFfnRefIdeal m →
    θ_run (Cert.EvenFfnRefIdeal.defs (F := Ideal)) (onTc (τ := Cert.EvenFfnRefIdeal.τ) (Cert.EvenFfnRefIdeal.main (F := Ideal))) ⟨m, fun _ => 0, g⟩ (fun r => (∀ c : Dev Cert.EvenFfnRefIdeal.nD,
      r.2.mem ((c.tc : Thread Cert.EvenFfnRefIdeal.nD Cert.EvenFfnRefIdeal.τ).loc Cert.EvenFfnRefIdeal.main_arg0) = m ((c.tc : Thread Cert.EvenFfnRefIdeal.nD Cert.EvenFfnRefIdeal.τ).loc Cert.EvenFfnRefIdeal.main_arg0)
      ∧ r.2.mem ((c.tc : Thread Cert.EvenFfnRefIdeal.nD Cert.EvenFfnRefIdeal.τ).loc Cert.EvenFfnRefIdeal.main_arg1) = m ((c.tc : Thread Cert.EvenFfnRefIdeal.nD Cert.EvenFfnRefIdeal.τ).loc Cert.EvenFfnRefIdeal.main_arg1)
      ∧ r.2.mem ((c.tc : Thread Cert.EvenFfnRefIdeal.nD Cert.EvenFfnRefIdeal.τ).loc Cert.EvenFfnRefIdeal.main_arg2) = m ((c.tc : Thread Cert.EvenFfnRefIdeal.nD Cert.EvenFfnRefIdeal.τ).loc Cert.EvenFfnRefIdeal.main_arg2)
      ∧ r.2.mem ((c.tc : Thread Cert.EvenFfnRefIdeal.nD Cert.EvenFfnRefIdeal.τ).loc Cert.EvenFfnRefIdeal.main_arg3) = m ((c.tc : Thread Cert.EvenFfnRefIdeal.nD Cert.EvenFfnRefIdeal.τ).loc Cert.EvenFfnRefIdeal.main_arg3)
      ∧ r.2.mem ((c.tc : Thread Cert.EvenFfnRefIdeal.nD Cert.EvenFfnRefIdeal.τ).loc Cert.EvenFfnRefIdeal.main_arg4) = m ((c.tc : Thread Cert.EvenFfnRefIdeal.nD Cert.EvenFfnRefIdeal.τ).loc Cert.EvenFfnRefIdeal.main_arg4)
      ∧ r.2.mem ((c.tc : Thread Cert.EvenFfnRefIdeal.nD Cert.EvenFfnRefIdeal.τ).loc Cert.EvenFfnRefIdeal.main_arg5) = m ((c.tc : Thread Cert.EvenFfnRefIdeal.nD Cert.EvenFfnRefIdeal.τ).loc Cert.EvenFfnRefIdeal.main_arg5)
      ∧ r.2.mem ((c.tc : Thread Cert.EvenFfnRefIdeal.nD Cert.EvenFfnRefIdeal.τ).loc Cert.EvenFfnRefIdeal.main_arg6) = m ((c.tc : Thread Cert.EvenFfnRefIdeal.nD Cert.EvenFfnRefIdeal.τ).loc Cert.EvenFfnRefIdeal.main_arg6)
      ∧ r.2.mem ((c.tc : Thread Cert.EvenFfnRefIdeal.nD Cert.EvenFfnRefIdeal.τ).loc Cert.EvenFfnRefIdeal.main_arg7) = m ((c.tc : Thread Cert.EvenFfnRefIdeal.nD Cert.EvenFfnRefIdeal.τ).loc Cert.EvenFfnRefIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_LateFfn [hLateFfn : Cert.LateFfn.Facts] : Prop :=
  ∀ (m : (ℓ : Loc Cert.LateFfn.nD Cert.LateFfn.τ Cert.LateFfn.sig) → Buf (Elt Bits) ℓ) (g : Dev Cert.LateFfn.nD → PrngReg), Pre_LateFfn m →
    θ_run (Cert.LateFfn.defs (F := Bits)) (onTc (τ := Cert.LateFfn.τ) (Cert.LateFfn.main (F := Bits))) ⟨m, fun _ => 0, g⟩ (fun r => (∀ c : Dev Cert.LateFfn.nD,
      r.2.mem ((c.tc : Thread Cert.LateFfn.nD Cert.LateFfn.τ).loc Cert.LateFfn.main_arg0) = m ((c.tc : Thread Cert.LateFfn.nD Cert.LateFfn.τ).loc Cert.LateFfn.main_arg0)
      ∧ r.2.mem ((c.tc : Thread Cert.LateFfn.nD Cert.LateFfn.τ).loc Cert.LateFfn.main_arg1) = m ((c.tc : Thread Cert.LateFfn.nD Cert.LateFfn.τ).loc Cert.LateFfn.main_arg1)
      ∧ r.2.mem ((c.tc : Thread Cert.LateFfn.nD Cert.LateFfn.τ).loc Cert.LateFfn.main_arg2) = m ((c.tc : Thread Cert.LateFfn.nD Cert.LateFfn.τ).loc Cert.LateFfn.main_arg2)
      ∧ r.2.mem ((c.tc : Thread Cert.LateFfn.nD Cert.LateFfn.τ).loc Cert.LateFfn.main_arg3) = m ((c.tc : Thread Cert.LateFfn.nD Cert.LateFfn.τ).loc Cert.LateFfn.main_arg3)
      ∧ r.2.mem ((c.tc : Thread Cert.LateFfn.nD Cert.LateFfn.τ).loc Cert.LateFfn.main_arg4) = m ((c.tc : Thread Cert.LateFfn.nD Cert.LateFfn.τ).loc Cert.LateFfn.main_arg4))
      ∧ r.2.sem = fun _ => 0)

def quiescent_LateFfnIdeal [hLateFfnIdeal : Cert.LateFfnIdeal.Facts] : Prop :=
  ∀ (m : (ℓ : Loc Cert.LateFfnIdeal.nD Cert.LateFfnIdeal.τ Cert.LateFfnIdeal.sig) → Buf (Elt Ideal) ℓ) (g : Dev Cert.LateFfnIdeal.nD → PrngReg), Pre_LateFfnIdeal m →
    θ_run (Cert.LateFfnIdeal.defs (F := Ideal)) (onTc (τ := Cert.LateFfnIdeal.τ) (Cert.LateFfnIdeal.main (F := Ideal))) ⟨m, fun _ => 0, g⟩ (fun r => (∀ c : Dev Cert.LateFfnIdeal.nD,
      r.2.mem ((c.tc : Thread Cert.LateFfnIdeal.nD Cert.LateFfnIdeal.τ).loc Cert.LateFfnIdeal.main_arg0) = m ((c.tc : Thread Cert.LateFfnIdeal.nD Cert.LateFfnIdeal.τ).loc Cert.LateFfnIdeal.main_arg0)
      ∧ r.2.mem ((c.tc : Thread Cert.LateFfnIdeal.nD Cert.LateFfnIdeal.τ).loc Cert.LateFfnIdeal.main_arg1) = m ((c.tc : Thread Cert.LateFfnIdeal.nD Cert.LateFfnIdeal.τ).loc Cert.LateFfnIdeal.main_arg1)
      ∧ r.2.mem ((c.tc : Thread Cert.LateFfnIdeal.nD Cert.LateFfnIdeal.τ).loc Cert.LateFfnIdeal.main_arg2) = m ((c.tc : Thread Cert.LateFfnIdeal.nD Cert.LateFfnIdeal.τ).loc Cert.LateFfnIdeal.main_arg2)
      ∧ r.2.mem ((c.tc : Thread Cert.LateFfnIdeal.nD Cert.LateFfnIdeal.τ).loc Cert.LateFfnIdeal.main_arg3) = m ((c.tc : Thread Cert.LateFfnIdeal.nD Cert.LateFfnIdeal.τ).loc Cert.LateFfnIdeal.main_arg3)
      ∧ r.2.mem ((c.tc : Thread Cert.LateFfnIdeal.nD Cert.LateFfnIdeal.τ).loc Cert.LateFfnIdeal.main_arg4) = m ((c.tc : Thread Cert.LateFfnIdeal.nD Cert.LateFfnIdeal.τ).loc Cert.LateFfnIdeal.main_arg4))
      ∧ r.2.sem = fun _ => 0)

def quiescent_LateFfnRefIdeal [hLateFfnRefIdeal : Cert.LateFfnRefIdeal.Facts] : Prop :=
  ∀ (m : (ℓ : Loc Cert.LateFfnRefIdeal.nD Cert.LateFfnRefIdeal.τ Cert.LateFfnRefIdeal.sig) → Buf (Elt Ideal) ℓ) (g : Dev Cert.LateFfnRefIdeal.nD → PrngReg), Pre_LateFfnRefIdeal m →
    θ_run (Cert.LateFfnRefIdeal.defs (F := Ideal)) (onTc (τ := Cert.LateFfnRefIdeal.τ) (Cert.LateFfnRefIdeal.main (F := Ideal))) ⟨m, fun _ => 0, g⟩ (fun r => (∀ c : Dev Cert.LateFfnRefIdeal.nD,
      r.2.mem ((c.tc : Thread Cert.LateFfnRefIdeal.nD Cert.LateFfnRefIdeal.τ).loc Cert.LateFfnRefIdeal.main_arg0) = m ((c.tc : Thread Cert.LateFfnRefIdeal.nD Cert.LateFfnRefIdeal.τ).loc Cert.LateFfnRefIdeal.main_arg0)
      ∧ r.2.mem ((c.tc : Thread Cert.LateFfnRefIdeal.nD Cert.LateFfnRefIdeal.τ).loc Cert.LateFfnRefIdeal.main_arg1) = m ((c.tc : Thread Cert.LateFfnRefIdeal.nD Cert.LateFfnRefIdeal.τ).loc Cert.LateFfnRefIdeal.main_arg1)
      ∧ r.2.mem ((c.tc : Thread Cert.LateFfnRefIdeal.nD Cert.LateFfnRefIdeal.τ).loc Cert.LateFfnRefIdeal.main_arg2) = m ((c.tc : Thread Cert.LateFfnRefIdeal.nD Cert.LateFfnRefIdeal.τ).loc Cert.LateFfnRefIdeal.main_arg2)
      ∧ r.2.mem ((c.tc : Thread Cert.LateFfnRefIdeal.nD Cert.LateFfnRefIdeal.τ).loc Cert.LateFfnRefIdeal.main_arg3) = m ((c.tc : Thread Cert.LateFfnRefIdeal.nD Cert.LateFfnRefIdeal.τ).loc Cert.LateFfnRefIdeal.main_arg3)
      ∧ r.2.mem ((c.tc : Thread Cert.LateFfnRefIdeal.nD Cert.LateFfnRefIdeal.τ).loc Cert.LateFfnRefIdeal.main_arg4) = m ((c.tc : Thread Cert.LateFfnRefIdeal.nD Cert.LateFfnRefIdeal.τ).loc Cert.LateFfnRefIdeal.main_arg4))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2)
      ∧ r.2.mem ((c.tc : Thread Cert.EvenIn.nD Cert.EvenIn.τ).loc Cert.EvenIn.main_arg3) = m ((c.tc : Thread Cert.EvenIn.nD Cert.EvenIn.τ).loc Cert.EvenIn.main_arg3)
      ∧ r.2.mem ((c.tc : Thread Cert.EvenIn.nD Cert.EvenIn.τ).loc Cert.EvenIn.main_arg4) = m ((c.tc : Thread Cert.EvenIn.nD Cert.EvenIn.τ).loc Cert.EvenIn.main_arg4)
      ∧ r.2.mem ((c.tc : Thread Cert.EvenIn.nD Cert.EvenIn.τ).loc Cert.EvenIn.main_arg5) = m ((c.tc : Thread Cert.EvenIn.nD Cert.EvenIn.τ).loc Cert.EvenIn.main_arg5)
      ∧ r.2.mem ((c.tc : Thread Cert.EvenIn.nD Cert.EvenIn.τ).loc Cert.EvenIn.main_arg6) = m ((c.tc : Thread Cert.EvenIn.nD Cert.EvenIn.τ).loc Cert.EvenIn.main_arg6)
      ∧ r.2.mem ((c.tc : Thread Cert.EvenIn.nD Cert.EvenIn.τ).loc Cert.EvenIn.main_arg7) = m ((c.tc : Thread Cert.EvenIn.nD Cert.EvenIn.τ).loc Cert.EvenIn.main_arg7)
      ∧ r.2.mem ((c.tc : Thread Cert.EvenIn.nD Cert.EvenIn.τ).loc Cert.EvenIn.main_arg8) = m ((c.tc : Thread Cert.EvenIn.nD Cert.EvenIn.τ).loc Cert.EvenIn.main_arg8))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
      ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
      ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4)
      ∧ r.2.mem ((c.tc : Thread Cert.EvenInIdeal.nD Cert.EvenInIdeal.τ).loc Cert.EvenInIdeal.main_arg5) = m ((c.tc : Thread Cert.EvenInIdeal.nD Cert.EvenInIdeal.τ).loc Cert.EvenInIdeal.main_arg5)
      ∧ r.2.mem ((c.tc : Thread Cert.EvenInIdeal.nD Cert.EvenInIdeal.τ).loc Cert.EvenInIdeal.main_arg6) = m ((c.tc : Thread Cert.EvenInIdeal.nD Cert.EvenInIdeal.τ).loc Cert.EvenInIdeal.main_arg6)
      ∧ r.2.mem ((c.tc : Thread Cert.EvenInIdeal.nD Cert.EvenInIdeal.τ).loc Cert.EvenInIdeal.main_arg7) = m ((c.tc : Thread Cert.EvenInIdeal.nD Cert.EvenInIdeal.τ).loc Cert.EvenInIdeal.main_arg7)
      ∧ r.2.mem ((c.tc : Thread Cert.EvenInIdeal.nD Cert.EvenInIdeal.τ).loc Cert.EvenInIdeal.main_arg8) = m ((c.tc : Thread Cert.EvenInIdeal.nD Cert.EvenInIdeal.τ).loc Cert.EvenInIdeal.main_arg8))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2)
      ∧ r.2.mem ((c.tc : Thread Cert.EvenInRefIdeal.nD Cert.EvenInRefIdeal.τ).loc Cert.EvenInRefIdeal.main_arg3) = m ((c.tc : Thread Cert.EvenInRefIdeal.nD Cert.EvenInRefIdeal.τ).loc Cert.EvenInRefIdeal.main_arg3)
      ∧ r.2.mem ((c.tc : Thread Cert.EvenInRefIdeal.nD Cert.EvenInRefIdeal.τ).loc Cert.EvenInRefIdeal.main_arg4) = m ((c.tc : Thread Cert.EvenInRefIdeal.nD Cert.EvenInRefIdeal.τ).loc Cert.EvenInRefIdeal.main_arg4)
      ∧ r.2.mem ((c.tc : Thread Cert.EvenInRefIdeal.nD Cert.EvenInRefIdeal.τ).loc Cert.EvenInRefIdeal.main_arg5) = m ((c.tc : Thread Cert.EvenInRefIdeal.nD Cert.EvenInRefIdeal.τ).loc Cert.EvenInRefIdeal.main_arg5)
      ∧ r.2.mem ((c.tc : Thread Cert.EvenInRefIdeal.nD Cert.EvenInRefIdeal.τ).loc Cert.EvenInRefIdeal.main_arg6) = m ((c.tc : Thread Cert.EvenInRefIdeal.nD Cert.EvenInRefIdeal.τ).loc Cert.EvenInRefIdeal.main_arg6)
      ∧ r.2.mem ((c.tc : Thread Cert.EvenInRefIdeal.nD Cert.EvenInRefIdeal.τ).loc Cert.EvenInRefIdeal.main_arg7) = m ((c.tc : Thread Cert.EvenInRefIdeal.nD Cert.EvenInRefIdeal.τ).loc Cert.EvenInRefIdeal.main_arg7)
      ∧ r.2.mem ((c.tc : Thread Cert.EvenInRefIdeal.nD Cert.EvenInRefIdeal.τ).loc Cert.EvenInRefIdeal.main_arg8) = m ((c.tc : Thread Cert.EvenInRefIdeal.nD Cert.EvenInRefIdeal.τ).loc Cert.EvenInRefIdeal.main_arg8))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2)
      ∧ r.2.mem ((c.tc : Thread Cert.OddIn.nD Cert.OddIn.τ).loc Cert.OddIn.main_arg3) = m ((c.tc : Thread Cert.OddIn.nD Cert.OddIn.τ).loc Cert.OddIn.main_arg3)
      ∧ r.2.mem ((c.tc : Thread Cert.OddIn.nD Cert.OddIn.τ).loc Cert.OddIn.main_arg4) = m ((c.tc : Thread Cert.OddIn.nD Cert.OddIn.τ).loc Cert.OddIn.main_arg4))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
      ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3)
      ∧ r.2.mem ((c.tc : Thread Cert.OddInIdeal.nD Cert.OddInIdeal.τ).loc Cert.OddInIdeal.main_arg4) = m ((c.tc : Thread Cert.OddInIdeal.nD Cert.OddInIdeal.τ).loc Cert.OddInIdeal.main_arg4))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1)
      ∧ r.2.mem ((c.tc : Thread Cert.OddInRefIdeal.nD Cert.OddInRefIdeal.τ).loc Cert.OddInRefIdeal.main_arg2) = m ((c.tc : Thread Cert.OddInRefIdeal.nD Cert.OddInRefIdeal.τ).loc Cert.OddInRefIdeal.main_arg2)
      ∧ r.2.mem ((c.tc : Thread Cert.OddInRefIdeal.nD Cert.OddInRefIdeal.τ).loc Cert.OddInRefIdeal.main_arg3) = m ((c.tc : Thread Cert.OddInRefIdeal.nD Cert.OddInRefIdeal.τ).loc Cert.OddInRefIdeal.main_arg3)
      ∧ r.2.mem ((c.tc : Thread Cert.OddInRefIdeal.nD Cert.OddInRefIdeal.τ).loc Cert.OddInRefIdeal.main_arg4) = m ((c.tc : Thread Cert.OddInRefIdeal.nD Cert.OddInRefIdeal.τ).loc Cert.OddInRefIdeal.main_arg4))
      ∧ r.2.sem = fun _ => 0)

def preserves_Kernel_KernelIdeal : Prop :=
  IdealRules.named_const.Statement Cert.KernelIdeal.κ "q_scale" .f32 0x3E38AA3B#32 ((8⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_OddFfn_OddFfnIdeal : Prop :=
  True

def algebraic_OddFfnIdeal_OddFfnRefIdeal [hOddFfnIdeal : Cert.OddFfnIdeal.Facts] [hOddFfnRefIdeal : Cert.OddFfnRefIdeal.Facts] : Prop :=
  ∀ (m : (ℓ : Loc Cert.OddFfnIdeal.nD Cert.OddFfnIdeal.τ Cert.OddFfnIdeal.sig) → Buf (Elt Ideal) ℓ) (g : Dev Cert.OddFfnIdeal.nD → PrngReg)
    (m' : (ℓ : Loc Cert.OddFfnRefIdeal.nD Cert.OddFfnRefIdeal.τ Cert.OddFfnRefIdeal.sig) → Buf (Elt Ideal) ℓ) (g' : Dev Cert.OddFfnRefIdeal.nD → PrngReg), Pre_OddFfnIdeal m →
    (∀ c : Dev Cert.OddFfnIdeal.nD,
      m' ((c.tc : Thread Cert.OddFfnRefIdeal.nD Cert.OddFfnRefIdeal.τ).loc Cert.OddFfnRefIdeal.main_arg0) = m ((c.tc : Thread Cert.OddFfnIdeal.nD Cert.OddFfnIdeal.τ).loc Cert.OddFfnIdeal.main_arg0)
      ∧ m' ((c.tc : Thread Cert.OddFfnRefIdeal.nD Cert.OddFfnRefIdeal.τ).loc Cert.OddFfnRefIdeal.main_arg1) = m ((c.tc : Thread Cert.OddFfnIdeal.nD Cert.OddFfnIdeal.τ).loc Cert.OddFfnIdeal.main_arg1)
      ∧ m' ((c.tc : Thread Cert.OddFfnRefIdeal.nD Cert.OddFfnRefIdeal.τ).loc Cert.OddFfnRefIdeal.main_arg2) = m ((c.tc : Thread Cert.OddFfnIdeal.nD Cert.OddFfnIdeal.τ).loc Cert.OddFfnIdeal.main_arg2)
      ∧ m' ((c.tc : Thread Cert.OddFfnRefIdeal.nD Cert.OddFfnRefIdeal.τ).loc Cert.OddFfnRefIdeal.main_arg3) = m ((c.tc : Thread Cert.OddFfnIdeal.nD Cert.OddFfnIdeal.τ).loc Cert.OddFfnIdeal.main_arg3)
      ∧ m' ((c.tc : Thread Cert.OddFfnRefIdeal.nD Cert.OddFfnRefIdeal.τ).loc Cert.OddFfnRefIdeal.main_arg4) = m ((c.tc : Thread Cert.OddFfnIdeal.nD Cert.OddFfnIdeal.τ).loc Cert.OddFfnIdeal.main_arg4)
      ∧ m' ((c.tc : Thread Cert.OddFfnRefIdeal.nD Cert.OddFfnRefIdeal.τ).loc Cert.OddFfnRefIdeal.main_arg5) = m ((c.tc : Thread Cert.OddFfnIdeal.nD Cert.OddFfnIdeal.τ).loc Cert.OddFfnIdeal.main_arg5)
      ∧ m' ((c.tc : Thread Cert.OddFfnRefIdeal.nD Cert.OddFfnRefIdeal.τ).loc Cert.OddFfnRefIdeal.main_arg6) = m ((c.tc : Thread Cert.OddFfnIdeal.nD Cert.OddFfnIdeal.τ).loc Cert.OddFfnIdeal.main_arg6)
      ∧ m' ((c.tc : Thread Cert.OddFfnRefIdeal.nD Cert.OddFfnRefIdeal.τ).loc Cert.OddFfnRefIdeal.main_arg7) = m ((c.tc : Thread Cert.OddFfnIdeal.nD Cert.OddFfnIdeal.τ).loc Cert.OddFfnIdeal.main_arg7)
      ∧ m' ((c.tc : Thread Cert.OddFfnRefIdeal.nD Cert.OddFfnRefIdeal.τ).loc Cert.OddFfnRefIdeal.main_arg8) = m ((c.tc : Thread Cert.OddFfnIdeal.nD Cert.OddFfnIdeal.τ).loc Cert.OddFfnIdeal.main_arg8)) →
    ∃ (v0 : (c : Dev Cert.OddFfnIdeal.nD) → Buf (Elt Ideal) ((c.tc : Thread Cert.OddFfnIdeal.nD Cert.OddFfnIdeal.τ).loc Cert.OddFfnIdeal.main_v10)),
      θ_run (Cert.OddFfnIdeal.defs (F := Ideal)) (onTc (τ := Cert.OddFfnIdeal.τ) (Cert.OddFfnIdeal.main (F := Ideal))) ⟨m, fun _ => 0, g⟩ (fun r => ∀ c : Dev Cert.OddFfnIdeal.nD,
          r.2.mem ((c.tc : Thread Cert.OddFfnIdeal.nD Cert.OddFfnIdeal.τ).loc Cert.OddFfnIdeal.main_v10) = v0 c
          ∧ r.2.mem ((c.tc : Thread Cert.OddFfnIdeal.nD Cert.OddFfnIdeal.τ).loc Cert.OddFfnIdeal.main_arg0) = m ((c.tc : Thread Cert.OddFfnIdeal.nD Cert.OddFfnIdeal.τ).loc Cert.OddFfnIdeal.main_arg0)
          ∧ r.2.mem ((c.tc : Thread Cert.OddFfnIdeal.nD Cert.OddFfnIdeal.τ).loc Cert.OddFfnIdeal.main_arg1) = m ((c.tc : Thread Cert.OddFfnIdeal.nD Cert.OddFfnIdeal.τ).loc Cert.OddFfnIdeal.main_arg1)
          ∧ r.2.mem ((c.tc : Thread Cert.OddFfnIdeal.nD Cert.OddFfnIdeal.τ).loc Cert.OddFfnIdeal.main_arg2) = m ((c.tc : Thread Cert.OddFfnIdeal.nD Cert.OddFfnIdeal.τ).loc Cert.OddFfnIdeal.main_arg2)
          ∧ r.2.mem ((c.tc : Thread Cert.OddFfnIdeal.nD Cert.OddFfnIdeal.τ).loc Cert.OddFfnIdeal.main_arg3) = m ((c.tc : Thread Cert.OddFfnIdeal.nD Cert.OddFfnIdeal.τ).loc Cert.OddFfnIdeal.main_arg3)
          ∧ r.2.mem ((c.tc : Thread Cert.OddFfnIdeal.nD Cert.OddFfnIdeal.τ).loc Cert.OddFfnIdeal.main_arg4) = m ((c.tc : Thread Cert.OddFfnIdeal.nD Cert.OddFfnIdeal.τ).loc Cert.OddFfnIdeal.main_arg4)
          ∧ r.2.mem ((c.tc : Thread Cert.OddFfnIdeal.nD Cert.OddFfnIdeal.τ).loc Cert.OddFfnIdeal.main_arg5) = m ((c.tc : Thread Cert.OddFfnIdeal.nD Cert.OddFfnIdeal.τ).loc Cert.OddFfnIdeal.main_arg5)
          ∧ r.2.mem ((c.tc : Thread Cert.OddFfnIdeal.nD Cert.OddFfnIdeal.τ).loc Cert.OddFfnIdeal.main_arg6) = m ((c.tc : Thread Cert.OddFfnIdeal.nD Cert.OddFfnIdeal.τ).loc Cert.OddFfnIdeal.main_arg6)
          ∧ r.2.mem ((c.tc : Thread Cert.OddFfnIdeal.nD Cert.OddFfnIdeal.τ).loc Cert.OddFfnIdeal.main_arg7) = m ((c.tc : Thread Cert.OddFfnIdeal.nD Cert.OddFfnIdeal.τ).loc Cert.OddFfnIdeal.main_arg7)
          ∧ r.2.mem ((c.tc : Thread Cert.OddFfnIdeal.nD Cert.OddFfnIdeal.τ).loc Cert.OddFfnIdeal.main_arg8) = m ((c.tc : Thread Cert.OddFfnIdeal.nD Cert.OddFfnIdeal.τ).loc Cert.OddFfnIdeal.main_arg8))
      ∧ θ_run (Cert.OddFfnRefIdeal.defs (F := Ideal)) (onTc (τ := Cert.OddFfnRefIdeal.τ) (Cert.OddFfnRefIdeal.main (F := Ideal))) ⟨m', fun _ => 0, g'⟩ (fun r => ∀ c : Dev Cert.OddFfnRefIdeal.nD,
          r.2.mem ((c.tc : Thread Cert.OddFfnRefIdeal.nD Cert.OddFfnRefIdeal.τ).loc Cert.OddFfnRefIdeal.main_v53) = v0 c
          ∧ r.2.mem ((c.tc : Thread Cert.OddFfnRefIdeal.nD Cert.OddFfnRefIdeal.τ).loc Cert.OddFfnRefIdeal.main_arg0) = m' ((c.tc : Thread Cert.OddFfnRefIdeal.nD Cert.OddFfnRefIdeal.τ).loc Cert.OddFfnRefIdeal.main_arg0)
          ∧ r.2.mem ((c.tc : Thread Cert.OddFfnRefIdeal.nD Cert.OddFfnRefIdeal.τ).loc Cert.OddFfnRefIdeal.main_arg1) = m' ((c.tc : Thread Cert.OddFfnRefIdeal.nD Cert.OddFfnRefIdeal.τ).loc Cert.OddFfnRefIdeal.main_arg1)
          ∧ r.2.mem ((c.tc : Thread Cert.OddFfnRefIdeal.nD Cert.OddFfnRefIdeal.τ).loc Cert.OddFfnRefIdeal.main_arg2) = m' ((c.tc : Thread Cert.OddFfnRefIdeal.nD Cert.OddFfnRefIdeal.τ).loc Cert.OddFfnRefIdeal.main_arg2)
          ∧ r.2.mem ((c.tc : Thread Cert.OddFfnRefIdeal.nD Cert.OddFfnRefIdeal.τ).loc Cert.OddFfnRefIdeal.main_arg3) = m' ((c.tc : Thread Cert.OddFfnRefIdeal.nD Cert.OddFfnRefIdeal.τ).loc Cert.OddFfnRefIdeal.main_arg3)
          ∧ r.2.mem ((c.tc : Thread Cert.OddFfnRefIdeal.nD Cert.OddFfnRefIdeal.τ).loc Cert.OddFfnRefIdeal.main_arg4) = m' ((c.tc : Thread Cert.OddFfnRefIdeal.nD Cert.OddFfnRefIdeal.τ).loc Cert.OddFfnRefIdeal.main_arg4)
          ∧ r.2.mem ((c.tc : Thread Cert.OddFfnRefIdeal.nD Cert.OddFfnRefIdeal.τ).loc Cert.OddFfnRefIdeal.main_arg5) = m' ((c.tc : Thread Cert.OddFfnRefIdeal.nD Cert.OddFfnRefIdeal.τ).loc Cert.OddFfnRefIdeal.main_arg5)
          ∧ r.2.mem ((c.tc : Thread Cert.OddFfnRefIdeal.nD Cert.OddFfnRefIdeal.τ).loc Cert.OddFfnRefIdeal.main_arg6) = m' ((c.tc : Thread Cert.OddFfnRefIdeal.nD Cert.OddFfnRefIdeal.τ).loc Cert.OddFfnRefIdeal.main_arg6)
          ∧ r.2.mem ((c.tc : Thread Cert.OddFfnRefIdeal.nD Cert.OddFfnRefIdeal.τ).loc Cert.OddFfnRefIdeal.main_arg7) = m' ((c.tc : Thread Cert.OddFfnRefIdeal.nD Cert.OddFfnRefIdeal.τ).loc Cert.OddFfnRefIdeal.main_arg7)
          ∧ r.2.mem ((c.tc : Thread Cert.OddFfnRefIdeal.nD Cert.OddFfnRefIdeal.τ).loc Cert.OddFfnRefIdeal.main_arg8) = m' ((c.tc : Thread Cert.OddFfnRefIdeal.nD Cert.OddFfnRefIdeal.τ).loc Cert.OddFfnRefIdeal.main_arg8))

def preserves_EvenFfn_EvenFfnIdeal : Prop :=
  True

def algebraic_EvenFfnIdeal_EvenFfnRefIdeal [hEvenFfnIdeal : Cert.EvenFfnIdeal.Facts] [hEvenFfnRefIdeal : Cert.EvenFfnRefIdeal.Facts] : Prop :=
  ∀ (m : (ℓ : Loc Cert.EvenFfnIdeal.nD Cert.EvenFfnIdeal.τ Cert.EvenFfnIdeal.sig) → Buf (Elt Ideal) ℓ) (g : Dev Cert.EvenFfnIdeal.nD → PrngReg)
    (m' : (ℓ : Loc Cert.EvenFfnRefIdeal.nD Cert.EvenFfnRefIdeal.τ Cert.EvenFfnRefIdeal.sig) → Buf (Elt Ideal) ℓ) (g' : Dev Cert.EvenFfnRefIdeal.nD → PrngReg), Pre_EvenFfnIdeal m →
    (∀ c : Dev Cert.EvenFfnIdeal.nD,
      m' ((c.tc : Thread Cert.EvenFfnRefIdeal.nD Cert.EvenFfnRefIdeal.τ).loc Cert.EvenFfnRefIdeal.main_arg0) = m ((c.tc : Thread Cert.EvenFfnIdeal.nD Cert.EvenFfnIdeal.τ).loc Cert.EvenFfnIdeal.main_arg0)
      ∧ m' ((c.tc : Thread Cert.EvenFfnRefIdeal.nD Cert.EvenFfnRefIdeal.τ).loc Cert.EvenFfnRefIdeal.main_arg1) = m ((c.tc : Thread Cert.EvenFfnIdeal.nD Cert.EvenFfnIdeal.τ).loc Cert.EvenFfnIdeal.main_arg1)
      ∧ m' ((c.tc : Thread Cert.EvenFfnRefIdeal.nD Cert.EvenFfnRefIdeal.τ).loc Cert.EvenFfnRefIdeal.main_arg2) = m ((c.tc : Thread Cert.EvenFfnIdeal.nD Cert.EvenFfnIdeal.τ).loc Cert.EvenFfnIdeal.main_arg2)
      ∧ m' ((c.tc : Thread Cert.EvenFfnRefIdeal.nD Cert.EvenFfnRefIdeal.τ).loc Cert.EvenFfnRefIdeal.main_arg3) = m ((c.tc : Thread Cert.EvenFfnIdeal.nD Cert.EvenFfnIdeal.τ).loc Cert.EvenFfnIdeal.main_arg3)
      ∧ m' ((c.tc : Thread Cert.EvenFfnRefIdeal.nD Cert.EvenFfnRefIdeal.τ).loc Cert.EvenFfnRefIdeal.main_arg4) = m ((c.tc : Thread Cert.EvenFfnIdeal.nD Cert.EvenFfnIdeal.τ).loc Cert.EvenFfnIdeal.main_arg4)
      ∧ m' ((c.tc : Thread Cert.EvenFfnRefIdeal.nD Cert.EvenFfnRefIdeal.τ).loc Cert.EvenFfnRefIdeal.main_arg5) = m ((c.tc : Thread Cert.EvenFfnIdeal.nD Cert.EvenFfnIdeal.τ).loc Cert.EvenFfnIdeal.main_arg5)
      ∧ m' ((c.tc : Thread Cert.EvenFfnRefIdeal.nD Cert.EvenFfnRefIdeal.τ).loc Cert.EvenFfnRefIdeal.main_arg6) = m ((c.tc : Thread Cert.EvenFfnIdeal.nD Cert.EvenFfnIdeal.τ).loc Cert.EvenFfnIdeal.main_arg6)
      ∧ m' ((c.tc : Thread Cert.EvenFfnRefIdeal.nD Cert.EvenFfnRefIdeal.τ).loc Cert.EvenFfnRefIdeal.main_arg7) = m ((c.tc : Thread Cert.EvenFfnIdeal.nD Cert.EvenFfnIdeal.τ).loc Cert.EvenFfnIdeal.main_arg7)) →
    ∃ (v0 : (c : Dev Cert.EvenFfnIdeal.nD) → Buf (Elt Ideal) ((c.tc : Thread Cert.EvenFfnIdeal.nD Cert.EvenFfnIdeal.τ).loc Cert.EvenFfnIdeal.main_v10)),
      θ_run (Cert.EvenFfnIdeal.defs (F := Ideal)) (onTc (τ := Cert.EvenFfnIdeal.τ) (Cert.EvenFfnIdeal.main (F := Ideal))) ⟨m, fun _ => 0, g⟩ (fun r => ∀ c : Dev Cert.EvenFfnIdeal.nD,
          r.2.mem ((c.tc : Thread Cert.EvenFfnIdeal.nD Cert.EvenFfnIdeal.τ).loc Cert.EvenFfnIdeal.main_v10) = v0 c
          ∧ r.2.mem ((c.tc : Thread Cert.EvenFfnIdeal.nD Cert.EvenFfnIdeal.τ).loc Cert.EvenFfnIdeal.main_arg0) = m ((c.tc : Thread Cert.EvenFfnIdeal.nD Cert.EvenFfnIdeal.τ).loc Cert.EvenFfnIdeal.main_arg0)
          ∧ r.2.mem ((c.tc : Thread Cert.EvenFfnIdeal.nD Cert.EvenFfnIdeal.τ).loc Cert.EvenFfnIdeal.main_arg1) = m ((c.tc : Thread Cert.EvenFfnIdeal.nD Cert.EvenFfnIdeal.τ).loc Cert.EvenFfnIdeal.main_arg1)
          ∧ r.2.mem ((c.tc : Thread Cert.EvenFfnIdeal.nD Cert.EvenFfnIdeal.τ).loc Cert.EvenFfnIdeal.main_arg2) = m ((c.tc : Thread Cert.EvenFfnIdeal.nD Cert.EvenFfnIdeal.τ).loc Cert.EvenFfnIdeal.main_arg2)
          ∧ r.2.mem ((c.tc : Thread Cert.EvenFfnIdeal.nD Cert.EvenFfnIdeal.τ).loc Cert.EvenFfnIdeal.main_arg3) = m ((c.tc : Thread Cert.EvenFfnIdeal.nD Cert.EvenFfnIdeal.τ).loc Cert.EvenFfnIdeal.main_arg3)
          ∧ r.2.mem ((c.tc : Thread Cert.EvenFfnIdeal.nD Cert.EvenFfnIdeal.τ).loc Cert.EvenFfnIdeal.main_arg4) = m ((c.tc : Thread Cert.EvenFfnIdeal.nD Cert.EvenFfnIdeal.τ).loc Cert.EvenFfnIdeal.main_arg4)
          ∧ r.2.mem ((c.tc : Thread Cert.EvenFfnIdeal.nD Cert.EvenFfnIdeal.τ).loc Cert.EvenFfnIdeal.main_arg5) = m ((c.tc : Thread Cert.EvenFfnIdeal.nD Cert.EvenFfnIdeal.τ).loc Cert.EvenFfnIdeal.main_arg5)
          ∧ r.2.mem ((c.tc : Thread Cert.EvenFfnIdeal.nD Cert.EvenFfnIdeal.τ).loc Cert.EvenFfnIdeal.main_arg6) = m ((c.tc : Thread Cert.EvenFfnIdeal.nD Cert.EvenFfnIdeal.τ).loc Cert.EvenFfnIdeal.main_arg6)
          ∧ r.2.mem ((c.tc : Thread Cert.EvenFfnIdeal.nD Cert.EvenFfnIdeal.τ).loc Cert.EvenFfnIdeal.main_arg7) = m ((c.tc : Thread Cert.EvenFfnIdeal.nD Cert.EvenFfnIdeal.τ).loc Cert.EvenFfnIdeal.main_arg7))
      ∧ θ_run (Cert.EvenFfnRefIdeal.defs (F := Ideal)) (onTc (τ := Cert.EvenFfnRefIdeal.τ) (Cert.EvenFfnRefIdeal.main (F := Ideal))) ⟨m', fun _ => 0, g'⟩ (fun r => ∀ c : Dev Cert.EvenFfnRefIdeal.nD,
          r.2.mem ((c.tc : Thread Cert.EvenFfnRefIdeal.nD Cert.EvenFfnRefIdeal.τ).loc Cert.EvenFfnRefIdeal.main_v51) = v0 c
          ∧ r.2.mem ((c.tc : Thread Cert.EvenFfnRefIdeal.nD Cert.EvenFfnRefIdeal.τ).loc Cert.EvenFfnRefIdeal.main_arg0) = m' ((c.tc : Thread Cert.EvenFfnRefIdeal.nD Cert.EvenFfnRefIdeal.τ).loc Cert.EvenFfnRefIdeal.main_arg0)
          ∧ r.2.mem ((c.tc : Thread Cert.EvenFfnRefIdeal.nD Cert.EvenFfnRefIdeal.τ).loc Cert.EvenFfnRefIdeal.main_arg1) = m' ((c.tc : Thread Cert.EvenFfnRefIdeal.nD Cert.EvenFfnRefIdeal.τ).loc Cert.EvenFfnRefIdeal.main_arg1)
          ∧ r.2.mem ((c.tc : Thread Cert.EvenFfnRefIdeal.nD Cert.EvenFfnRefIdeal.τ).loc Cert.EvenFfnRefIdeal.main_arg2) = m' ((c.tc : Thread Cert.EvenFfnRefIdeal.nD Cert.EvenFfnRefIdeal.τ).loc Cert.EvenFfnRefIdeal.main_arg2)
          ∧ r.2.mem ((c.tc : Thread Cert.EvenFfnRefIdeal.nD Cert.EvenFfnRefIdeal.τ).loc Cert.EvenFfnRefIdeal.main_arg3) = m' ((c.tc : Thread Cert.EvenFfnRefIdeal.nD Cert.EvenFfnRefIdeal.τ).loc Cert.EvenFfnRefIdeal.main_arg3)
          ∧ r.2.mem ((c.tc : Thread Cert.EvenFfnRefIdeal.nD Cert.EvenFfnRefIdeal.τ).loc Cert.EvenFfnRefIdeal.main_arg4) = m' ((c.tc : Thread Cert.EvenFfnRefIdeal.nD Cert.EvenFfnRefIdeal.τ).loc Cert.EvenFfnRefIdeal.main_arg4)
          ∧ r.2.mem ((c.tc : Thread Cert.EvenFfnRefIdeal.nD Cert.EvenFfnRefIdeal.τ).loc Cert.EvenFfnRefIdeal.main_arg5) = m' ((c.tc : Thread Cert.EvenFfnRefIdeal.nD Cert.EvenFfnRefIdeal.τ).loc Cert.EvenFfnRefIdeal.main_arg5)
          ∧ r.2.mem ((c.tc : Thread Cert.EvenFfnRefIdeal.nD Cert.EvenFfnRefIdeal.τ).loc Cert.EvenFfnRefIdeal.main_arg6) = m' ((c.tc : Thread Cert.EvenFfnRefIdeal.nD Cert.EvenFfnRefIdeal.τ).loc Cert.EvenFfnRefIdeal.main_arg6)
          ∧ r.2.mem ((c.tc : Thread Cert.EvenFfnRefIdeal.nD Cert.EvenFfnRefIdeal.τ).loc Cert.EvenFfnRefIdeal.main_arg7) = m' ((c.tc : Thread Cert.EvenFfnRefIdeal.nD Cert.EvenFfnRefIdeal.τ).loc Cert.EvenFfnRefIdeal.main_arg7))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v41) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_LateFfn_LateFfnIdeal : Prop :=
  True

def algebraic_LateFfnIdeal_LateFfnRefIdeal [hLateFfnIdeal : Cert.LateFfnIdeal.Facts] [hLateFfnRefIdeal : Cert.LateFfnRefIdeal.Facts] : Prop :=
  ∀ (m : (ℓ : Loc Cert.LateFfnIdeal.nD Cert.LateFfnIdeal.τ Cert.LateFfnIdeal.sig) → Buf (Elt Ideal) ℓ) (g : Dev Cert.LateFfnIdeal.nD → PrngReg)
    (m' : (ℓ : Loc Cert.LateFfnRefIdeal.nD Cert.LateFfnRefIdeal.τ Cert.LateFfnRefIdeal.sig) → Buf (Elt Ideal) ℓ) (g' : Dev Cert.LateFfnRefIdeal.nD → PrngReg), Pre_LateFfnIdeal m →
    (∀ c : Dev Cert.LateFfnIdeal.nD,
      m' ((c.tc : Thread Cert.LateFfnRefIdeal.nD Cert.LateFfnRefIdeal.τ).loc Cert.LateFfnRefIdeal.main_arg0) = m ((c.tc : Thread Cert.LateFfnIdeal.nD Cert.LateFfnIdeal.τ).loc Cert.LateFfnIdeal.main_arg0)
      ∧ m' ((c.tc : Thread Cert.LateFfnRefIdeal.nD Cert.LateFfnRefIdeal.τ).loc Cert.LateFfnRefIdeal.main_arg1) = m ((c.tc : Thread Cert.LateFfnIdeal.nD Cert.LateFfnIdeal.τ).loc Cert.LateFfnIdeal.main_arg1)
      ∧ m' ((c.tc : Thread Cert.LateFfnRefIdeal.nD Cert.LateFfnRefIdeal.τ).loc Cert.LateFfnRefIdeal.main_arg2) = m ((c.tc : Thread Cert.LateFfnIdeal.nD Cert.LateFfnIdeal.τ).loc Cert.LateFfnIdeal.main_arg2)
      ∧ m' ((c.tc : Thread Cert.LateFfnRefIdeal.nD Cert.LateFfnRefIdeal.τ).loc Cert.LateFfnRefIdeal.main_arg3) = m ((c.tc : Thread Cert.LateFfnIdeal.nD Cert.LateFfnIdeal.τ).loc Cert.LateFfnIdeal.main_arg3)
      ∧ m' ((c.tc : Thread Cert.LateFfnRefIdeal.nD Cert.LateFfnRefIdeal.τ).loc Cert.LateFfnRefIdeal.main_arg4) = m ((c.tc : Thread Cert.LateFfnIdeal.nD Cert.LateFfnIdeal.τ).loc Cert.LateFfnIdeal.main_arg4)) →
    ∃ (v0 : (c : Dev Cert.LateFfnIdeal.nD) → Buf (Elt Ideal) ((c.tc : Thread Cert.LateFfnIdeal.nD Cert.LateFfnIdeal.τ).loc Cert.LateFfnIdeal.main_v5)),
      θ_run (Cert.LateFfnIdeal.defs (F := Ideal)) (onTc (τ := Cert.LateFfnIdeal.τ) (Cert.LateFfnIdeal.main (F := Ideal))) ⟨m, fun _ => 0, g⟩ (fun r => ∀ c : Dev Cert.LateFfnIdeal.nD,
          r.2.mem ((c.tc : Thread Cert.LateFfnIdeal.nD Cert.LateFfnIdeal.τ).loc Cert.LateFfnIdeal.main_v5) = v0 c
          ∧ r.2.mem ((c.tc : Thread Cert.LateFfnIdeal.nD Cert.LateFfnIdeal.τ).loc Cert.LateFfnIdeal.main_arg0) = m ((c.tc : Thread Cert.LateFfnIdeal.nD Cert.LateFfnIdeal.τ).loc Cert.LateFfnIdeal.main_arg0)
          ∧ r.2.mem ((c.tc : Thread Cert.LateFfnIdeal.nD Cert.LateFfnIdeal.τ).loc Cert.LateFfnIdeal.main_arg1) = m ((c.tc : Thread Cert.LateFfnIdeal.nD Cert.LateFfnIdeal.τ).loc Cert.LateFfnIdeal.main_arg1)
          ∧ r.2.mem ((c.tc : Thread Cert.LateFfnIdeal.nD Cert.LateFfnIdeal.τ).loc Cert.LateFfnIdeal.main_arg2) = m ((c.tc : Thread Cert.LateFfnIdeal.nD Cert.LateFfnIdeal.τ).loc Cert.LateFfnIdeal.main_arg2)
          ∧ r.2.mem ((c.tc : Thread Cert.LateFfnIdeal.nD Cert.LateFfnIdeal.τ).loc Cert.LateFfnIdeal.main_arg3) = m ((c.tc : Thread Cert.LateFfnIdeal.nD Cert.LateFfnIdeal.τ).loc Cert.LateFfnIdeal.main_arg3)
          ∧ r.2.mem ((c.tc : Thread Cert.LateFfnIdeal.nD Cert.LateFfnIdeal.τ).loc Cert.LateFfnIdeal.main_arg4) = m ((c.tc : Thread Cert.LateFfnIdeal.nD Cert.LateFfnIdeal.τ).loc Cert.LateFfnIdeal.main_arg4))
      ∧ θ_run (Cert.LateFfnRefIdeal.defs (F := Ideal)) (onTc (τ := Cert.LateFfnRefIdeal.τ) (Cert.LateFfnRefIdeal.main (F := Ideal))) ⟨m', fun _ => 0, g'⟩ (fun r => ∀ c : Dev Cert.LateFfnRefIdeal.nD,
          r.2.mem ((c.tc : Thread Cert.LateFfnRefIdeal.nD Cert.LateFfnRefIdeal.τ).loc Cert.LateFfnRefIdeal.main_v41) = v0 c
          ∧ r.2.mem ((c.tc : Thread Cert.LateFfnRefIdeal.nD Cert.LateFfnRefIdeal.τ).loc Cert.LateFfnRefIdeal.main_arg0) = m' ((c.tc : Thread Cert.LateFfnRefIdeal.nD Cert.LateFfnRefIdeal.τ).loc Cert.LateFfnRefIdeal.main_arg0)
          ∧ r.2.mem ((c.tc : Thread Cert.LateFfnRefIdeal.nD Cert.LateFfnRefIdeal.τ).loc Cert.LateFfnRefIdeal.main_arg1) = m' ((c.tc : Thread Cert.LateFfnRefIdeal.nD Cert.LateFfnRefIdeal.τ).loc Cert.LateFfnRefIdeal.main_arg1)
          ∧ r.2.mem ((c.tc : Thread Cert.LateFfnRefIdeal.nD Cert.LateFfnRefIdeal.τ).loc Cert.LateFfnRefIdeal.main_arg2) = m' ((c.tc : Thread Cert.LateFfnRefIdeal.nD Cert.LateFfnRefIdeal.τ).loc Cert.LateFfnRefIdeal.main_arg2)
          ∧ r.2.mem ((c.tc : Thread Cert.LateFfnRefIdeal.nD Cert.LateFfnRefIdeal.τ).loc Cert.LateFfnRefIdeal.main_arg3) = m' ((c.tc : Thread Cert.LateFfnRefIdeal.nD Cert.LateFfnRefIdeal.τ).loc Cert.LateFfnRefIdeal.main_arg3)
          ∧ r.2.mem ((c.tc : Thread Cert.LateFfnRefIdeal.nD Cert.LateFfnRefIdeal.τ).loc Cert.LateFfnRefIdeal.main_arg4) = m' ((c.tc : Thread Cert.LateFfnRefIdeal.nD Cert.LateFfnRefIdeal.τ).loc Cert.LateFfnRefIdeal.main_arg4))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)
      ∧ m' ((c.tc : Thread Cert.EvenInRefIdeal.nD Cert.EvenInRefIdeal.τ).loc Cert.EvenInRefIdeal.main_arg3) = m ((c.tc : Thread Cert.EvenInIdeal.nD Cert.EvenInIdeal.τ).loc Cert.EvenInIdeal.main_arg3)
      ∧ m' ((c.tc : Thread Cert.EvenInRefIdeal.nD Cert.EvenInRefIdeal.τ).loc Cert.EvenInRefIdeal.main_arg4) = m ((c.tc : Thread Cert.EvenInIdeal.nD Cert.EvenInIdeal.τ).loc Cert.EvenInIdeal.main_arg4)
      ∧ m' ((c.tc : Thread Cert.EvenInRefIdeal.nD Cert.EvenInRefIdeal.τ).loc Cert.EvenInRefIdeal.main_arg5) = m ((c.tc : Thread Cert.EvenInIdeal.nD Cert.EvenInIdeal.τ).loc Cert.EvenInIdeal.main_arg5)
      ∧ m' ((c.tc : Thread Cert.EvenInRefIdeal.nD Cert.EvenInRefIdeal.τ).loc Cert.EvenInRefIdeal.main_arg6) = m ((c.tc : Thread Cert.EvenInIdeal.nD Cert.EvenInIdeal.τ).loc Cert.EvenInIdeal.main_arg6)
      ∧ m' ((c.tc : Thread Cert.EvenInRefIdeal.nD Cert.EvenInRefIdeal.τ).loc Cert.EvenInRefIdeal.main_arg7) = m ((c.tc : Thread Cert.EvenInIdeal.nD Cert.EvenInIdeal.τ).loc Cert.EvenInIdeal.main_arg7)
      ∧ m' ((c.tc : Thread Cert.EvenInRefIdeal.nD Cert.EvenInRefIdeal.τ).loc Cert.EvenInRefIdeal.main_arg8) = m ((c.tc : Thread Cert.EvenInIdeal.nD Cert.EvenInIdeal.τ).loc Cert.EvenInIdeal.main_arg8)) →
    ∃ (v0 : (c : Dev Cert.EvenInIdeal.nD) → Buf (Elt Ideal) ((c.tc : Thread Cert.EvenInIdeal.nD Cert.EvenInIdeal.τ).loc Cert.EvenInIdeal.main_v43_0)) (v1 : (c : Dev Cert.EvenInIdeal.nD) → Buf (Elt Ideal) ((c.tc : Thread Cert.EvenInIdeal.nD Cert.EvenInIdeal.τ).loc Cert.EvenInIdeal.main_v43_1)) (v2 : (c : Dev Cert.EvenInIdeal.nD) → Buf (Elt Ideal) ((c.tc : Thread Cert.EvenInIdeal.nD Cert.EvenInIdeal.τ).loc Cert.EvenInIdeal.main_v43_4)) (v3 : (c : Dev Cert.EvenInIdeal.nD) → Buf (Elt Ideal) ((c.tc : Thread Cert.EvenInIdeal.nD Cert.EvenInIdeal.τ).loc Cert.EvenInIdeal.main_v43_5)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v43_0) = v0 c
          ∧ r.2.mem ((c.tc : Thread Cert.EvenInIdeal.nD Cert.EvenInIdeal.τ).loc Cert.EvenInIdeal.main_v43_1) = v1 c
          ∧ r.2.mem ((c.tc : Thread Cert.EvenInIdeal.nD Cert.EvenInIdeal.τ).loc Cert.EvenInIdeal.main_v43_4) = v2 c
          ∧ r.2.mem ((c.tc : Thread Cert.EvenInIdeal.nD Cert.EvenInIdeal.τ).loc Cert.EvenInIdeal.main_v43_5) = v3 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
          ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
          ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4)
          ∧ r.2.mem ((c.tc : Thread Cert.EvenInIdeal.nD Cert.EvenInIdeal.τ).loc Cert.EvenInIdeal.main_arg5) = m ((c.tc : Thread Cert.EvenInIdeal.nD Cert.EvenInIdeal.τ).loc Cert.EvenInIdeal.main_arg5)
          ∧ r.2.mem ((c.tc : Thread Cert.EvenInIdeal.nD Cert.EvenInIdeal.τ).loc Cert.EvenInIdeal.main_arg6) = m ((c.tc : Thread Cert.EvenInIdeal.nD Cert.EvenInIdeal.τ).loc Cert.EvenInIdeal.main_arg6)
          ∧ r.2.mem ((c.tc : Thread Cert.EvenInIdeal.nD Cert.EvenInIdeal.τ).loc Cert.EvenInIdeal.main_arg7) = m ((c.tc : Thread Cert.EvenInIdeal.nD Cert.EvenInIdeal.τ).loc Cert.EvenInIdeal.main_arg7)
          ∧ r.2.mem ((c.tc : Thread Cert.EvenInIdeal.nD Cert.EvenInIdeal.τ).loc Cert.EvenInIdeal.main_arg8) = m ((c.tc : Thread Cert.EvenInIdeal.nD Cert.EvenInIdeal.τ).loc Cert.EvenInIdeal.main_arg8))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v115) = v0 c
          ∧ r.2.mem ((c.tc : Thread Cert.EvenInRefIdeal.nD Cert.EvenInRefIdeal.τ).loc Cert.EvenInRefIdeal.main_v116) = v1 c
          ∧ r.2.mem ((c.tc : Thread Cert.EvenInRefIdeal.nD Cert.EvenInRefIdeal.τ).loc Cert.EvenInRefIdeal.main_v117) = v2 c
          ∧ r.2.mem ((c.tc : Thread Cert.EvenInRefIdeal.nD Cert.EvenInRefIdeal.τ).loc Cert.EvenInRefIdeal.main_v118) = v3 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2)
          ∧ r.2.mem ((c.tc : Thread Cert.EvenInRefIdeal.nD Cert.EvenInRefIdeal.τ).loc Cert.EvenInRefIdeal.main_arg3) = m' ((c.tc : Thread Cert.EvenInRefIdeal.nD Cert.EvenInRefIdeal.τ).loc Cert.EvenInRefIdeal.main_arg3)
          ∧ r.2.mem ((c.tc : Thread Cert.EvenInRefIdeal.nD Cert.EvenInRefIdeal.τ).loc Cert.EvenInRefIdeal.main_arg4) = m' ((c.tc : Thread Cert.EvenInRefIdeal.nD Cert.EvenInRefIdeal.τ).loc Cert.EvenInRefIdeal.main_arg4)
          ∧ r.2.mem ((c.tc : Thread Cert.EvenInRefIdeal.nD Cert.EvenInRefIdeal.τ).loc Cert.EvenInRefIdeal.main_arg5) = m' ((c.tc : Thread Cert.EvenInRefIdeal.nD Cert.EvenInRefIdeal.τ).loc Cert.EvenInRefIdeal.main_arg5)
          ∧ r.2.mem ((c.tc : Thread Cert.EvenInRefIdeal.nD Cert.EvenInRefIdeal.τ).loc Cert.EvenInRefIdeal.main_arg6) = m' ((c.tc : Thread Cert.EvenInRefIdeal.nD Cert.EvenInRefIdeal.τ).loc Cert.EvenInRefIdeal.main_arg6)
          ∧ r.2.mem ((c.tc : Thread Cert.EvenInRefIdeal.nD Cert.EvenInRefIdeal.τ).loc Cert.EvenInRefIdeal.main_arg7) = m' ((c.tc : Thread Cert.EvenInRefIdeal.nD Cert.EvenInRefIdeal.τ).loc Cert.EvenInRefIdeal.main_arg7)
          ∧ r.2.mem ((c.tc : Thread Cert.EvenInRefIdeal.nD Cert.EvenInRefIdeal.τ).loc Cert.EvenInRefIdeal.main_arg8) = m' ((c.tc : Thread Cert.EvenInRefIdeal.nD Cert.EvenInRefIdeal.τ).loc Cert.EvenInRefIdeal.main_arg8))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)
      ∧ m' ((c.tc : Thread Cert.OddInRefIdeal.nD Cert.OddInRefIdeal.τ).loc Cert.OddInRefIdeal.main_arg2) = m ((c.tc : Thread Cert.OddInIdeal.nD Cert.OddInIdeal.τ).loc Cert.OddInIdeal.main_arg2)
      ∧ m' ((c.tc : Thread Cert.OddInRefIdeal.nD Cert.OddInRefIdeal.τ).loc Cert.OddInRefIdeal.main_arg3) = m ((c.tc : Thread Cert.OddInIdeal.nD Cert.OddInIdeal.τ).loc Cert.OddInIdeal.main_arg3)
      ∧ m' ((c.tc : Thread Cert.OddInRefIdeal.nD Cert.OddInRefIdeal.τ).loc Cert.OddInRefIdeal.main_arg4) = m ((c.tc : Thread Cert.OddInIdeal.nD Cert.OddInIdeal.τ).loc Cert.OddInIdeal.main_arg4)) →
    ∃ (v0 : (c : Dev Cert.OddInIdeal.nD) → Buf (Elt Ideal) ((c.tc : Thread Cert.OddInIdeal.nD Cert.OddInIdeal.τ).loc Cert.OddInIdeal.main_v32_0)) (v1 : (c : Dev Cert.OddInIdeal.nD) → Buf (Elt Ideal) ((c.tc : Thread Cert.OddInIdeal.nD Cert.OddInIdeal.τ).loc Cert.OddInIdeal.main_v32_1)) (v2 : (c : Dev Cert.OddInIdeal.nD) → Buf (Elt Ideal) ((c.tc : Thread Cert.OddInIdeal.nD Cert.OddInIdeal.τ).loc Cert.OddInIdeal.main_v32_2)) (v3 : (c : Dev Cert.OddInIdeal.nD) → Buf (Elt Ideal) ((c.tc : Thread Cert.OddInIdeal.nD Cert.OddInIdeal.τ).loc Cert.OddInIdeal.main_v32_3)) (v4 : (c : Dev Cert.OddInIdeal.nD) → Buf (Elt Ideal) ((c.tc : Thread Cert.OddInIdeal.nD Cert.OddInIdeal.τ).loc Cert.OddInIdeal.main_v32_4)) (v5 : (c : Dev Cert.OddInIdeal.nD) → Buf (Elt Ideal) ((c.tc : Thread Cert.OddInIdeal.nD Cert.OddInIdeal.τ).loc Cert.OddInIdeal.main_v32_5)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v32_0) = v0 c
          ∧ r.2.mem ((c.tc : Thread Cert.OddInIdeal.nD Cert.OddInIdeal.τ).loc Cert.OddInIdeal.main_v32_1) = v1 c
          ∧ r.2.mem ((c.tc : Thread Cert.OddInIdeal.nD Cert.OddInIdeal.τ).loc Cert.OddInIdeal.main_v32_2) = v2 c
          ∧ r.2.mem ((c.tc : Thread Cert.OddInIdeal.nD Cert.OddInIdeal.τ).loc Cert.OddInIdeal.main_v32_3) = v3 c
          ∧ r.2.mem ((c.tc : Thread Cert.OddInIdeal.nD Cert.OddInIdeal.τ).loc Cert.OddInIdeal.main_v32_4) = v4 c
          ∧ r.2.mem ((c.tc : Thread Cert.OddInIdeal.nD Cert.OddInIdeal.τ).loc Cert.OddInIdeal.main_v32_5) = v5 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
          ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3)
          ∧ r.2.mem ((c.tc : Thread Cert.OddInIdeal.nD Cert.OddInIdeal.τ).loc Cert.OddInIdeal.main_arg4) = m ((c.tc : Thread Cert.OddInIdeal.nD Cert.OddInIdeal.τ).loc Cert.OddInIdeal.main_arg4))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v45) = v0 c
          ∧ r.2.mem ((c.tc : Thread Cert.OddInRefIdeal.nD Cert.OddInRefIdeal.τ).loc Cert.OddInRefIdeal.main_v46) = v1 c
          ∧ r.2.mem ((c.tc : Thread Cert.OddInRefIdeal.nD Cert.OddInRefIdeal.τ).loc Cert.OddInRefIdeal.main_v47) = v2 c
          ∧ r.2.mem ((c.tc : Thread Cert.OddInRefIdeal.nD Cert.OddInRefIdeal.τ).loc Cert.OddInRefIdeal.main_v50) = v3 c
          ∧ r.2.mem ((c.tc : Thread Cert.OddInRefIdeal.nD Cert.OddInRefIdeal.τ).loc Cert.OddInRefIdeal.main_v59) = v4 c
          ∧ r.2.mem ((c.tc : Thread Cert.OddInRefIdeal.nD Cert.OddInRefIdeal.τ).loc Cert.OddInRefIdeal.main_v64) = v5 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1)
          ∧ r.2.mem ((c.tc : Thread Cert.OddInRefIdeal.nD Cert.OddInRefIdeal.τ).loc Cert.OddInRefIdeal.main_arg2) = m' ((c.tc : Thread Cert.OddInRefIdeal.nD Cert.OddInRefIdeal.τ).loc Cert.OddInRefIdeal.main_arg2)
          ∧ r.2.mem ((c.tc : Thread Cert.OddInRefIdeal.nD Cert.OddInRefIdeal.τ).loc Cert.OddInRefIdeal.main_arg3) = m' ((c.tc : Thread Cert.OddInRefIdeal.nD Cert.OddInRefIdeal.τ).loc Cert.OddInRefIdeal.main_arg3)
          ∧ r.2.mem ((c.tc : Thread Cert.OddInRefIdeal.nD Cert.OddInRefIdeal.τ).loc Cert.OddInRefIdeal.main_arg4) = m' ((c.tc : Thread Cert.OddInRefIdeal.nD Cert.OddInRefIdeal.τ).loc Cert.OddInRefIdeal.main_arg4))

def Claim : Prop :=
  ∃ (hKernel : Cert.Kernel.Facts) (hKernelIdeal : Cert.KernelIdeal.Facts) (hReferenceIdeal : Cert.ReferenceIdeal.Facts) (hOddFfn : Cert.OddFfn.Facts) (hOddFfnIdeal : Cert.OddFfnIdeal.Facts) (hOddFfnRefIdeal : Cert.OddFfnRefIdeal.Facts) (hEvenFfn : Cert.EvenFfn.Facts) (hEvenFfnIdeal : Cert.EvenFfnIdeal.Facts) (hEvenFfnRefIdeal : Cert.EvenFfnRefIdeal.Facts) (hFfn : Cert.Ffn.Facts) (hFfnIdeal : Cert.FfnIdeal.Facts) (hFfnRefIdeal : Cert.FfnRefIdeal.Facts) (hLateFfn : Cert.LateFfn.Facts) (hLateFfnIdeal : Cert.LateFfnIdeal.Facts) (hLateFfnRefIdeal : Cert.LateFfnRefIdeal.Facts) (hEvenIn : Cert.EvenIn.Facts) (hEvenInIdeal : Cert.EvenInIdeal.Facts) (hEvenInRefIdeal : Cert.EvenInRefIdeal.Facts) (hOddIn : Cert.OddIn.Facts) (hOddInIdeal : Cert.OddInIdeal.Facts) (hOddInRefIdeal : Cert.OddInRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_OddFfn (hOddFfn := hOddFfn)
    ∧ quiescent_OddFfnIdeal (hOddFfnIdeal := hOddFfnIdeal)
    ∧ quiescent_OddFfnRefIdeal (hOddFfnRefIdeal := hOddFfnRefIdeal)
    ∧ quiescent_EvenFfn (hEvenFfn := hEvenFfn)
    ∧ quiescent_EvenFfnIdeal (hEvenFfnIdeal := hEvenFfnIdeal)
    ∧ quiescent_EvenFfnRefIdeal (hEvenFfnRefIdeal := hEvenFfnRefIdeal)
    ∧ quiescent_Ffn (hFfn := hFfn)
    ∧ quiescent_FfnIdeal (hFfnIdeal := hFfnIdeal)
    ∧ quiescent_FfnRefIdeal (hFfnRefIdeal := hFfnRefIdeal)
    ∧ quiescent_LateFfn (hLateFfn := hLateFfn)
    ∧ quiescent_LateFfnIdeal (hLateFfnIdeal := hLateFfnIdeal)
    ∧ quiescent_LateFfnRefIdeal (hLateFfnRefIdeal := hLateFfnRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_OddIn (hOddIn := hOddIn)
    ∧ quiescent_OddInIdeal (hOddInIdeal := hOddInIdeal)
    ∧ quiescent_OddInRefIdeal (hOddInRefIdeal := hOddInRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_OddFfn_OddFfnIdeal
    ∧ algebraic_OddFfnIdeal_OddFfnRefIdeal (hOddFfnIdeal := hOddFfnIdeal) (hOddFfnRefIdeal := hOddFfnRefIdeal)
    ∧ preserves_EvenFfn_EvenFfnIdeal
    ∧ algebraic_EvenFfnIdeal_EvenFfnRefIdeal (hEvenFfnIdeal := hEvenFfnIdeal) (hEvenFfnRefIdeal := hEvenFfnRefIdeal)
    ∧ preserves_Ffn_FfnIdeal
    ∧ algebraic_FfnIdeal_FfnRefIdeal (hFfnIdeal := hFfnIdeal) (hFfnRefIdeal := hFfnRefIdeal)
    ∧ preserves_LateFfn_LateFfnIdeal
    ∧ algebraic_LateFfnIdeal_LateFfnRefIdeal (hLateFfnIdeal := hLateFfnIdeal) (hLateFfnRefIdeal := hLateFfnRefIdeal)
    ∧ preserves_EvenIn_EvenInIdeal
    ∧ algebraic_EvenInIdeal_EvenInRefIdeal (hEvenInIdeal := hEvenInIdeal) (hEvenInRefIdeal := hEvenInRefIdeal)
    ∧ preserves_OddIn_OddInIdeal
    ∧ algebraic_OddInIdeal_OddInRefIdeal (hOddInIdeal := hOddInIdeal) (hOddInRefIdeal := hOddInRefIdeal)
-- ==== Pre_finite.lean ====
abbrev S8x4096x8x64 : Shape := ⟨4, ![8, 4096, 8, 64]⟩
abbrev S8x4096x2x64 : Shape := ⟨4, ![8, 4096, 2, 64]⟩
abbrev S8x512x2x64 : Shape := ⟨4, ![8, 512, 2, 64]⟩
abbrev S_ : Shape := ⟨0, ![]⟩

class Facts : Prop where
  bcast_S_S8x4096x8x64 : S_.BroadcastsInDim S8x4096x8x64 (![] : Fin 0 → Fin S8x4096x8x64.rank)
  reducesTo_S8x4096x8x64_S_d0_1_2_3 : S8x4096x8x64.ReducesTo [0, 1, 2, 3] S_
  h_S_ : 0 < S_.numel
  bcast_S_S8x4096x2x64 : S_.BroadcastsInDim S8x4096x2x64 (![] : Fin 0 → Fin S8x4096x2x64.rank)
  reducesTo_S8x4096x2x64_S_d0_1_2_3 : S8x4096x2x64.ReducesTo [0, 1, 2, 3] S_
  bcast_S_S8x512x2x64 : S_.BroadcastsInDim S8x512x2x64 (![] : Fin 0 → Fin S8x512x2x64.rank)
  reducesTo_S8x512x2x64_S_d0_1_2_3 : S8x512x2x64.ReducesTo [0, 1, 2, 3] S_

variable [Facts]

def fn {F : FTy → Type} [FloatOps F] (main_arg0 : FVec F S8x4096x8x64 .f32) (main_arg1 : FVec F S8x4096x2x64 .f32) (main_arg2 : FVec F S8x4096x2x64 .f32) (main_arg3 : FVec F S8x512x2x64 .f32) (main_arg4 : FVec F S8x512x2x64 .f32) : IVec S_ 1 :=
  let main_v0 : FVec F S8x4096x8x64 .f32 := Host.absf main_arg0
  let main_cst : FVec F S_ .f32 := constant S_ .f32 0x7F800000#32
  let main_v1 : FVec F S8x4096x8x64 .f32 := broadcastInDim S8x4096x8x64 ![] bcast_S_S8x4096x8x64 main_cst
  let main_v2 : IVec S8x4096x8x64 1 := cmpf .olt main_v0 main_v1
  let main_c : IVec S_ 1 := constantI S_ 1 1#1
  let main_v3 : IVec S_ 1 := (fun x v => Host.reduce IntOp.andi x v reducesTo_S8x4096x8x64_S_d0_1_2_3 h_S_) main_v2 main_c
  let main_v4 : FVec F S8x4096x2x64 .f32 := Host.absf main_arg1
  let main_cst_0 : FVec F S_ .f32 := constant S_ .f32 0x7F800000#32
  let main_v5 : FVec F S8x4096x2x64 .f32 := broadcastInDim S8x4096x2x64 ![] bcast_S_S8x4096x2x64 main_cst_0
  let main_v6 : IVec S8x4096x2x64 1 := cmpf .olt main_v4 main_v5
  let main_c_1 : IVec S_ 1 := constantI S_ 1 1#1
  let main_v7 : IVec S_ 1 := (fun x v => Host.reduce IntOp.andi x v reducesTo_S8x4096x2x64_S_d0_1_2_3 h_S_) main_v6 main_c_1
  let main_v8 : IVec S_ 1 := andi main_v3 main_v7
  let main_v9 : FVec F S8x512x2x64 .f32 := Host.absf main_arg3
  let main_cst_2 : FVec F S_ .f32 := constant S_ .f32 0x7F800000#32
  let main_v10 : FVec F S8x512x2x64 .f32 := broadcastInDim S8x512x2x64 ![] bcast_S_S8x512x2x64 main_cst_2
  let main_v11 : IVec S8x512x2x64 1 := cmpf .olt main_v9 main_v10
  let main_c_3 : IVec S_ 1 := constantI S_ 1 1#1
  let main_v12 : IVec S_ 1 := (fun x v => Host.reduce IntOp.andi x v reducesTo_S8x512x2x64_S_d0_1_2_3 h_S_) main_v11 main_c_3
  let main_v13 : IVec S_ 1 := andi main_v8 main_v12
  main_v13
-- ==== Kernel.lean ====
abbrev S8x4096x8x64 : Shape := ⟨4, ![8, 4096, 8, 64]⟩
abbrev S8x4096x2x64 : Shape := ⟨4, ![8, 4096, 2, 64]⟩
abbrev S8x512x2x64 : Shape := ⟨4, ![8, 512, 2, 64]⟩
abbrev S8x4096x512 : Shape := ⟨3, ![8, 4096, 512]⟩
abbrev S8x512x128 : Shape := ⟨3, ![8, 512, 128]⟩
abbrev S8x512x64 : Shape := ⟨3, ![8, 512, 64]⟩
abbrev S8x512x256 : Shape := ⟨3, ![8, 512, 256]⟩
abbrev S8x4096x128 : Shape := ⟨3, ![8, 4096, 128]⟩
abbrev S8x4096x64 : Shape := ⟨3, ![8, 4096, 64]⟩
abbrev S8x4096x256 : Shape := ⟨3, ![8, 4096, 256]⟩
abbrev S_ : Shape := ⟨0, ![]⟩
abbrev S1x512x512 : Shape := ⟨3, ![1, 512, 512]⟩
abbrev S1x512x256 : Shape := ⟨3, ![1, 512, 256]⟩
abbrev S1x4096x256 : Shape := ⟨3, ![1, 4096, 256]⟩
abbrev S4608x256 : Shape := ⟨2, ![4608, 256]⟩
abbrev S512x256 : Shape := ⟨2, ![512, 256]⟩
abbrev S4096x256 : Shape := ⟨2, ![4096, 256]⟩
abbrev S1x128 : Shape := ⟨2, ![1, 128]⟩
abbrev S1x128x128 : Shape := ⟨3, ![1, 128, 128]⟩
abbrev S128x128 : Shape := ⟨2, ![128, 128]⟩
abbrev S4608x128 : Shape := ⟨2, ![4608, 128]⟩
abbrev S128x4608 : Shape := ⟨2, ![128, 4608]⟩
abbrev S128 : Shape := ⟨1, ![128]⟩
abbrev S128x1 : Shape := ⟨2, ![128, 1]⟩

abbrev nBuf : Space → Nat
  | .hbm => 35
  | .vmem => 14
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x2x64, .f32⟩
  | .hbm, ⟨2, _⟩ => ⟨S8x4096x2x64, .f32⟩
  | .hbm, ⟨3, _⟩ => ⟨S8x512x2x64, .f32⟩
  | .hbm, ⟨4, _⟩ => ⟨S8x512x2x64, .f32⟩
  | .hbm, ⟨5, _⟩ => ⟨S8x4096x512, .f32⟩
  | .hbm, ⟨6, _⟩ => ⟨S8x512x128, .f32⟩
  | .hbm, ⟨7, _⟩ => ⟨S8x512x64, .f32⟩
  | .hbm, ⟨8, _⟩ => ⟨S8x512x64, .f32⟩
  | .hbm, ⟨9, _⟩ => ⟨S8x512x256, .f32⟩
  | .hbm, ⟨10, _⟩ => ⟨S8x512x256, .bf16⟩
  | .hbm, ⟨11, _⟩ => ⟨S8x4096x128, .f32⟩
  | .hbm, ⟨12, _⟩ => ⟨S8x4096x64, .f32⟩
  | .hbm, ⟨13, _⟩ => ⟨S8x4096x64, .f32⟩
  | .hbm, ⟨14, _⟩ => ⟨S8x4096x256, .f32⟩
  | .hbm, ⟨15, _⟩ => ⟨S8x4096x256, .bf16⟩
  | .hbm, ⟨16, _⟩ => ⟨S8x512x128, .f32⟩
  | .hbm, ⟨17, _⟩ => ⟨S8x512x64, .f32⟩
  | .hbm, ⟨18, _⟩ => ⟨S_, .f32⟩
  | .hbm, ⟨19, _⟩ => ⟨S8x512x64, .f32⟩
  | .hbm, ⟨20, _⟩ => ⟨S8x512x64, .f32⟩
  | .hbm, ⟨21, _⟩ => ⟨S_, .f32⟩
  | .hbm, ⟨22, _⟩ => ⟨S8x512x64, .f32⟩
  | .hbm, ⟨23, _⟩ => ⟨S8x512x256, .f32⟩
  | .hbm, ⟨24, _⟩ => ⟨S8x512x256, .bf16⟩
  | .hbm, ⟨25, _⟩ => ⟨S8x4096x128, .f32⟩
  | .hbm, ⟨26, _⟩ => ⟨S8x4096x64, .f32⟩
  | .hbm, ⟨27, _⟩ => ⟨S_, .f32⟩
  | .hbm, ⟨28, _⟩ => ⟨S8x4096x64, .f32⟩
  | .hbm, ⟨29, _⟩ => ⟨S8x4096x64, .f32⟩
  | .hbm, ⟨30, _⟩ => ⟨S_, .f32⟩
  | .hbm, ⟨31, _⟩ => ⟨S8x4096x64, .f32⟩
  | .hbm, ⟨32, _⟩ => ⟨S8x4096x256, .f32⟩
  | .hbm, ⟨33, _⟩ => ⟨S8x4096x256, .bf16⟩
  | .hbm, ⟨34, _⟩ => ⟨S8x4096x512, .bf16⟩
  | .local _ .vmem, ⟨0, _⟩ => ⟨S1x512x512, .f32⟩
  | .local _ .vmem, ⟨1, _⟩ => ⟨S1x512x512, .f32⟩
  | .local _ .vmem, ⟨2, _⟩ => ⟨S1x512x256, .bf16⟩
  | .local _ .vmem, ⟨3, _⟩ => ⟨S1x512x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x4096x256, .bf16⟩
  | .local _ .vmem, ⟨9, _⟩ => ⟨S1x4096x256, .bf16⟩
  | .local _ .vmem, ⟨10, _⟩ => ⟨S1x512x512, .bf16⟩
  | .local _ .vmem, ⟨11, _⟩ => ⟨S1x512x512, .bf16⟩
  | .local _ .vmem, ⟨12, _⟩ => ⟨S4608x256, .bf16⟩
  | .local _ .vmem, ⟨13, _⟩ => ⟨S4608x256, .bf16⟩
  | _, _ => ⟨S8x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "q_scale" => some ((8⁻¹ * (Real.log 2)⁻¹ : ℝ) : EReal)
  | _ => none
-- ==== ReferenceIdeal.lean ====
abbrev S8x4096x8x64 : Shape := ⟨4, ![8, 4096, 8, 64]⟩
abbrev S8x4096x2x64 : Shape := ⟨4, ![8, 4096, 2, 64]⟩
abbrev S8x512x2x64 : Shape := ⟨4, ![8, 512, 2, 64]⟩
abbrev S8x4608x2x64 : Shape := ⟨4, ![8, 4608, 2, 64]⟩
abbrev S8x4096x2x4x64 : Shape := ⟨5, ![8, 4096, 2, 4, 64]⟩
abbrev S8x2x4608x4096x4 : Shape := ⟨5, ![8, 2, 4608, 4096, 4]⟩
abbrev S8x2x4x4096x4608 : Shape := ⟨5, ![8, 2, 4, 4096, 4608]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x2x64x4x4096 : Shape := ⟨5, ![8, 2, 64, 4, 4096]⟩
abbrev S8x4096x512 : Shape := ⟨3, ![8, 4096, 512]⟩

abbrev nBuf : Space → Nat
  | .hbm => 31
  | .vmem => 0
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x2x64, .f32⟩
  | .hbm, ⟨2, _⟩ => ⟨S8x4096x2x64, .f32⟩
  | .hbm, ⟨3, _⟩ => ⟨S8x512x2x64, .f32⟩
  | .hbm, ⟨4, _⟩ => ⟨S8x512x2x64, .f32⟩
  | .hbm, ⟨5, _⟩ => ⟨S8x4608x2x64, .f32⟩
  | .hbm, ⟨6, _⟩ => ⟨S8x4608x2x64, .f32⟩
  | .hbm, ⟨7, _⟩ => ⟨S8x4096x2x4x64, .f32⟩
  | .hbm, ⟨8, _⟩ => ⟨S8x2x4608x4096x4, .f32⟩
  | .hbm, ⟨9, _⟩ => ⟨S8x2x4x4096x4608, .f32⟩
  | .hbm, ⟨10, _⟩ => ⟨S_, .f32⟩
  | .hbm, ⟨11, _⟩ => ⟨S8x2x4x4096x4608, .f32⟩
  | .hbm, ⟨12, _⟩ => ⟨S8x2x4x4096x4608, .f32⟩
  | .hbm, ⟨13, _⟩ => ⟨S_, .f32⟩
  | .hbm, ⟨14, _⟩ => ⟨S8x2x4x4096, .f32⟩
  | .hbm, ⟨15, _⟩ => ⟨S_, .f32⟩
  | .hbm, ⟨16, _⟩ => ⟨S8x2x4x4096, .f32⟩
  | .hbm, ⟨17, _⟩ => ⟨S8x2x4x4096, .f32⟩
  | .hbm, ⟨18, _⟩ => ⟨S8x2x4x4096x1, .f32⟩
  | .hbm, ⟨19, _⟩ => ⟨S8x2x4x4096x4608, .f32⟩
  | .hbm, ⟨20, _⟩ => ⟨S8x2x4x4096x4608, .f32⟩
  | .hbm, ⟨21, _⟩ => ⟨S8x2x4x4096x4608, .f32⟩
  | .hbm, ⟨22, _⟩ => ⟨S_, .f32⟩
  | .hbm, ⟨23, _⟩ => ⟨S8x2x4x4096, .f32⟩
  | .hbm, ⟨24, _⟩ => ⟨S8x2x4x4096x1, .f32⟩
  | .hbm, ⟨25, _⟩ => ⟨S8x2x4x4096x4608, .f32⟩
  | .hbm, ⟨26, _⟩ => ⟨S8x2x4x4096x4608, .f32⟩
  | .hbm, ⟨27, _⟩ => ⟨S8x2x64x4x4096, .f32⟩
  | .hbm, ⟨28, _⟩ => ⟨S8x4096x2x4x64, .f32⟩
  | .hbm, ⟨29, _⟩ => ⟨S8x4096x512, .f32⟩
  | .hbm, ⟨30, _⟩ => ⟨S8x4096x512, .bf16⟩
  | _, _ => ⟨S8x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== OddFfn.lean ====
abbrev S8x4096x1024 : Shape := ⟨3, ![8, 4096, 1024]⟩
abbrev S8x1x9x1024 : Shape := ⟨4, ![8, 1, 9, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S8x4096x512 : Shape := ⟨3, ![8, 4096, 512]⟩
abbrev S1x1024x1024 : Shape := ⟨3, ![1, 1024, 1024]⟩
abbrev S1024x1024 : Shape := ⟨2, ![1024, 1024]⟩
abbrev S512x1024 : Shape := ⟨2, ![512, 1024]⟩
abbrev S8x9x1024 : Shape := ⟨3, ![8, 9, 1024]⟩
abbrev S1x3x1024 : Shape := ⟨3, ![1, 3, 1024]⟩
abbrev S3x1024 : Shape := ⟨2, ![3, 1024]⟩
abbrev S1x1024x512 : Shape := ⟨3, ![1, 1024, 512]⟩
abbrev S1x9x1024 : Shape := ⟨3, ![1, 9, 1024]⟩
abbrev S1x1x1024x5632 : Shape := ⟨4, ![1, 1, 1024, 5632]⟩
abbrev S1x1x2816x1024 : Shape := ⟨4, ![1, 1, 2816, 1024]⟩
abbrev S1024x2816 : Shape := ⟨2, ![1024, 2816]⟩
abbrev S1024x512 : Shape := ⟨2, ![1024, 512]⟩
abbrev S1x1x1024 : Shape := ⟨3, ![1, 1, 1024]⟩
abbrev S1x1024 : Shape := ⟨2, ![1, 1024]⟩
abbrev S1024 : Shape := ⟨1, ![1024]⟩
abbrev S1024x1 : Shape := ⟨2, ![1024, 1]⟩
abbrev S1x1x1024x256 : Shape := ⟨4, ![1, 1, 1024, 256]⟩
abbrev S1024x256 : Shape := ⟨2, ![1024, 256]⟩
abbrev S2816x1024 : Shape := ⟨2, ![2816, 1024]⟩

abbrev nBuf : Space → Nat
  | .hbm => 20
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S8x1x9x1024, .f32⟩
  | .hbm, ⟨2, _⟩ => ⟨S2x3x1024, .f32⟩
  | .hbm, ⟨3, _⟩ => ⟨S2x2x1024x5632, .f32⟩
  | .hbm, ⟨4, _⟩ => ⟨S2x2x2816x1024, .f32⟩
  | .hbm, ⟨5, _⟩ => ⟨S8x4096x512, .bf16⟩
  | .hbm, ⟨6, _⟩ => ⟨S8x4096x512, .bf16⟩
  | .hbm, ⟨7, _⟩ => ⟨S8x4096x512, .bf16⟩
  | .hbm, ⟨8, _⟩ => ⟨S1x1024x1024, .f32⟩
  | .hbm, ⟨9, _⟩ => ⟨S1024x1024, .f32⟩
  | .hbm, ⟨10, _⟩ => ⟨S512x1024, .f32⟩
  | .hbm, ⟨11, _⟩ => ⟨S512x1024, .bf16⟩
  | .hbm, ⟨12, _⟩ => ⟨S512x1024, .f32⟩
  | .hbm, ⟨13, _⟩ => ⟨S512x1024, .bf16⟩
  | .hbm, ⟨14, _⟩ => ⟨S8x9x1024, .f32⟩
  | .hbm, ⟨15, _⟩ => ⟨S1x3x1024, .f32⟩
  | .hbm, ⟨16, _⟩ => ⟨S3x1024, .f32⟩
  | .hbm, ⟨17, _⟩ => ⟨S2x2x1024x5632, .bf16⟩
  | .hbm, ⟨18, _⟩ => ⟨S2x2x2816x1024, .bf16⟩
  | .hbm, ⟨19, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x9x1024, .f32⟩
  | .local _ .vmem, ⟨9, _⟩ => ⟨S1x9x1024, .f32⟩
  | .local _ .vmem, ⟨10, _⟩ => ⟨S3x1024, .f32⟩
  | .local _ .vmem, ⟨11, _⟩ => ⟨S512x1024, .bf16⟩
  | .local _ .vmem, ⟨12, _⟩ => ⟨S512x1024, .bf16⟩
  | .local _ .vmem, ⟨13, _⟩ => ⟨S1x1x1024x5632, .bf16⟩
  | .local _ .vmem, ⟨14, _⟩ => ⟨S1x1x2816x1024, .bf16⟩
  | .local _ .vmem, ⟨15, _⟩ => ⟨S1x1024x1024, .f32⟩
  | .local _ .vmem, ⟨16, _⟩ => ⟨S1x1024x1024, .f32⟩
  | .local _ .vmem, ⟨17, _⟩ => ⟨S1024x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x9x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== OddFfnRefIdeal.lean ====
abbrev S8x4096x1024 : Shape := ⟨3, ![8, 4096, 1024]⟩
abbrev S8x1x9x1024 : Shape := ⟨4, ![8, 1, 9, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S8x4096x512 : Shape := ⟨3, ![8, 4096, 512]⟩
abbrev S1x1024x1024 : Shape := ⟨3, ![1, 1024, 1024]⟩
abbrev S1024x1024 : Shape := ⟨2, ![1024, 1024]⟩
abbrev S8x1x1x1024 : Shape := ⟨4, ![8, 1, 1, 1024]⟩
abbrev S8x1x1024 : Shape := ⟨3, ![8, 1, 1024]⟩
abbrev S1x1x1024 : Shape := ⟨3, ![1, 1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S8x4096x5632 : Shape := ⟨3, ![8, 4096, 5632]⟩
abbrev S8x4096x2816 : Shape := ⟨3, ![8, 4096, 2816]⟩

abbrev nBuf : Space → Nat
  | .hbm => 76
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1x9x1024, .f32⟩
  | .hbm, ⟨2, _⟩ => ⟨S2x3x1024, .f32⟩
  | .hbm, ⟨3, _⟩ => ⟨S2x2x1024x5632, .f32⟩
  | .hbm, ⟨4, _⟩ => ⟨S2x2x2816x1024, .f32⟩
  | .hbm, ⟨5, _⟩ => ⟨S8x4096x512, .bf16⟩
  | .hbm, ⟨6, _⟩ => ⟨S8x4096x512, .bf16⟩
  | .hbm, ⟨7, _⟩ => ⟨S8x4096x512, .bf16⟩
  | .hbm, ⟨8, _⟩ => ⟨S1x1024x1024, .f32⟩
  | .hbm, ⟨9, _⟩ => ⟨S8x4096x512, .f32⟩
  | .hbm, ⟨10, _⟩ => ⟨S8x4096x512, .f32⟩
  | .hbm, ⟨11, _⟩ => ⟨S8x4096x512, .f32⟩
  | .hbm, ⟨12, _⟩ => ⟨S8x4096x512, .f32⟩
  | .hbm, ⟨13, _⟩ => ⟨S8x4096x1024, .f32⟩
  | .hbm, ⟨14, _⟩ => ⟨S1024x1024, .f32⟩
  | .hbm, ⟨15, _⟩ => ⟨S8x4096x1024, .f32⟩
  | .hbm, ⟨16, _⟩ => ⟨S8x1x1x1024, .f32⟩
  | .hbm, ⟨17, _⟩ => ⟨S8x1x1024, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S1024, .f32⟩
  | .hbm, ⟨23, _⟩ => ⟨S8x4096x1024, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S_, .f32⟩
  | .hbm, ⟨31, _⟩ => ⟨S8x4096x1, .f32⟩
  | .hbm, ⟨32, _⟩ => ⟨S8x4096x1, .f32⟩
  | .hbm, ⟨33, _⟩ => ⟨S8x4096x1, .f32⟩
  | .hbm, ⟨34, _⟩ => ⟨S8x4096x1024, .f32⟩
  | .hbm, ⟨35, _⟩ => ⟨S8x4096x1024, .f32⟩
  | .hbm, ⟨36, _⟩ => ⟨S1x1x1024, .f32⟩
  | .hbm, ⟨37, _⟩ => ⟨S8x4096x1024, .f32⟩
  | .hbm, ⟨38, _⟩ => ⟨S8x4096x1024, .f32⟩
  | .hbm, ⟨39, _⟩ => ⟨S8x1x1x1024, .f32⟩
  | .hbm, ⟨40, _⟩ => ⟨S8x1x1024, .f32⟩
  | .hbm, ⟨41, _⟩ => ⟨S_, .f32⟩
  | .hbm, ⟨42, _⟩ => ⟨S8x1x1024, .f32⟩
  | .hbm, ⟨43, _⟩ => ⟨S8x1x1024, .f32⟩
  | .hbm, ⟨44, _⟩ => ⟨S8x4096x1024, .f32⟩
  | .hbm, ⟨45, _⟩ => ⟨S8x4096x1024, .f32⟩
  | .hbm, ⟨46, _⟩ => ⟨S8x1x1x1024, .f32⟩
  | .hbm, ⟨47, _⟩ => ⟨S8x1x1024, .f32⟩
  | .hbm, ⟨48, _⟩ => ⟨S8x4096x1024, .f32⟩
  | .hbm, ⟨49, _⟩ => ⟨S8x4096x1024, .f32⟩
  | .hbm, ⟨50, _⟩ => ⟨S8x1x1x1024, .f32⟩
  | .hbm, ⟨51, _⟩ => ⟨S8x1x1024, .f32⟩
  | .hbm, ⟨52, _⟩ => ⟨S_, .f32⟩
  | .hbm, ⟨53, _⟩ => ⟨S8x1x1024, .f32⟩
  | .hbm, ⟨54, _⟩ => ⟨S8x1x1024, .f32⟩
  | .hbm, ⟨55, _⟩ => ⟨S1x1x1024x5632, .f32⟩
  | .hbm, ⟨56, _⟩ => ⟨S1024x5632, .f32⟩
  | .hbm, ⟨57, _⟩ => ⟨S1x1x2816x1024, .f32⟩
  | .hbm, ⟨58, _⟩ => ⟨S2816x1024, .f32⟩
  | .hbm, ⟨59, _⟩ => ⟨S8x4096x5632, .f32⟩
  | .hbm, ⟨60, _⟩ => ⟨S8x4096x2816, .f32⟩
  | .hbm, ⟨61, _⟩ => ⟨S8x4096x2816, .f32⟩
  | .hbm, ⟨62, _⟩ => ⟨S8x4096x2816, .f32⟩
  | .hbm, ⟨63, _⟩ => ⟨S8x4096x2816, .f32⟩
  | .hbm, ⟨64, _⟩ => ⟨S_, .f32⟩
  | .hbm, ⟨65, _⟩ => ⟨S8x4096x2816, .f32⟩
  | .hbm, ⟨66, _⟩ => ⟨S8x4096x2816, .f32⟩
  | .hbm, ⟨67, _⟩ => ⟨S_, .f32⟩
  | .hbm, ⟨68, _⟩ => ⟨S8x4096x2816, .f32⟩
  | .hbm, ⟨69, _⟩ => ⟨S8x4096x2816, .f32⟩
  | .hbm, ⟨70, _⟩ => ⟨S8x4096x2816, .f32⟩
  | .hbm, ⟨71, _⟩ => ⟨S8x4096x2816, .f32⟩
  | .hbm, ⟨72, _⟩ => ⟨S8x4096x1024, .f32⟩
  | .hbm, ⟨73, _⟩ => ⟨S8x4096x1024, .f32⟩
  | .hbm, ⟨74, _⟩ => ⟨S8x4096x1024, .f32⟩
  | .hbm, ⟨75, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_3 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]
-- ==== EvenFfn.lean ====
abbrev S8x4096x1024 : Shape := ⟨3, ![8, 4096, 1024]⟩
abbrev S8x1x9x1024 : Shape := ⟨4, ![8, 1, 9, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S8x4096x512 : Shape := ⟨3, ![8, 4096, 512]⟩
abbrev S1x1024x1024 : Shape := ⟨3, ![1, 1024, 1024]⟩
abbrev S1024x1024 : Shape := ⟨2, ![1024, 1024]⟩
abbrev S512x1024 : Shape := ⟨2, ![512, 1024]⟩
abbrev S8x9x1024 : Shape := ⟨3, ![8, 9, 1024]⟩
abbrev S1x3x1024 : Shape := ⟨3, ![1, 3, 1024]⟩
abbrev S3x1024 : Shape := ⟨2, ![3, 1024]⟩
abbrev S1x1024x512 : Shape := ⟨3, ![1, 1024, 512]⟩
abbrev S1x9x1024 : Shape := ⟨3, ![1, 9, 1024]⟩
abbrev S1x1x1024x5632 : Shape := ⟨4, ![1, 1, 1024, 5632]⟩
abbrev S1x1x2816x1024 : Shape := ⟨4, ![1, 1, 2816, 1024]⟩
abbrev S1024x2816 : Shape := ⟨2, ![1024, 2816]⟩
abbrev S1024x512 : Shape := ⟨2, ![1024, 512]⟩
abbrev S1x1x1024 : Shape := ⟨3, ![1, 1, 1024]⟩
abbrev S1x1024 : Shape := ⟨2, ![1, 1024]⟩
abbrev S1024 : Shape := ⟨1, ![1024]⟩
abbrev S1024x1 : Shape := ⟨2, ![1024, 1]⟩
abbrev S1x1x1024x256 : Shape := ⟨4, ![1, 1, 1024, 256]⟩
abbrev S1024x256 : Shape := ⟨2, ![1024, 256]⟩
abbrev S2816x1024 : Shape := ⟨2, ![2816, 1024]⟩

abbrev nBuf : Space → Nat
  | .hbm => 19
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x1x9x1024, .f32⟩
  | .hbm, ⟨2, _⟩ => ⟨S2x3x1024, .f32⟩
  | .hbm, ⟨3, _⟩ => ⟨S2x2x1024x5632, .f32⟩
  | .hbm, ⟨4, _⟩ => ⟨S2x2x2816x1024, .f32⟩
  | .hbm, ⟨5, _⟩ => ⟨S8x4096x512, .bf16⟩
  | .hbm, ⟨6, _⟩ => ⟨S8x4096x512, .bf16⟩
  | .hbm, ⟨7, _⟩ => ⟨S1x1024x1024, .f32⟩
  | .hbm, ⟨8, _⟩ => ⟨S1024x1024, .f32⟩
  | .hbm, ⟨9, _⟩ => ⟨S512x1024, .f32⟩
  | .hbm, ⟨10, _⟩ => ⟨S512x1024, .bf16⟩
  | .hbm, ⟨11, _⟩ => ⟨S512x1024, .f32⟩
  | .hbm, ⟨12, _⟩ => ⟨S512x1024, .bf16⟩
  | .hbm, ⟨13, _⟩ => ⟨S8x9x1024, .f32⟩
  | .hbm, ⟨14, _⟩ => ⟨S1x3x1024, .f32⟩
  | .hbm, ⟨15, _⟩ => ⟨S3x1024, .f32⟩
  | .hbm, ⟨16, _⟩ => ⟨S2x2x1024x5632, .bf16⟩
  | .hbm, ⟨17, _⟩ => ⟨S2x2x2816x1024, .bf16⟩
  | .hbm, ⟨18, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x9x1024, .f32⟩
  | .local _ .vmem, ⟨7, _⟩ => ⟨S1x9x1024, .f32⟩
  | .local _ .vmem, ⟨8, _⟩ => ⟨S3x1024, .f32⟩
  | .local _ .vmem, ⟨9, _⟩ => ⟨S512x1024, .bf16⟩
  | .local _ .vmem, ⟨10, _⟩ => ⟨S512x1024, .bf16⟩
  | .local _ .vmem, ⟨11, _⟩ => ⟨S1x1x1024x5632, .bf16⟩
  | .local _ .vmem, ⟨12, _⟩ => ⟨S1x1x2816x1024, .bf16⟩
  | .local _ .vmem, ⟨13, _⟩ => ⟨S1x1024x1024, .f32⟩
  | .local _ .vmem, ⟨14, _⟩ => ⟨S1x1024x1024, .f32⟩
  | .local _ .vmem, ⟨15, _⟩ => ⟨S1024x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== EvenFfnRefIdeal.lean ====
abbrev S8x4096x1024 : Shape := ⟨3, ![8, 4096, 1024]⟩
abbrev S8x1x9x1024 : Shape := ⟨4, ![8, 1, 9, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S8x4096x512 : Shape := ⟨3, ![8, 4096, 512]⟩
abbrev S1x1024x1024 : Shape := ⟨3, ![1, 1024, 1024]⟩
abbrev S1024x1024 : Shape := ⟨2, ![1024, 1024]⟩
abbrev S8x1x1x1024 : Shape := ⟨4, ![8, 1, 1, 1024]⟩
abbrev S8x1x1024 : Shape := ⟨3, ![8, 1, 1024]⟩
abbrev S1x1x1024 : Shape := ⟨3, ![1, 1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S8x4096x5632 : Shape := ⟨3, ![8, 4096, 5632]⟩
abbrev S8x4096x2816 : Shape := ⟨3, ![8, 4096, 2816]⟩

abbrev nBuf : Space → Nat
  | .hbm => 73
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1x9x1024, .f32⟩
  | .hbm, ⟨2, _⟩ => ⟨S2x3x1024, .f32⟩
  | .hbm, ⟨3, _⟩ => ⟨S2x2x1024x5632, .f32⟩
  | .hbm, ⟨4, _⟩ => ⟨S2x2x2816x1024, .f32⟩
  | .hbm, ⟨5, _⟩ => ⟨S8x4096x512, .bf16⟩
  | .hbm, ⟨6, _⟩ => ⟨S8x4096x512, .bf16⟩
  | .hbm, ⟨7, _⟩ => ⟨S1x1024x1024, .f32⟩
  | .hbm, ⟨8, _⟩ => ⟨S8x4096x512, .f32⟩
  | .hbm, ⟨9, _⟩ => ⟨S8x4096x512, .f32⟩
  | .hbm, ⟨10, _⟩ => ⟨S8x4096x1024, .f32⟩
  | .hbm, ⟨11, _⟩ => ⟨S1024x1024, .f32⟩
  | .hbm, ⟨12, _⟩ => ⟨S8x4096x1024, .f32⟩
  | .hbm, ⟨13, _⟩ => ⟨S8x1x1x1024, .f32⟩
  | .hbm, ⟨14, _⟩ => ⟨S8x1x1024, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S1024, .f32⟩
  | .hbm, ⟨20, _⟩ => ⟨S8x4096x1024, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S8x4096x1, .f32⟩
  | .hbm, ⟨31, _⟩ => ⟨S8x4096x1024, .f32⟩
  | .hbm, ⟨32, _⟩ => ⟨S8x4096x1024, .f32⟩
  | .hbm, ⟨33, _⟩ => ⟨S1x1x1024, .f32⟩
  | .hbm, ⟨34, _⟩ => ⟨S8x4096x1024, .f32⟩
  | .hbm, ⟨35, _⟩ => ⟨S8x4096x1024, .f32⟩
  | .hbm, ⟨36, _⟩ => ⟨S8x1x1x1024, .f32⟩
  | .hbm, ⟨37, _⟩ => ⟨S8x1x1024, .f32⟩
  | .hbm, ⟨38, _⟩ => ⟨S_, .f32⟩
  | .hbm, ⟨39, _⟩ => ⟨S8x1x1024, .f32⟩
  | .hbm, ⟨40, _⟩ => ⟨S8x1x1024, .f32⟩
  | .hbm, ⟨41, _⟩ => ⟨S8x4096x1024, .f32⟩
  | .hbm, ⟨42, _⟩ => ⟨S8x4096x1024, .f32⟩
  | .hbm, ⟨43, _⟩ => ⟨S8x1x1x1024, .f32⟩
  | .hbm, ⟨44, _⟩ => ⟨S8x1x1024, .f32⟩
  | .hbm, ⟨45, _⟩ => ⟨S8x4096x1024, .f32⟩
  | .hbm, ⟨46, _⟩ => ⟨S8x4096x1024, .f32⟩
  | .hbm, ⟨47, _⟩ => ⟨S8x1x1x1024, .f32⟩
  | .hbm, ⟨48, _⟩ => ⟨S8x1x1024, .f32⟩
  | .hbm, ⟨49, _⟩ => ⟨S_, .f32⟩
  | .hbm, ⟨50, _⟩ => ⟨S8x1x1024, .f32⟩
  | .hbm, ⟨51, _⟩ => ⟨S8x1x1024, .f32⟩
  | .hbm, ⟨52, _⟩ => ⟨S1x1x1024x5632, .f32⟩
  | .hbm, ⟨53, _⟩ => ⟨S1024x5632, .f32⟩
  | .hbm, ⟨54, _⟩ => ⟨S1x1x2816x1024, .f32⟩
  | .hbm, ⟨55, _⟩ => ⟨S2816x1024, .f32⟩
  | .hbm, ⟨56, _⟩ => ⟨S8x4096x5632, .f32⟩
  | .hbm, ⟨57, _⟩ => ⟨S8x4096x2816, .f32⟩
  | .hbm, ⟨58, _⟩ => ⟨S8x4096x2816, .f32⟩
  | .hbm, ⟨59, _⟩ => ⟨S8x4096x2816, .f32⟩
  | .hbm, ⟨60, _⟩ => ⟨S8x4096x2816, .f32⟩
  | .hbm, ⟨61, _⟩ => ⟨S_, .f32⟩
  | .hbm, ⟨62, _⟩ => ⟨S8x4096x2816, .f32⟩
  | .hbm, ⟨63, _⟩ => ⟨S8x4096x2816, .f32⟩
  | .hbm, ⟨64, _⟩ => ⟨S_, .f32⟩
  | .hbm, ⟨65, _⟩ => ⟨S8x4096x2816, .f32⟩
  | .hbm, ⟨66, _⟩ => ⟨S8x4096x2816, .f32⟩
  | .hbm, ⟨67, _⟩ => ⟨S8x4096x2816, .f32⟩
  | .hbm, ⟨68, _⟩ => ⟨S8x4096x2816, .f32⟩
  | .hbm, ⟨69, _⟩ => ⟨S8x4096x1024, .f32⟩
  | .hbm, ⟨70, _⟩ => ⟨S8x4096x1024, .f32⟩
  | .hbm, ⟨71, _⟩ => ⟨S8x4096x1024, .f32⟩
  | .hbm, ⟨72, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]
-- ==== Ffn.lean ====
abbrev S8x4096x1024 : Shape := ⟨3, ![8, 4096, 1024]⟩
abbrev S8x1x9x1024 : Shape := ⟨4, ![8, 1, 9, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S8x9x1024 : Shape := ⟨3, ![8, 9, 1024]⟩
abbrev S1x3x1024 : Shape := ⟨3, ![1, 3, 1024]⟩
abbrev S3x1024 : Shape := ⟨2, ![3, 1024]⟩
abbrev S1x1024x1024 : Shape := ⟨3, ![1, 1024, 1024]⟩
abbrev S1x9x1024 : Shape := ⟨3, ![1, 9, 1024]⟩
abbrev S1x1x1024x5632 : Shape := ⟨4, ![1, 1, 1024, 5632]⟩
abbrev S1x1x2816x1024 : Shape := ⟨4, ![1, 1, 2816, 1024]⟩
abbrev S1024x2816 : Shape := ⟨2, ![1024, 2816]⟩
abbrev S1024x1024 : Shape := ⟨2, ![1024, 1024]⟩
abbrev S1x1024 : Shape := ⟨2, ![1, 1024]⟩
abbrev S1x1x1024 : Shape := ⟨3, ![1, 1, 1024]⟩
abbrev S1024 : Shape := ⟨1, ![1024]⟩
abbrev S1024x1 : Shape := ⟨2, ![1024, 1]⟩
abbrev S1x1x1024x256 : Shape := ⟨4, ![1, 1, 1024, 256]⟩
abbrev S1024x256 : Shape := ⟨2, ![1024, 256]⟩
abbrev S2816x1024 : Shape := ⟨2, ![2816, 1024]⟩

abbrev nBuf : Space → Nat
  | .hbm => 11
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x1x9x1024, .f32⟩
  | .hbm, ⟨2, _⟩ => ⟨S2x3x1024, .f32⟩
  | .hbm, ⟨3, _⟩ => ⟨S2x2x1024x5632, .f32⟩
  | .hbm, ⟨4, _⟩ => ⟨S2x2x2816x1024, .f32⟩
  | .hbm, ⟨5, _⟩ => ⟨S8x9x1024, .f32⟩
  | .hbm, ⟨6, _⟩ => ⟨S1x3x1024, .f32⟩
  | .hbm, ⟨7, _⟩ => ⟨S3x1024, .f32⟩
  | .hbm, ⟨8, _⟩ => ⟨S2x2x1024x5632, .bf16⟩
  | .hbm, ⟨9, _⟩ => ⟨S2x2x2816x1024, .bf16⟩
  | .hbm, ⟨10, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S3x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S1x1024x1024, .f32⟩
  | .local _ .vmem, ⟨8, _⟩ => ⟨S1x1024x1024, .f32⟩
  | .local _ .vmem, ⟨9, _⟩ => ⟨S1024x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnRefIdeal.lean ====
abbrev S8x4096x1024 : Shape := ⟨3, ![8, 4096, 1024]⟩
abbrev S8x1x9x1024 : Shape := ⟨4, ![8, 1, 9, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1x1x1024 : Shape := ⟨3, ![1, 1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S8x1x1x1024 : Shape := ⟨4, ![8, 1, 1, 1024]⟩
abbrev S8x1x1024 : Shape := ⟨3, ![8, 1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S8x4096x5632 : Shape := ⟨3, ![8, 4096, 5632]⟩
abbrev S8x4096x2816 : Shape := ⟨3, ![8, 4096, 2816]⟩

abbrev nBuf : Space → Nat
  | .hbm => 60
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1x9x1024, .f32⟩
  | .hbm, ⟨2, _⟩ => ⟨S2x3x1024, .f32⟩
  | .hbm, ⟨3, _⟩ => ⟨S2x2x1024x5632, .f32⟩
  | .hbm, ⟨4, _⟩ => ⟨S2x2x2816x1024, .f32⟩
  | .hbm, ⟨5, _⟩ => ⟨S1x1x1024, .f32⟩
  | .hbm, ⟨6, _⟩ => ⟨S1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S8x1x1x1024, .f32⟩
  | .hbm, ⟨24, _⟩ => ⟨S8x1x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x4096x1024, .f32⟩
  | .hbm, ⟨29, _⟩ => ⟨S8x4096x1024, .f32⟩
  | .hbm, ⟨30, _⟩ => ⟨S8x1x1x1024, .f32⟩
  | .hbm, ⟨31, _⟩ => ⟨S8x1x1024, .f32⟩
  | .hbm, ⟨32, _⟩ => ⟨S8x4096x1024, .f32⟩
  | .hbm, ⟨33, _⟩ => ⟨S8x4096x1024, .f32⟩
  | .hbm, ⟨34, _⟩ => ⟨S8x1x1x1024, .f32⟩
  | .hbm, ⟨35, _⟩ => ⟨S8x1x1024, .f32⟩
  | .hbm, ⟨36, _⟩ => ⟨S_, .f32⟩
  | .hbm, ⟨37, _⟩ => ⟨S8x1x1024, .f32⟩
  | .hbm, ⟨38, _⟩ => ⟨S8x1x1024, .f32⟩
  | .hbm, ⟨39, _⟩ => ⟨S1x1x1024x5632, .f32⟩
  | .hbm, ⟨40, _⟩ => ⟨S1024x5632, .f32⟩
  | .hbm, ⟨41, _⟩ => ⟨S1x1x2816x1024, .f32⟩
  | .hbm, ⟨42, _⟩ => ⟨S2816x1024, .f32⟩
  | .hbm, ⟨43, _⟩ => ⟨S8x4096x5632, .f32⟩
  | .hbm, ⟨44, _⟩ => ⟨S8x4096x2816, .f32⟩
  | .hbm, ⟨45, _⟩ => ⟨S8x4096x2816, .f32⟩
  | .hbm, ⟨46, _⟩ => ⟨S8x4096x2816, .f32⟩
  | .hbm, ⟨47, _⟩ => ⟨S8x4096x2816, .f32⟩
  | .hbm, ⟨48, _⟩ => ⟨S_, .f32⟩
  | .hbm, ⟨49, _⟩ => ⟨S8x4096x2816, .f32⟩
  | .hbm, ⟨50, _⟩ => ⟨S8x4096x2816, .f32⟩
  | .hbm, ⟨51, _⟩ => ⟨S_, .f32⟩
  | .hbm, ⟨52, _⟩ => ⟨S8x4096x2816, .f32⟩
  | .hbm, ⟨53, _⟩ => ⟨S8x4096x2816, .f32⟩
  | .hbm, ⟨54, _⟩ => ⟨S8x4096x2816, .f32⟩
  | .hbm, ⟨55, _⟩ => ⟨S8x4096x2816, .f32⟩
  | .hbm, ⟨56, _⟩ => ⟨S8x4096x1024, .f32⟩
  | .hbm, ⟨57, _⟩ => ⟨S8x4096x1024, .f32⟩
  | .hbm, ⟨58, _⟩ => ⟨S8x4096x1024, .f32⟩
  | .hbm, ⟨59, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]
-- ==== LateFfn.lean ====
abbrev S8x4096x1024 : Shape := ⟨3, ![8, 4096, 1024]⟩
abbrev S8x1x9x1024 : Shape := ⟨4, ![8, 1, 9, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S8x9x1024 : Shape := ⟨3, ![8, 9, 1024]⟩
abbrev S1x3x1024 : Shape := ⟨3, ![1, 3, 1024]⟩
abbrev S3x1024 : Shape := ⟨2, ![3, 1024]⟩
abbrev S1x1024x1024 : Shape := ⟨3, ![1, 1024, 1024]⟩
abbrev S1x9x1024 : Shape := ⟨3, ![1, 9, 1024]⟩
abbrev S1x1x1024x5632 : Shape := ⟨4, ![1, 1, 1024, 5632]⟩
abbrev S1x1x2816x1024 : Shape := ⟨4, ![1, 1, 2816, 1024]⟩
abbrev S1024x2816 : Shape := ⟨2, ![1024, 2816]⟩
abbrev S1024x1024 : Shape := ⟨2, ![1024, 1024]⟩
abbrev S1x1024 : Shape := ⟨2, ![1, 1024]⟩
abbrev S1x1x1024 : Shape := ⟨3, ![1, 1, 1024]⟩
abbrev S1024 : Shape := ⟨1, ![1024]⟩
abbrev S1024x1 : Shape := ⟨2, ![1024, 1]⟩
abbrev S1x1x1024x256 : Shape := ⟨4, ![1, 1, 1024, 256]⟩
abbrev S1024x256 : Shape := ⟨2, ![1024, 256]⟩
abbrev S2816x1024 : Shape := ⟨2, ![2816, 1024]⟩

abbrev nBuf : Space → Nat
  | .hbm => 11
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x1x9x1024, .f32⟩
  | .hbm, ⟨2, _⟩ => ⟨S2x3x1024, .f32⟩
  | .hbm, ⟨3, _⟩ => ⟨S2x2x1024x5632, .f32⟩
  | .hbm, ⟨4, _⟩ => ⟨S2x2x2816x1024, .f32⟩
  | .hbm, ⟨5, _⟩ => ⟨S8x9x1024, .f32⟩
  | .hbm, ⟨6, _⟩ => ⟨S1x3x1024, .f32⟩
  | .hbm, ⟨7, _⟩ => ⟨S3x1024, .f32⟩
  | .hbm, ⟨8, _⟩ => ⟨S2x2x1024x5632, .bf16⟩
  | .hbm, ⟨9, _⟩ => ⟨S2x2x2816x1024, .bf16⟩
  | .hbm, ⟨10, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S3x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S1x1024x1024, .f32⟩
  | .local _ .vmem, ⟨8, _⟩ => ⟨S1x1024x1024, .f32⟩
  | .local _ .vmem, ⟨9, _⟩ => ⟨S1024x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== LateFfnRefIdeal.lean ====
abbrev S8x4096x1024 : Shape := ⟨3, ![8, 4096, 1024]⟩
abbrev S8x1x9x1024 : Shape := ⟨4, ![8, 1, 9, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1x1x1024 : Shape := ⟨3, ![1, 1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S8x1x1x1024 : Shape := ⟨4, ![8, 1, 1, 1024]⟩
abbrev S8x1x1024 : Shape := ⟨3, ![8, 1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S8x4096x5632 : Shape := ⟨3, ![8, 4096, 5632]⟩
abbrev S8x4096x2816 : Shape := ⟨3, ![8, 4096, 2816]⟩

abbrev nBuf : Space → Nat
  | .hbm => 60
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1x9x1024, .f32⟩
  | .hbm, ⟨2, _⟩ => ⟨S2x3x1024, .f32⟩
  | .hbm, ⟨3, _⟩ => ⟨S2x2x1024x5632, .f32⟩
  | .hbm, ⟨4, _⟩ => ⟨S2x2x2816x1024, .f32⟩
  | .hbm, ⟨5, _⟩ => ⟨S1x1x1024, .f32⟩
  | .hbm, ⟨6, _⟩ => ⟨S1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S8x1x1x1024, .f32⟩
  | .hbm, ⟨24, _⟩ => ⟨S8x1x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x4096x1024, .f32⟩
  | .hbm, ⟨29, _⟩ => ⟨S8x4096x1024, .f32⟩
  | .hbm, ⟨30, _⟩ => ⟨S8x1x1x1024, .f32⟩
  | .hbm, ⟨31, _⟩ => ⟨S8x1x1024, .f32⟩
  | .hbm, ⟨32, _⟩ => ⟨S8x4096x1024, .f32⟩
  | .hbm, ⟨33, _⟩ => ⟨S8x4096x1024, .f32⟩
  | .hbm, ⟨34, _⟩ => ⟨S8x1x1x1024, .f32⟩
  | .hbm, ⟨35, _⟩ => ⟨S8x1x1024, .f32⟩
  | .hbm, ⟨36, _⟩ => ⟨S_, .f32⟩
  | .hbm, ⟨37, _⟩ => ⟨S8x1x1024, .f32⟩
  | .hbm, ⟨38, _⟩ => ⟨S8x1x1024, .f32⟩
  | .hbm, ⟨39, _⟩ => ⟨S1x1x1024x5632, .f32⟩
  | .hbm, ⟨40, _⟩ => ⟨S1024x5632, .f32⟩
  | .hbm, ⟨41, _⟩ => ⟨S1x1x2816x1024, .f32⟩
  | .hbm, ⟨42, _⟩ => ⟨S2816x1024, .f32⟩
  | .hbm, ⟨43, _⟩ => ⟨S8x4096x5632, .f32⟩
  | .hbm, ⟨44, _⟩ => ⟨S8x4096x2816, .f32⟩
  | .hbm, ⟨45, _⟩ => ⟨S8x4096x2816, .f32⟩
  | .hbm, ⟨46, _⟩ => ⟨S8x4096x2816, .f32⟩
  | .hbm, ⟨47, _⟩ => ⟨S8x4096x2816, .f32⟩
  | .hbm, ⟨48, _⟩ => ⟨S_, .f32⟩
  | .hbm, ⟨49, _⟩ => ⟨S8x4096x2816, .f32⟩
  | .hbm, ⟨50, _⟩ => ⟨S8x4096x2816, .f32⟩
  | .hbm, ⟨51, _⟩ => ⟨S_, .f32⟩
  | .hbm, ⟨52, _⟩ => ⟨S8x4096x2816, .f32⟩
  | .hbm, ⟨53, _⟩ => ⟨S8x4096x2816, .f32⟩
  | .hbm, ⟨54, _⟩ => ⟨S8x4096x2816, .f32⟩
  | .hbm, ⟨55, _⟩ => ⟨S8x4096x2816, .f32⟩
  | .hbm, ⟨56, _⟩ => ⟨S8x4096x1024, .f32⟩
  | .hbm, ⟨57, _⟩ => ⟨S8x4096x1024, .f32⟩
  | .hbm, ⟨58, _⟩ => ⟨S8x4096x1024, .f32⟩
  | .hbm, ⟨59, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]
-- ==== EvenIn.lean ====
abbrev S1x8192x1024 : Shape := ⟨3, ![1, 8192, 1024]⟩
abbrev S1x1x9x1024 : Shape := ⟨4, ![1, 1, 9, 1024]⟩
abbrev S2x3x1024 : Shape := ⟨3, ![2, 3, 1024]⟩
abbrev S1x1024x1792 : Shape := ⟨3, ![1, 1024, 1792]⟩
abbrev S1x4x128x128 : Shape := ⟨4, ![1, 4, 128, 128]⟩
abbrev S1x4x128 : Shape := ⟨3, ![1, 4, 128]⟩
abbrev S1x64 : Shape := ⟨2, ![1, 64]⟩
abbrev S512 : Shape := ⟨1, ![512]⟩
abbrev S512x1 : Shape := ⟨2, ![512, 1]⟩
abbrev S_ : Shape := ⟨0, ![]⟩
abbrev S1x512 : Shape := ⟨2, ![1, 512]⟩
abbrev S512x512 : Shape := ⟨2, ![512, 512]⟩
abbrev S1024x1792 : Shape := ⟨2, ![1024, 1792]⟩
abbrev S1024x1536 : Shape := ⟨2, ![1024, 1536]⟩
abbrev S1024x128 : Shape := ⟨2, ![1024, 128]⟩
abbrev S1024x64 : Shape := ⟨2, ![1024, 64]⟩
abbrev S1024x256 : Shape := ⟨2, ![1024, 256]⟩
abbrev S1024x2048 : Shape := ⟨2, ![1024, 2048]⟩
abbrev S4x128 : Shape := ⟨2, ![4, 128]⟩
abbrev S4x128x1 : Shape := ⟨3, ![4, 128, 1]⟩
abbrev S4x128x128 : Shape := ⟨3, ![4, 128, 128]⟩
abbrev S1x9x1024 : Shape := ⟨3, ![1, 9, 1024]⟩
abbrev S1x3x1024 : Shape := ⟨3, ![1, 3, 1024]⟩
abbrev S3x1024 : Shape := ⟨2, ![3, 1024]⟩
abbrev S64 : Shape := ⟨1, ![64]⟩
abbrev S8x64 : Shape := ⟨2, ![8, 64]⟩
abbrev S4x64 : Shape := ⟨2, ![4, 64]⟩
abbrev S256 : Shape := ⟨1, ![256]⟩
abbrev S1x256 : Shape := ⟨2, ![1, 256]⟩
abbrev S1x8192x512 : Shape := ⟨3, ![1, 8192, 512]⟩
abbrev S1x8192x256 : Shape := ⟨3, ![1, 8192, 256]⟩
abbrev S1x8192x128 : Shape := ⟨3, ![1, 8192, 128]⟩
abbrev S1x512x1024 : Shape := ⟨3, ![1, 512, 1024]⟩
abbrev S1x512x512 : Shape := ⟨3, ![1, 512, 512]⟩
abbrev S1x512x256 : Shape := ⟨3, ![1, 512, 256]⟩
abbrev S1x512x128 : Shape := ⟨3, ![1, 512, 128]⟩
abbrev S512x1024 : Shape := ⟨2, ![512, 1024]⟩
abbrev S1x1024 : Shape := ⟨2, ![1, 1024]⟩
abbrev S1x1x1024 : Shape := ⟨3, ![1, 1, 1024]⟩
abbrev S1024x512 : Shape := ⟨2, ![1024, 512]⟩
abbrev S512x256 : Shape := ⟨2, ![512, 256]⟩
abbrev S256x256 : Shape := ⟨2, ![256, 256]⟩
abbrev S512x128 : Shape := ⟨2, ![512, 128]⟩
abbrev S1x128 : Shape := ⟨2, ![1, 128]⟩
abbrev S128x128 : Shape := ⟨2, ![128, 128]⟩
abbrev S128x512 : Shape := ⟨2, ![128, 512]⟩
abbrev S1x128x128 : Shape := ⟨3, ![1, 128, 128]⟩

abbrev nBuf : Space → Nat
  | .hbm => 96
  | .vmem => 23
  | .smem => 0
  | _ => 0

abbrev bufTy : (tb : Table) → Fin (tcTables nBuf tb) → BufTy
  | .hbm, ⟨0, _⟩ => ⟨S1x8192x1024, .f32⟩
  | .hbm, ⟨1, _⟩ => ⟨S1x1x9x1024, .f32⟩
  | .hbm, ⟨2, _⟩ => ⟨S2x3x1024, .f32⟩
  | .hbm, ⟨3, _⟩ => ⟨S1x1024x1792, .f32⟩
  | .hbm, ⟨4, _⟩ => ⟨S1x4x128x128, .f32⟩
  | .hbm, ⟨5, _⟩ => ⟨S1x4x128, .f32⟩
  | .hbm, ⟨6, _⟩ => ⟨S1x4x128, .f32⟩
  | .hbm, ⟨7, _⟩ => ⟨S1x64, .f32⟩
  | .hbm, ⟨8, _⟩ => ⟨S1x64, .f32⟩
  | .hbm, ⟨9, _⟩ => ⟨S512, .i32⟩
  | .hbm, ⟨10, _⟩ => ⟨S512x1, .i32⟩
  | .hbm, ⟨11, _⟩ => ⟨S_, .i32⟩
  | .hbm, ⟨12, _⟩ => ⟨S_, .i32⟩
  | .hbm, ⟨13, _⟩ => ⟨S512x1, .i32⟩
  | .hbm, ⟨14, _⟩ => ⟨S512x1, .i32⟩
  | .hbm, ⟨15, _⟩ => ⟨S512x1, .i32⟩
  | .hbm, ⟨16, _⟩ => ⟨S_, .i32⟩
  | .hbm, ⟨17, _⟩ => ⟨S512x1, .i32⟩
  | .hbm, ⟨18, _⟩ => ⟨S512x1, .i1⟩
  | .hbm, ⟨19, _⟩ => ⟨S512x1, .i32⟩
  | .hbm, ⟨20, _⟩ => ⟨S512x1, .i32⟩
  | .hbm, ⟨21, _⟩ => ⟨S_, .i32⟩
  | .hbm, ⟨22, _⟩ => ⟨S512x1, .i32⟩
  | .hbm, ⟨23, _⟩ => ⟨S512x1, .i1⟩
  | .hbm, ⟨24, _⟩ => ⟨S512x1, .i1⟩
  | .hbm, ⟨25, _⟩ => ⟨S_, .i32⟩
  | .hbm, ⟨26, _⟩ => ⟨S512x1, .i32⟩
  | .hbm, ⟨27, _⟩ => ⟨S512x1, .i32⟩
  | .hbm, ⟨28, _⟩ => ⟨S512x1, .i32⟩
  | .hbm, ⟨29, _⟩ => ⟨S512, .i32⟩
  | .hbm, ⟨30, _⟩ => ⟨S1x512, .i32⟩
  | .hbm, ⟨31, _⟩ => ⟨S_, .i32⟩
  | .hbm, ⟨32, _⟩ => ⟨S_, .i32⟩
  | .hbm, ⟨33, _⟩ => ⟨S1x512, .i32⟩
  | .hbm, ⟨34, _⟩ => ⟨S1x512, .i32⟩
  | .hbm, ⟨35, _⟩ => ⟨S1x512, .i32⟩
  | .hbm, ⟨36, _⟩ => ⟨S_, .i32⟩
  | .hbm, ⟨37, _⟩ => ⟨S1x512, .i32⟩
  | .hbm, ⟨38, _⟩ => ⟨S1x512, .i1⟩
  | .hbm, ⟨39, _⟩ => ⟨S1x512, .i32⟩
  | .hbm, ⟨40, _⟩ => ⟨S1x512, .i32⟩
  | .hbm, ⟨41, _⟩ => ⟨S_, .i32⟩
  | .hbm, ⟨42, _⟩ => ⟨S1x512, .i32⟩
  | .hbm, ⟨43, _⟩ => ⟨S1x512, .i1⟩
  | .hbm, ⟨44, _⟩ => ⟨S1x512, .i1⟩
  | .hbm, ⟨45, _⟩ => ⟨S_, .i32⟩
  | .hbm, ⟨46, _⟩ => ⟨S1x512, .i32⟩
  | .hbm, ⟨47, _⟩ => ⟨S1x512, .i32⟩
  | .hbm, ⟨48, _⟩ => ⟨S1x512, .i32⟩
  | .hbm, ⟨49, _⟩ => ⟨S512x512, .i32⟩
  | .hbm, ⟨50, _⟩ => ⟨S512x512, .i32⟩
  | .hbm, ⟨51, _⟩ => ⟨S512x512, .i1⟩
  | .hbm, ⟨52, _⟩ => ⟨S_, .f32⟩
  | .hbm, ⟨53, _⟩ => ⟨S_, .f32⟩
  | .hbm, ⟨54, _⟩ => ⟨S512x512, .f32⟩
  | .hbm, ⟨55, _⟩ => ⟨S512x512, .f32⟩
  | .hbm, ⟨56, _⟩ => ⟨S512x512, .f32⟩
  | .hbm, ⟨57, _⟩ => ⟨S512x512, .bf16⟩
  | .hbm, ⟨58, _⟩ => ⟨S1024x1792, .f32⟩
  | .hbm, ⟨59, _⟩ => ⟨S1024x1536, .f32⟩
  | .hbm, ⟨60, _⟩ => ⟨S1024x128, .f32⟩
  | .hbm, ⟨61, _⟩ => ⟨S1024x64, .f32⟩
  | .hbm, ⟨62, _⟩ => ⟨S1024x64, .f32⟩
  | .hbm, ⟨63, _⟩ => ⟨S1024x256, .f32⟩
  | .hbm, ⟨64, _⟩ => ⟨S1024x128, .f32⟩
  | .hbm, ⟨65, _⟩ => ⟨S1024x64, .f32⟩
  | .hbm, ⟨66, _⟩ => ⟨S1024x64, .f32⟩
  | .hbm, ⟨67, _⟩ => ⟨S1024x256, .f32⟩
  | .hbm, ⟨68, _⟩ => ⟨S1024x2048, .f32⟩
  | .hbm, ⟨69, _⟩ => ⟨S4x128, .f32⟩
  | .hbm, ⟨70, _⟩ => ⟨S4x128x1, .f32⟩
  | .hbm, ⟨71, _⟩ => ⟨S4x128x128, .f32⟩
  | .hbm, ⟨72, _⟩ => ⟨S1x9x1024, .f32⟩
  | .hbm, ⟨73, _⟩ => ⟨S1x3x1024, .f32⟩
  | .hbm, ⟨74, _⟩ => ⟨S3x1024, .f32⟩
  | .hbm, ⟨75, _⟩ => ⟨S1024x2048, .bf16⟩
  | .hbm, ⟨76, _⟩ => ⟨S4x128, .f32⟩
  | .hbm, ⟨77, _⟩ => ⟨S1x512, .f32⟩
  | .hbm, ⟨78, _⟩ => ⟨S4x128x128, .f32⟩
  | .hbm, ⟨79, _⟩ => ⟨S4x128x128, .bf16⟩
  | .hbm, ⟨80, _⟩ => ⟨S64, .f32⟩
  | .hbm, ⟨81, _⟩ => ⟨S1x64, .f32⟩
  | .hbm, ⟨82, _⟩ => ⟨S8x64, .f32⟩
  | .hbm, ⟨83, _⟩ => ⟨S512, .f32⟩
  | .hbm, ⟨84, _⟩ => ⟨S1x512, .f32⟩
  | .hbm, ⟨85, _⟩ => ⟨S64, .f32⟩
  | .hbm, ⟨86, _⟩ => ⟨S1x64, .f32⟩
  | .hbm, ⟨87, _⟩ => ⟨S4x64, .f32⟩
  | .hbm, ⟨88, _⟩ => ⟨S256, .f32⟩
  | .hbm, ⟨89, _⟩ => ⟨S1x256, .f32⟩
  | .hbm, ⟨90, _⟩ => ⟨S1x8192x512, .bf16⟩
  | .hbm, ⟨91, _⟩ => ⟨S1x8192x512, .f32⟩
  | .hbm, ⟨92, _⟩ => ⟨S1x8192x256, .bf16⟩
  | .hbm, ⟨93, _⟩ => ⟨S1x8192x256, .bf16⟩
  | .hbm, ⟨94, _⟩ => ⟨S1x8192x128, .f32⟩
  | .hbm, ⟨95, _⟩ => ⟨S1x8192x128, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S3x1024, .f32⟩
  | .local _ .vmem, ⟨4, _⟩ => ⟨S1024x2048, .bf16⟩
  | .local _ .vmem, ⟨5, _⟩ => ⟨S1x512, .f32⟩
  | .local _ .vmem, ⟨6, _⟩ => ⟨S4x128x128, .bf16⟩
  | .local _ .vmem, ⟨7, _⟩ => ⟨S4x128x128, .f32⟩
  | .local _ .vmem, ⟨8, _⟩ => ⟨S1x512, .f32⟩
  | .local _ .vmem, ⟨9, _⟩ => ⟨S1x256, .f32⟩
  | .local _ .vmem, ⟨10, _⟩ => ⟨S512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .f32⟩
  | .local _ .vmem, ⟨14, _⟩ => ⟨S1x512x512, .f32⟩
  | .local _ .vmem, ⟨15, _⟩ => ⟨S1x512x256, .bf16⟩
  | .local _ .vmem, ⟨16, _⟩ => ⟨S1x512x256, .bf16⟩
  | .local _ .vmem, ⟨17, _⟩ => ⟨S1x512x256, .bf16⟩
  | .local _ .vmem, ⟨18, _⟩ => ⟨S1x512x256, .bf16⟩
  | .local _ .vmem, ⟨19, _⟩ => ⟨S1x512x128, .f32⟩
  | .local _ .vmem, ⟨20, _⟩ => ⟨S1x512x128, .f32⟩
  | .local _ .vmem, ⟨21, _⟩ => ⟨S1x512x128, .f32⟩
  | .local _ .vmem, ⟨22, _⟩ => ⟨S1x512x128, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_cst : Ref sig .tc := ⟨.hbm, 52, rfl⟩
abbrev main_cst_1 : Ref sig .tc := ⟨.hbm, 53, rfl⟩
abbrev main_call2_v0 : Ref sig .tc := ⟨.hbm, 54, rfl⟩
abbrev main_call2_v1 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43_0 : Ref sig .tc := ⟨.hbm, 90, rfl⟩
abbrev main_v43_1 : Ref sig .tc := ⟨.hbm, 91, rfl⟩
abbrev main_v43_2 : Ref sig .tc := ⟨.hbm, 92, rfl⟩
abbrev main_v43_3 : Ref sig .tc := ⟨.hbm, 93, rfl⟩
abbrev main_v43_4 : Ref sig .tc := ⟨.hbm, 94, rfl⟩
abbrev main_v43_5 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x9x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== EvenInRefIdeal.lean ====
abbrev S1x8192x1024 : Shape := ⟨3, ![1, 8192, 1024]⟩
abbrev S1x1x9x1024 : Shape := ⟨4, ![1, 1, 9, 1024]⟩
abbrev S2x3x1024 : Shape := ⟨3, ![2, 3, 1024]⟩
abbrev S1x1024x1792 : Shape := ⟨3, ![1, 1024, 1792]⟩
abbrev S1x4x128x128 : Shape := ⟨4, ![1, 4, 128, 128]⟩
abbrev S1x4x128 : Shape := ⟨3, ![1, 4, 128]⟩
abbrev S1x64 : Shape := ⟨2, ![1, 64]⟩
abbrev S1x1x1024 : Shape := ⟨3, ![1, 1, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1x1024 : Shape := ⟨4, ![1, 1, 1, 1024]⟩
abbrev S1024x1792 : Shape := ⟨2, ![1024, 1792]⟩
abbrev S1x8192x1792 : Shape := ⟨3, ![1, 8192, 1792]⟩
abbrev S1x8192x512 : Shape := ⟨3, ![1, 8192, 512]⟩
abbrev S1x8192x128 : Shape := ⟨3, ![1, 8192, 128]⟩
abbrev S4x128 : Shape := ⟨2, ![4, 128]⟩
abbrev S4x128x128 : Shape := ⟨3, ![4, 128, 128]⟩
abbrev S1x8192x4x128 : Shape := ⟨4, ![1, 8192, 4, 128]⟩
abbrev S1x8192x4 : Shape := ⟨3, ![1, 8192, 4]⟩
abbrev S1x8192x4x1 : Shape := ⟨4, ![1, 8192, 4, 1]⟩
abbrev S1x1x4x128 : Shape := ⟨4, ![1, 1, 4, 128]⟩
abbrev S1x64x128x4x128 : Shape := ⟨5, ![1, 64, 128, 4, 128]⟩
abbrev S4x1x64x128x128 : Shape := ⟨5, ![4, 1, 64, 128, 128]⟩
abbrev S128x4 : Shape := ⟨2, ![128, 4]⟩
abbrev S1x1x128x4x1 : Shape := ⟨5, ![1, 1, 128, 4, 1]⟩
abbrev S1x8192x8x64 : Shape := ⟨4, ![1, 8192, 8, 64]⟩
abbrev S64 : Shape := ⟨1, ![64]⟩
abbrev S1x8192x8 : Shape := ⟨3, ![1, 8192, 8]⟩
abbrev S1x8192x8x1 : Shape := ⟨4, ![1, 8192, 8, 1]⟩
abbrev S1x1x1x64 : Shape := ⟨4, ![1, 1, 1, 64]⟩
abbrev S1x8192x2x64 : Shape := ⟨4, ![1, 8192, 2, 64]⟩
abbrev S1x8192x2 : Shape := ⟨3, ![1, 8192, 2]⟩
abbrev S1x8192x2x1 : Shape := ⟨4, ![1, 8192, 2, 1]⟩

abbrev nBuf : Space → Nat
  | .hbm => 149
  | .vmem => 0
  | .smem => 0
  | _ => 0

abbrev hbmTy0_0 (i : Nat) : BufTy := match i % 128 with
  | 0 => ⟨S1x8192x1024, .f32⟩
  | 1 => ⟨S1x1x9x1024, .f32⟩
  | 2 => ⟨S2x3x1024, .f32⟩
  | 3 => ⟨S1x1024x1792, .f32⟩
  | 4 => ⟨S1x4x128x128, .f32⟩
  | 5 => ⟨S1x4x128, .f32⟩
  | 6 => ⟨S1x4x128, .f32⟩
  | 7 => ⟨S1x64, .f32⟩
  | 8 => ⟨S1x64, .f32⟩
  | 9 => ⟨S1x1x1024, .f32⟩
  | 10 => ⟨S1024, .f32⟩
  | 11 => ⟨S1x8192x1024, .f32⟩
  | 12 => ⟨S_, .f32⟩
  | 13 => ⟨S1x8192, .f32⟩
  | 14 => ⟨S1x8192x1, .f32⟩
  | 15 => ⟨S_, .f32⟩
  | 16 => ⟨S1x8192x1, .f32⟩
  | 17 => ⟨S1x8192x1, .f32⟩
  | 18 => ⟨S_, .f32⟩
  | 19 => ⟨S1x8192x1, .f32⟩
  | 20 => ⟨S1x8192x1, .f32⟩
  | 21 => ⟨S1x8192x1, .f32⟩
  | 22 => ⟨S1x8192x1024, .f32⟩
  | 23 => ⟨S1x8192x1024, .f32⟩
  | 24 => ⟨S1x1x1024, .f32⟩
  | 25 => ⟨S1x8192x1024, .f32⟩
  | 26 => ⟨S1x8192x1024, .f32⟩
  | 27 => ⟨S1x1x1x1024, .f32⟩
  | 28 => ⟨S1x1x1024, .f32⟩
  | 29 => ⟨S_, .f32⟩
  | 30 => ⟨S1x1x1024, .f32⟩
  | 31 => ⟨S1x1x1024, .f32⟩
  | 32 => ⟨S1x8192x1024, .f32⟩
  | 33 => ⟨S1x8192x1024, .f32⟩
  | 34 => ⟨S1x1x1x1024, .f32⟩
  | 35 => ⟨S1x1x1024, .f32⟩
  | 36 => ⟨S1x8192x1024, .f32⟩
  | 37 => ⟨S1x8192x1024, .f32⟩
  | 38 => ⟨S1024x1792, .f32⟩
  | 39 => ⟨S1x8192x1792, .f32⟩
  | 40 => ⟨S1x8192x512, .f32⟩
  | 41 => ⟨S1x8192x512, .f32⟩
  | 42 => ⟨S1x8192x512, .f32⟩
  | 43 => ⟨S1x8192x128, .f32⟩
  | 44 => ⟨S1x8192x128, .f32⟩
  | 45 => ⟨S1x8192x512, .f32⟩
  | 46 => ⟨S1x8192x512, .f32⟩
  | 47 => ⟨S_, .f32⟩
  | 48 => ⟨S1x8192x512, .f32⟩
  | 49 => ⟨S1x8192x512, .f32⟩
  | 50 => ⟨S1x8192x512, .f32⟩
  | 51 => ⟨S_, .f32⟩
  | 52 => ⟨S1x8192x512, .f32⟩
  | 53 => ⟨S1x8192x512, .f32⟩
  | 54 => ⟨S1x8192x512, .f32⟩
  | 55 => ⟨S_, .f32⟩
  | 56 => ⟨S1x8192x512, .f32⟩
  | 57 => ⟨S1x8192x512, .f32⟩
  | 58 => ⟨S_, .f32⟩
  | 59 => ⟨S1x8192x512, .f32⟩
  | 60 => ⟨S1x8192x512, .f32⟩
  | 61 => ⟨S1x8192x512, .f32⟩
  | 62 => ⟨S1x8192x512, .f32⟩
  | 63 => ⟨S1x8192x512, .f32⟩
  | 64 => ⟨S_, .f32⟩
  | 65 => ⟨S1x8192x512, .f32⟩
  | 66 => ⟨S1x8192x512, .f32⟩
  | 67 => ⟨S1x8192x512, .f32⟩
  | 68 => ⟨S_, .f32⟩
  | 69 => ⟨S1x8192x512, .f32⟩
  | 70 => ⟨S1x8192x512, .f32⟩
  | 71 => ⟨S1x8192x512, .f32⟩
  | 72 => ⟨S_, .f32⟩
  | 73 => ⟨S1x8192x512, .f32⟩
  | 74 => ⟨S1x8192x512, .f32⟩
  | 75 => ⟨S_, .f32⟩
  | 76 => ⟨S1x8192x512, .f32⟩
  | 77 => ⟨S1x8192x512, .f32⟩
  | 78 => ⟨S1x8192x512, .f32⟩
  | 79 => ⟨S4x128, .f32⟩
  | 80 => ⟨S4x128x128, .f32⟩
  | 81 => ⟨S4x128, .f32⟩
  | 82 => ⟨S1x8192x4x128, .f32⟩
  | 83 => ⟨S1x8192x4x128, .f32⟩
  | 84 => ⟨S_, .f32⟩
  | 85 => ⟨S1x8192x4, .f32⟩
  | 86 => ⟨S1x8192x4x1, .f32⟩
  | 87 => ⟨S_, .f32⟩
  | 88 => ⟨S1x8192x4x1, .f32⟩
  | 89 => ⟨S1x8192x4x1, .f32⟩
  | 90 => ⟨S_, .f32⟩
  | 91 => ⟨S1x8192x4x1, .f32⟩
  | 92 => ⟨S1x8192x4x1, .f32⟩
  | 93 => ⟨S1x8192x4x1, .f32⟩
  | 94 => ⟨S1x8192x4x128, .f32⟩
  | 95 => ⟨S1x8192x4x128, .f32⟩
  | 96 => ⟨S1x1x4x128, .f32⟩
  | 97 => ⟨S1x8192x4x128, .f32⟩
  | 98 => ⟨S1x8192x4x128, .f32⟩
  | 99 => ⟨S1x64x128x4x128, .f32⟩
  | 100 => ⟨S4x1x64x128x128, .f32⟩
  | 101 => ⟨S1x64x128x4x128, .f32⟩
  | 102 => ⟨S128x4, .f32⟩
  | 103 => ⟨S1x1x128x4x1, .f32⟩
  | 104 => ⟨S1x64x128x4x128, .f32⟩
  | 105 => ⟨S1x64x128x4x128, .f32⟩
  | 106 => ⟨S1x8192x512, .f32⟩
  | 107 => ⟨S1x8192x512, .f32⟩
  | 108 => ⟨S1x8192x8x64, .f32⟩
  | 109 => ⟨S64, .f32⟩
  | 110 => ⟨S1x8192x8x64, .f32⟩
  | 111 => ⟨S_, .f32⟩
  | 112 => ⟨S1x8192x8, .f32⟩
  | 113 => ⟨S1x8192x8x1, .f32⟩
  | 114 => ⟨S_, .f32⟩
  | 115 => ⟨S1x8192x8x1, .f32⟩
  | 116 => ⟨S1x8192x8x1, .f32⟩
  | 117 => ⟨S_, .f32⟩
  | 118 => ⟨S1x8192x8x1, .f32⟩
  | 119 => ⟨S1x8192x8x1, .f32⟩
  | 120 => ⟨S1x8192x8x1, .f32⟩
  | 121 => ⟨S1x8192x8x64, .f32⟩
  | 122 => ⟨S1x8192x8x64, .f32⟩
  | 123 => ⟨S1x1x1x64, .f32⟩
  | 124 => ⟨S1x8192x8x64, .f32⟩
  | 125 => ⟨S1x8192x8x64, .f32⟩
  | 126 => ⟨S1x8192x2x64, .f32⟩
  | 127 => ⟨S64, .f32⟩
  | _ => ⟨S1x8192x1024, .f32⟩

abbrev hbmTy0_1 (i : Nat) : BufTy := match i % 128 with
  | 0 => ⟨S1x8192x2x64, .f32⟩
  | 1 => ⟨S_, .f32⟩
  | 2 => ⟨S1x8192x2, .f32⟩
  | 3 => ⟨S1x8192x2x1, .f32⟩
  | 4 => ⟨S_, .f32⟩
  | 5 => ⟨S1x8192x2x1, .f32⟩
  | 6 => ⟨S1x8192x2x1, .f32⟩
  | 7 => ⟨S_, .f32⟩
  | 8 => ⟨S1x8192x2x1, .f32⟩
  | 9 => ⟨S1x8192x2x1, .f32⟩
  | 10 => ⟨S1x8192x2x1, .f32⟩
  | 11 => ⟨S1x8192x2x64, .f32⟩
  | 12 => ⟨S1x8192x2x64, .f32⟩
  | 13 => ⟨S1x1x1x64, .f32⟩
  | 14 => ⟨S1x8192x2x64, .f32⟩
  | 15 => ⟨S1x8192x2x64, .f32⟩
  | 16 => ⟨S1x8192x2x64, .f32⟩
  | 17 => ⟨S1x8192x512, .bf16⟩
  | 18 => ⟨S1x8192x512, .f32⟩
  | 19 => ⟨S1x8192x128, .f32⟩
  | 20 => ⟨S1x8192x128, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_11 : Ref sig .tc := ⟨.hbm, 84, rfl⟩
abbrev main_v63 : Ref sig .tc := ⟨.hbm, 85, rfl⟩
abbrev main_v64 : Ref sig .tc := ⟨.hbm, 86, rfl⟩
abbrev main_cst_12 : Ref sig .tc := ⟨.hbm, 87, rfl⟩
abbrev main_v65 : Ref sig .tc := ⟨.hbm, 88, rfl⟩
abbrev main_v66 : Ref sig .tc := ⟨.hbm, 89, rfl⟩
abbrev main_cst_13 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_14 : Ref sig .tc := ⟨.hbm, 111, rfl⟩
abbrev main_v87 : Ref sig .tc := ⟨.hbm, 112, rfl⟩
abbrev main_v88 : Ref sig .tc := ⟨.hbm, 113, rfl⟩
abbrev main_cst_15 : Ref sig .tc := ⟨.hbm, 114, rfl⟩
abbrev main_v89 : Ref sig .tc := ⟨.hbm, 115, rfl⟩
abbrev main_v90 : Ref sig .tc := ⟨.hbm, 116, rfl⟩
abbrev main_cst_16 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_cst_17 : Ref sig .tc := ⟨.hbm, 129, rfl⟩
abbrev main_v102 : Ref sig .tc := ⟨.hbm, 130, rfl⟩
abbrev main_v103 : Ref sig .tc := ⟨.hbm, 131, rfl⟩
abbrev main_cst_18 : Ref sig .tc := ⟨.hbm, 132, rfl⟩
abbrev main_v104 : Ref sig .tc := ⟨.hbm, 133, rfl⟩
abbrev main_v105 : Ref sig .tc := ⟨.hbm, 134, rfl⟩
abbrev main_cst_19 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩

abbrev nD : Nat := 1
abbrev τ : Topo := Topo.v7x

variable {F : FTy → Type} [FloatOps F]
-- ==== OddIn.lean ====
abbrev S1x8192x1024 : Shape := ⟨3, ![1, 8192, 1024]⟩
abbrev S1x1x9x1024 : Shape := ⟨4, ![1, 1, 9, 1024]⟩
abbrev S2x3x1024 : Shape := ⟨3, ![2, 3, 1024]⟩
abbrev S1x1024x2576 : Shape := ⟨3, ![1, 1024, 2576]⟩
abbrev S1x2x2x4 : Shape := ⟨4, ![1, 2, 2, 4]⟩
abbrev S16 : Shape := ⟨1, ![16]⟩
abbrev S1024x2576 : Shape := ⟨2, ![1024, 2576]⟩
abbrev S1024x1024 : Shape := ⟨2, ![1024, 1024]⟩
abbrev S1024x512 : Shape := ⟨2, ![1024, 512]⟩
abbrev S1024x1536 : Shape := ⟨2, ![1024, 1536]⟩
abbrev S1024x16 : Shape := ⟨2, ![1024, 16]⟩
abbrev S_ : Shape := ⟨0, ![]⟩
abbrev S16x1 : Shape := ⟨2, ![16, 1]⟩
abbrev S16x1024 : Shape := ⟨2, ![16, 1024]⟩
abbrev S2x2x4 : Shape := ⟨3, ![2, 2, 4]⟩
abbrev S16x128 : Shape := ⟨2, ![16, 128]⟩
abbrev S1x9x1024 : Shape := ⟨3, ![1, 9, 1024]⟩
abbrev S1x3x1024 : Shape := ⟨3, ![1, 3, 1024]⟩
abbrev S3x1024 : Shape := ⟨2, ![3, 1024]⟩
abbrev S1x8192x512 : Shape := ⟨3, ![1, 8192, 512]⟩
abbrev S1x64x512x128 : Shape := ⟨4, ![1, 64, 512, 128]⟩
abbrev S1x64x16x128 : Shape := ⟨4, ![1, 64, 16, 128]⟩
abbrev S1x512x1024 : Shape := ⟨3, ![1, 512, 1024]⟩
abbrev S1x512x512 : Shape := ⟨3, ![1, 512, 512]⟩
abbrev S1x4x512x128 : Shape := ⟨4, ![1, 4, 512, 128]⟩
abbrev S1x4x16x128 : Shape := ⟨4, ![1, 4, 16, 128]⟩
abbrev S512x1024 : Shape := ⟨2, ![512, 1024]⟩
abbrev S1x1024 : Shape := ⟨2, ![1, 1024]⟩
abbrev S1x1x1024 : Shape := ⟨3, ![1, 1, 1024]⟩
abbrev S512 : Shape := ⟨1, ![512]⟩
abbrev S512x1 : Shape := ⟨2, ![512, 1]⟩
abbrev S512x512 : Shape := ⟨2, ![512, 512]⟩
abbrev S16x512 : Shape := ⟨2, ![16, 512]⟩
abbrev S512x128 : Shape := ⟨2, ![512, 128]⟩
abbrev S1x1x512x128 : Shape := ⟨4, ![1, 1, 512, 128]⟩
abbrev S1x1x16x128 : Shape := ⟨4, ![1, 1, 16, 128]⟩

abbrev nBuf : Space → Nat
  | .hbm => 48
  | .vmem => 20
  | .smem => 0
  | _ => 0

abbrev bufTy : (tb : Table) → Fin (tcTables nBuf tb) → BufTy
  | .hbm, ⟨0, _⟩ => ⟨S1x8192x1024, .f32⟩
  | .hbm, ⟨1, _⟩ => ⟨S1x1x9x1024, .f32⟩
  | .hbm, ⟨2, _⟩ => ⟨S2x3x1024, .f32⟩
  | .hbm, ⟨3, _⟩ => ⟨S1x1024x2576, .f32⟩
  | .hbm, ⟨4, _⟩ => ⟨S1x2x2x4, .f32⟩
  | .hbm, ⟨5, _⟩ => ⟨S16, .i32⟩
  | .hbm, ⟨6, _⟩ => ⟨S1024x2576, .f32⟩
  | .hbm, ⟨7, _⟩ => ⟨S1024x1024, .f32⟩
  | .hbm, ⟨8, _⟩ => ⟨S1024x512, .f32⟩
  | .hbm, ⟨9, _⟩ => ⟨S1024x1536, .f32⟩
  | .hbm, ⟨10, _⟩ => ⟨S1024x1024, .f32⟩
  | .hbm, ⟨11, _⟩ => ⟨S1024x1024, .f32⟩
  | .hbm, ⟨12, _⟩ => ⟨S1024x16, .f32⟩
  | .hbm, ⟨13, _⟩ => ⟨S_, .i32⟩
  | .hbm, ⟨14, _⟩ => ⟨S16, .i32⟩
  | .hbm, ⟨15, _⟩ => ⟨S16, .i1⟩
  | .hbm, ⟨16, _⟩ => ⟨S_, .i32⟩
  | .hbm, ⟨17, _⟩ => ⟨S16, .i32⟩
  | .hbm, ⟨18, _⟩ => ⟨S16, .i32⟩
  | .hbm, ⟨19, _⟩ => ⟨S16, .i32⟩
  | .hbm, ⟨20, _⟩ => ⟨S16x1, .i32⟩
  | .hbm, ⟨21, _⟩ => ⟨S1024x16, .f32⟩
  | .hbm, ⟨22, _⟩ => ⟨S16x1024, .f32⟩
  | .hbm, ⟨23, _⟩ => ⟨S2x2x4, .f32⟩
  | .hbm, ⟨24, _⟩ => ⟨S16, .f32⟩
  | .hbm, ⟨25, _⟩ => ⟨S_, .i32⟩
  | .hbm, ⟨26, _⟩ => ⟨S16, .i32⟩
  | .hbm, ⟨27, _⟩ => ⟨S16, .i1⟩
  | .hbm, ⟨28, _⟩ => ⟨S_, .i32⟩
  | .hbm, ⟨29, _⟩ => ⟨S16, .i32⟩
  | .hbm, ⟨30, _⟩ => ⟨S16, .i32⟩
  | .hbm, ⟨31, _⟩ => ⟨S16, .i32⟩
  | .hbm, ⟨32, _⟩ => ⟨S16x1, .i32⟩
  | .hbm, ⟨33, _⟩ => ⟨S16, .f32⟩
  | .hbm, ⟨34, _⟩ => ⟨S16x1, .f32⟩
  | .hbm, ⟨35, _⟩ => ⟨S16x128, .f32⟩
  | .hbm, ⟨36, _⟩ => ⟨S1x9x1024, .f32⟩
  | .hbm, ⟨37, _⟩ => ⟨S1x3x1024, .f32⟩
  | .hbm, ⟨38, _⟩ => ⟨S3x1024, .f32⟩
  | .hbm, ⟨39, _⟩ => ⟨S1024x1536, .bf16⟩
  | .hbm, ⟨40, _⟩ => ⟨S1024x1024, .bf16⟩
  | .hbm, ⟨41, _⟩ => ⟨S16x1024, .bf16⟩
  | .hbm, ⟨42, _⟩ => ⟨S1x8192x512, .bf16⟩
  | .hbm, ⟨43, _⟩ => ⟨S1x8192x512, .bf16⟩
  | .hbm, ⟨44, _⟩ => ⟨S1x8192x512, .bf16⟩
  | .hbm, ⟨45, _⟩ => ⟨S1x64x512x128, .bf16⟩
  | .hbm, ⟨46, _⟩ => ⟨S1x64x512x128, .bf16⟩
  | .hbm, ⟨47, _⟩ => ⟨S1x64x16x128, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S3x1024, .f32⟩
  | .local _ .vmem, ⟨4, _⟩ => ⟨S1024x1536, .bf16⟩
  | .local _ .vmem, ⟨5, _⟩ => ⟨S1024x1024, .bf16⟩
  | .local _ .vmem, ⟨6, _⟩ => ⟨S16x1024, .bf16⟩
  | .local _ .vmem, ⟨7, _⟩ => ⟨S16x128, .f32⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x4x512x128, .bf16⟩
  | .local _ .vmem, ⟨15, _⟩ => ⟨S1x4x512x128, .bf16⟩
  | .local _ .vmem, ⟨16, _⟩ => ⟨S1x4x512x128, .bf16⟩
  | .local _ .vmem, ⟨17, _⟩ => ⟨S1x4x512x128, .bf16⟩
  | .local _ .vmem, ⟨18, _⟩ => ⟨S1x4x16x128, .f32⟩
  | .local _ .vmem, ⟨19, _⟩ => ⟨S1x4x16x128, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32_0 : Ref sig .tc := ⟨.hbm, 42, rfl⟩
abbrev main_v32_1 : Ref sig .tc := ⟨.hbm, 43, rfl⟩
abbrev main_v32_2 : Ref sig .tc := ⟨.hbm, 44, rfl⟩
abbrev main_v32_3 : Ref sig .tc := ⟨.hbm, 45, rfl⟩
abbrev main_v32_4 : Ref sig .tc := ⟨.hbm, 46, rfl⟩
abbrev main_v32_5 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x9x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x16x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== OddInRefIdeal.lean ====
abbrev S1x8192x1024 : Shape := ⟨3, ![1, 8192, 1024]⟩
abbrev S1x1x9x1024 : Shape := ⟨4, ![1, 1, 9, 1024]⟩
abbrev S2x3x1024 : Shape := ⟨3, ![2, 3, 1024]⟩
abbrev S1x1024x2576 : Shape := ⟨3, ![1, 1024, 2576]⟩
abbrev S1x2x2x4 : Shape := ⟨4, ![1, 2, 2, 4]⟩
abbrev S1x1x1024 : Shape := ⟨3, ![1, 1, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1x1024 : Shape := ⟨4, ![1, 1, 1, 1024]⟩
abbrev S1024x2576 : Shape := ⟨2, ![1024, 2576]⟩
abbrev S1x8192x2576 : Shape := ⟨3, ![1, 8192, 2576]⟩
abbrev S1x8192x512 : Shape := ⟨3, ![1, 8192, 512]⟩
abbrev S1x8192x16 : Shape := ⟨3, ![1, 8192, 16]⟩
abbrev S1x8192x2x2x4 : Shape := ⟨5, ![1, 8192, 2, 2, 4]⟩
abbrev S2x2x4 : Shape := ⟨3, ![2, 2, 4]⟩
abbrev S1x1x2x2x4 : Shape := ⟨5, ![1, 1, 2, 2, 4]⟩
abbrev S1x8192x2x1x4 : Shape := ⟨5, ![1, 8192, 2, 1, 4]⟩
abbrev S1x8192x2x4 : Shape := ⟨4, ![1, 8192, 2, 4]⟩
abbrev S1x64x128x512 : Shape := ⟨4, ![1, 64, 128, 512]⟩
abbrev S1x64x512x128 : Shape := ⟨4, ![1, 64, 512, 128]⟩
abbrev S1x8192x1x2x4 : Shape := ⟨5, ![1, 8192, 1, 2, 4]⟩
abbrev S1x64x128x16 : Shape := ⟨4, ![1, 64, 128, 16]⟩
abbrev S1x64x16x128 : Shape := ⟨4, ![1, 64, 16, 128]⟩

abbrev nBuf : Space → Nat
  | .hbm => 92
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1x9x1024, .f32⟩
  | .hbm, ⟨2, _⟩ => ⟨S2x3x1024, .f32⟩
  | .hbm, ⟨3, _⟩ => ⟨S1x1024x2576, .f32⟩
  | .hbm, ⟨4, _⟩ => ⟨S1x2x2x4, .f32⟩
  | .hbm, ⟨5, _⟩ => ⟨S1x1x1024, .f32⟩
  | .hbm, ⟨6, _⟩ => ⟨S1024, .f32⟩
  | .hbm, ⟨7, _⟩ => ⟨S1x8192x1024, .f32⟩
  | .hbm, ⟨8, _⟩ => ⟨S_, .f32⟩
  | .hbm, ⟨9, _⟩ => ⟨S1x8192, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S_, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S1x8192x1024, .f32⟩
  | .hbm, ⟨19, _⟩ => ⟨S1x8192x1024, .f32⟩
  | .hbm, ⟨20, _⟩ => ⟨S1x1x1024, .f32⟩
  | .hbm, ⟨21, _⟩ => ⟨S1x8192x1024, .f32⟩
  | .hbm, ⟨22, _⟩ => ⟨S1x8192x1024, .f32⟩
  | .hbm, ⟨23, _⟩ => ⟨S1x1x1x1024, .f32⟩
  | .hbm, ⟨24, _⟩ => ⟨S1x1x1024, .f32⟩
  | .hbm, ⟨25, _⟩ => ⟨S_, .f32⟩
  | .hbm, ⟨26, _⟩ => ⟨S1x1x1024, .f32⟩
  | .hbm, ⟨27, _⟩ => ⟨S1x1x1024, .f32⟩
  | .hbm, ⟨28, _⟩ => ⟨S1x8192x1024, .f32⟩
  | .hbm, ⟨29, _⟩ => ⟨S1x8192x1024, .f32⟩
  | .hbm, ⟨30, _⟩ => ⟨S1x1x1x1024, .f32⟩
  | .hbm, ⟨31, _⟩ => ⟨S1x1x1024, .f32⟩
  | .hbm, ⟨32, _⟩ => ⟨S1x8192x1024, .f32⟩
  | .hbm, ⟨33, _⟩ => ⟨S1x8192x1024, .f32⟩
  | .hbm, ⟨34, _⟩ => ⟨S1024x2576, .f32⟩
  | .hbm, ⟨35, _⟩ => ⟨S1x8192x2576, .f32⟩
  | .hbm, ⟨36, _⟩ => ⟨S1x8192x512, .f32⟩
  | .hbm, ⟨37, _⟩ => ⟨S1x8192x512, .f32⟩
  | .hbm, ⟨38, _⟩ => ⟨S1x8192x512, .f32⟩
  | .hbm, ⟨39, _⟩ => ⟨S1x8192x512, .f32⟩
  | .hbm, ⟨40, _⟩ => ⟨S1x8192x16, .f32⟩
  | .hbm, ⟨41, _⟩ => ⟨S1x8192x512, .f32⟩
  | .hbm, ⟨42, _⟩ => ⟨S_, .f32⟩
  | .hbm, ⟨43, _⟩ => ⟨S1x8192x512, .f32⟩
  | .hbm, ⟨44, _⟩ => ⟨S1x8192x512, .f32⟩
  | .hbm, ⟨45, _⟩ => ⟨S1x8192x2x2x4, .f32⟩
  | .hbm, ⟨46, _⟩ => ⟨S2x2x4, .f32⟩
  | .hbm, ⟨47, _⟩ => ⟨S1x1x2x2x4, .f32⟩
  | .hbm, ⟨48, _⟩ => ⟨S1x8192x2x2x4, .f32⟩
  | .hbm, ⟨49, _⟩ => ⟨S1x8192x2x2x4, .f32⟩
  | .hbm, ⟨50, _⟩ => ⟨S1x8192x2x1x4, .f32⟩
  | .hbm, ⟨51, _⟩ => ⟨S1x8192x2x4, .f32⟩
  | .hbm, ⟨52, _⟩ => ⟨S1x8192x2x1x4, .f32⟩
  | .hbm, ⟨53, _⟩ => ⟨S1x8192x2x4, .f32⟩
  | .hbm, ⟨54, _⟩ => ⟨S1x8192x2x4, .f32⟩
  | .hbm, ⟨55, _⟩ => ⟨S_, .f32⟩
  | .hbm, ⟨56, _⟩ => ⟨S1x8192x2x4, .f32⟩
  | .hbm, ⟨57, _⟩ => ⟨S1x8192x2x4, .f32⟩
  | .hbm, ⟨58, _⟩ => ⟨S1x8192x2x4, .f32⟩
  | .hbm, ⟨59, _⟩ => ⟨S1x8192x2x4, .f32⟩
  | .hbm, ⟨60, _⟩ => ⟨S1x8192x2x4, .i1⟩
  | .hbm, ⟨61, _⟩ => ⟨S1x8192x2x4, .f32⟩
  | .hbm, ⟨62, _⟩ => ⟨S1x8192x2x4, .f32⟩
  | .hbm, ⟨63, _⟩ => ⟨S1x8192x2x4, .f32⟩
  | .hbm, ⟨64, _⟩ => ⟨S1x8192x2x4, .f32⟩
  | .hbm, ⟨65, _⟩ => ⟨S1x8192x2x4, .f32⟩
  | .hbm, ⟨66, _⟩ => ⟨S1x8192x2x4, .f32⟩
  | .hbm, ⟨67, _⟩ => ⟨S1x8192x2x4, .f32⟩
  | .hbm, ⟨68, _⟩ => ⟨S1x8192x2x4, .f32⟩
  | .hbm, ⟨69, _⟩ => ⟨S1x8192x2x4, .f32⟩
  | .hbm, ⟨70, _⟩ => ⟨S1x8192x512, .bf16⟩
  | .hbm, ⟨71, _⟩ => ⟨S1x8192x512, .bf16⟩
  | .hbm, ⟨72, _⟩ => ⟨S1x8192x512, .bf16⟩
  | .hbm, ⟨73, _⟩ => ⟨S1x64x128x512, .f32⟩
  | .hbm, ⟨74, _⟩ => ⟨S1x64x512x128, .f32⟩
  | .hbm, ⟨75, _⟩ => ⟨S1x64x512x128, .bf16⟩
  | .hbm, ⟨76, _⟩ => ⟨S1x8192x512, .f32⟩
  | .hbm, ⟨77, _⟩ => ⟨S1x8192x512, .f32⟩
  | .hbm, ⟨78, _⟩ => ⟨S_, .f32⟩
  | .hbm, ⟨79, _⟩ => ⟨S1x8192x512, .f32⟩
  | .hbm, ⟨80, _⟩ => ⟨S1x8192x512, .f32⟩
  | .hbm, ⟨81, _⟩ => ⟨S_, .f32⟩
  | .hbm, ⟨82, _⟩ => ⟨S1x8192x512, .f32⟩
  | .hbm, ⟨83, _⟩ => ⟨S1x8192x512, .f32⟩
  | .hbm, ⟨84, _⟩ => ⟨S1x64x128x512, .f32⟩
  | .hbm, ⟨85, _⟩ => ⟨S1x64x512x128, .f32⟩
  | .hbm, ⟨86, _⟩ => ⟨S1x64x512x128, .bf16⟩
  | .hbm, ⟨87, _⟩ => ⟨S1x8192x1x2x4, .f32⟩
  | .hbm, ⟨88, _⟩ => ⟨S1x8192x1x2x4, .f32⟩
  | .hbm, ⟨89, _⟩ => ⟨S1x8192x2x2x4, .f32⟩
  | .hbm, ⟨90, _⟩ => ⟨S1x64x128x16, .f32⟩
  | .hbm, ⟨91, _⟩ => ⟨S1x64x16x128, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_call0_v0 : Ref sig .tc := ⟨.hbm, 54, rfl⟩
abbrev main_call0_call0_cst : Ref sig .tc := ⟨.hbm, 55, rfl⟩
abbrev main_call0_call0_v0 : Ref sig .tc := ⟨.hbm, 56, rfl⟩
abbrev main_call0_call0_v1 : Ref sig .tc := ⟨.hbm, 57, rfl⟩
abbrev main_call0_call0_v2 : Ref sig .tc := ⟨.hbm, 58, rfl⟩
abbrev main_call0_call0_v3 : Ref sig .tc := ⟨.hbm, 59, rfl⟩
abbrev main_call0_call0_v4 : Ref sig .tc := ⟨.hbm, 60, rfl⟩
abbrev main_call0_call0_v5 : Ref sig .tc := ⟨.hbm, 61, rfl⟩
abbrev main_call0_call0_v6 : Ref sig .tc := ⟨.hbm, 62, rfl⟩
abbrev main_call0_call0_v7 : Ref sig .tc := ⟨.hbm, 63, rfl⟩
abbrev main_call0_call0_v8 : Ref sig .tc := ⟨.hbm, 64, rfl⟩
abbrev main_call0_call0_v9 : Ref sig .tc := ⟨.hbm, 65, rfl⟩
abbrev main_call0_call0_v10 : Ref sig .tc := ⟨.hbm, 66, rfl⟩
abbrev main_call0_call0_v11 : Ref sig .tc := ⟨.hbm, 67, rfl⟩
abbrev main_call0_v1 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_4 : Ref sig .tc := ⟨.hbm, 78, rfl⟩
abbrev main_v53 : Ref sig .tc := ⟨.hbm, 79, rfl⟩
abbrev main_v54 : Ref sig .tc := ⟨.hbm, 80, rfl⟩
abbrev main_cst_5 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩

abbrev nD : Nat := 1
abbrev τ : Topo := Topo.v7x

variable {F : FTy → Type} [FloatOps F]
-- ==== Proof.AttnMath.lean ====
/- Attention as arithmetic on extended reals: a softmax whose exponentials are powers of two and whose sum is divided out last is the softmax with
   exponentials of e divided first, when the scores are finite; and the kernel's tiles, each a block of one function of the queries, keys and values. -/
module

public import proofs.«01_k».proof.Proof.Gen.KernelIdeal.Skeleton
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.AttnMath

open Cert.KernelIdeal Cert.KernelIdeal.Gen

/-- The largest of a row of scores. -/
def top (s : Fin 4608 → EReal) : EReal := Finset.fold max (Ideal.ofBits .f32 0xFF800000#32) s Finset.univ

theorem lowest : Ideal.ofBits .f32 0xFF800000#32 = (⊥ : EReal) := by
  simp [Ideal.ofBits, Ideal.ieee]

theorem eighth : Ideal.ofBits .f32 0x3E000000#32 = (((1 : ℝ) / 8 : ℝ) : EReal) := by
  simp [Ideal.ofBits, Ideal.ieee, -EReal.coe_mul]
  norm_num

/-- A row of scores has a place where its largest is. -/
theorem top_eq (s : Fin 4608 → EReal) (x₀ : Fin 4608) (h : ∀ x, s x ≤ s x₀) : top s = s x₀ := by
  unfold top
  rw [lowest]
  apply le_antisymm
  · exact (Finset.fold_max_le _).2 ⟨bot_le, fun x _ => h x⟩
  · exact (Finset.le_fold_max _).2 (Or.inr ⟨x₀, Finset.mem_univ _, le_rfl⟩)

/-- The constant the kernel multiplies the queries by, one eighth over log 2. -/
def scale : EReal := ((8⁻¹ * (Real.log 2)⁻¹ : ℝ) : EReal)

theorem named : (Named.named (F := Ideal) κ "q_scale" (φ := .f32) 0x3E38AA3B#32 : Ideal .f32) = scale := rfl

theorem coe_sum {ι : Type} (S : Finset ι) (f : ι → ℝ) : ∑ x ∈ S, (f x : EReal) = ((∑ x ∈ S, f x : ℝ) : EReal) := by
  classical
  induction S using Finset.induction_on with
  | empty => simp
  | insert a S h ih => rw [Finset.sum_insert h, Finset.sum_insert h, ih, EReal.coe_add]

theorem sum_mul_pos {ι : Type} (S : Finset ι) (f : ι → EReal) (c : EReal) (h0 : 0 ≤ c) (h1 : c ≠ ⊤) :
    c * ∑ x ∈ S, f x = ∑ x ∈ S, c * f x := by
  classical
  induction S using Finset.induction_on with
  | empty => simp
  | insert a S h ih => rw [Finset.sum_insert h, Finset.sum_insert h, EReal.left_distrib_of_nonneg_of_ne_top h0 h1, ih]

/-- The kernel's softmax of a row: powers of two, weighted sums of the values and of the ones, one quotient. -/
def soft (s v o : Fin 4608 → EReal) : EReal :=
  Ideal.div (∑ x, Ideal.exp2 (s x - top s) * v x) (∑ x, Ideal.exp2 (s x - top s) * o x)

/-- The reference's weights of a row. -/
def expo (s : Fin 4608 → EReal) (x : Fin 4608) : EReal :=
  Ideal.exp (s x - max (Ideal.ofBits .f32 0xFF800000#32) (top s))

/-- Scores `B / log 2` under powers of two, divided last, are scores `B` under exponentials, divided first. -/
theorem soft_eq (a b v o : Fin 4608 → EReal) (B : Fin 4608 → ℝ) (ha : ∀ x, a x = ((B x * (Real.log 2)⁻¹ : ℝ) : EReal))
    (hb : ∀ x, b x = ((B x : ℝ) : EReal)) (ho : ∀ x, o x = 1) :
    soft a v o = ∑ x, v x * Ideal.div (expo b x) (∑ x, expo b x) := by
  have hl : 0 < Real.log 2 := Real.log_pos (by norm_num)
  obtain ⟨x₀, -, hx₀⟩ := Finset.exists_max_image (Finset.univ : Finset (Fin 4608)) B ⟨0, Finset.mem_univ _⟩
  have hta : top a = a x₀ := top_eq a x₀ fun x => by
    rw [ha, ha, EReal.coe_le_coe_iff]
    exact mul_le_mul_of_nonneg_right (hx₀ x (Finset.mem_univ _)) (inv_nonneg.2 hl.le)
  have htb : top b = b x₀ := top_eq b x₀ fun x => by
    rw [hb, hb, EReal.coe_le_coe_iff]
    exact hx₀ x (Finset.mem_univ _)
  have hw : ∀ x, expo b x = ((Real.exp (B x - B x₀) : ℝ) : EReal) := fun x => by
    unfold expo
    rw [htb, lowest, max_eq_right bot_le, hb, hb, ← EReal.coe_sub]
    rfl
  have he : ∀ x, Ideal.exp2 (a x - top a) = ((Real.exp (B x - B x₀) : ℝ) : EReal) := fun x => by
    rw [hta, ha, ha, ← EReal.coe_sub, Ideal.exp2_coe]
    congr 1
    show (2 : ℝ) ^ (B x * (Real.log 2)⁻¹ - B x₀ * (Real.log 2)⁻¹) = _
    rw [Real.rpow_def_of_pos (by norm_num)]
    congr 1
    field_simp
  have hS : 0 < ∑ x, Real.exp (B x - B x₀) :=
    Finset.sum_pos (fun x _ => Real.exp_pos _) ⟨0, Finset.mem_univ _⟩
  have hS' : ((∑ x, Real.exp (B x - B x₀) : ℝ) : EReal) ≠ 0 := by
    intro h
    exact hS.ne' (by exact_mod_cast h)
  unfold soft
  simp only [he, hw, ho, mul_one]
  rw [coe_sum]
  unfold Ideal.div
  simp only [if_neg hS']
  rw [← EReal.coe_inv, mul_comm, sum_mul_pos _ _ _ (by exact_mod_cast (inv_pos.2 hS).le) (EReal.coe_ne_top _)]
  refine Finset.sum_congr rfl fun x _ => ?_
  rw [mul_comm (v x), mul_left_comm, mul_assoc]

/-- The cache's rows with the new rows below them, read at a batch, a row, a head and a lane. -/
def rows (new : FVec Ideal S8x4096x2x64 .f32) (old : FVec Ideal S8x512x2x64 .f32) (b : Fin 8) (x : Fin 4608) (p : Fin 2) (c : Fin 64) : EReal :=
  if h : x.val < 512 then old (ix4 b ⟨x.val, h⟩ p c) else new (ix4 b ⟨x.val - 512, by omega⟩ p c)

/-- The kernel's result, read at a batch, a query and a column. -/
def result (q : FVec Ideal S8x4096x8x64 .f32) (k v : FVec Ideal S8x4096x2x64 .f32) (ck cv : FVec Ideal S8x512x2x64 .f32)
    (b : Fin 8) (r : Fin 4096) (n : Fin 512) : EReal :=
  soft (fun x => ∑ c : Fin 64, q (ix4 b r ⟨n.val / 64, by omega⟩ c) * scale * rows k ck b x ⟨n.val / 256, by omega⟩ c)
    (fun x => rows v cv b x ⟨n.val / 256, by omega⟩ ⟨n.val % 64, by omega⟩) (fun _ => 1)

theorem below : ∀ x : Fin 128, IntOp.cmpi .slt (BitVec.ofNat 32 x.val) 64#32 = if x.val < 64 then 1#1 else 0#1 := by decide

/-- The low lanes of a row, kept by a mask. -/
theorem sum_low (f : Fin 128 → EReal) :
    ∑ x : Fin 128, Scalar.select (IntOp.cmpi .slt (BitVec.ofNat 32 x.val) 64#32) (f x) 0 = ∑ c : Fin 64, f ⟨c.val, by omega⟩ := by
  simp only [below]
  rw [Fin.sum_univ_add (a := 64) (b := 64)]
  have h1 : ∀ c : Fin 64, ((Fin.castAdd 64 c : Fin (64 + 64)) : ℕ) < 64 := fun c => c.isLt
  have h2 : ∀ c : Fin 64, ¬((Fin.natAdd 64 c : Fin (64 + 64)) : ℕ) < 64 := fun c => by simp
  simp only [h1, h2, if_true, if_false]
  have e : ∑ c : Fin 64, Scalar.select (0#1) (f (Fin.natAdd 64 c : Fin (64 + 64))) (0 : EReal) = 0 :=
    Finset.sum_eq_zero fun c _ => rfl
  rw [e, add_zero]
  rfl

/-- The high lanes of a row, kept by the mask's complement. -/
theorem sum_high (f : Fin 128 → EReal) :
    ∑ x : Fin 128, Scalar.select (IntOp.xori (IntOp.cmpi .slt (BitVec.ofNat 32 x.val) 64#32) 1#1) (f x) 0 = ∑ c : Fin 64, f ⟨64 + c.val, by omega⟩ := by
  simp only [below]
  rw [Fin.sum_univ_add (a := 64) (b := 64)]
  have h1 : ∀ c : Fin 64, ((Fin.castAdd 64 c : Fin (64 + 64)) : ℕ) < 64 := fun c => c.isLt
  have h2 : ∀ c : Fin 64, ¬((Fin.natAdd 64 c : Fin (64 + 64)) : ℕ) < 64 := fun c => by simp
  simp only [h1, h2, if_true, if_false]
  have e : ∑ c : Fin 64, Scalar.select (IntOp.xori 1#1 1#1) (f (Fin.castAdd 64 c : Fin (64 + 64))) (0 : EReal) = 0 :=
    Finset.sum_eq_zero fun c _ => rfl
  rw [e, zero_add]
  rfl

/-- What one tile stores: two heads side by side, of 128 queries against all keys. -/
def tile (Q : Vec Ideal S1x128x128 .f32) (K V : Vec Ideal S4608x128 .bf16) : FVec Ideal S1x128x128 .bf16 :=
  k0_pay2 (F := Ideal) k0_pay7 (k0_pay11 (k0_pay9 Q K) V) (k0_pay11 (k0_pay10 (k0_pay8 Q K)) V)

theorem low_at (Q : FVec Ideal S1x128x128 .f32) (K V : FVec Ideal S4608x128 .bf16) (r j : Fin 128) :
    k0_pay11 (F := Ideal) (k0_pay9 Q K) V (ix2 r j)
      = soft (fun x => ∑ c : Fin 64, Q (ix3 0 r ⟨c.val, by omega⟩) * scale * K (ix2 x ⟨c.val, by omega⟩))
          (fun x => V (ix2 x j)) (fun x => V (ix2 x ⟨(j.val + 128 - 64) % 128, by omega⟩)) := by
  pointwise [k0_pay11, k0_pay9, k0_pay7]
  simp only [named]
  simp only [sum_low (fun c => Q (ix3 0 r c) * scale * K (ix2 _ c))]
  rfl

theorem high_at (Q : FVec Ideal S1x128x128 .f32) (K V : FVec Ideal S4608x128 .bf16) (r j : Fin 128) :
    k0_pay11 (F := Ideal) (k0_pay10 (k0_pay8 Q K)) V (ix2 r j)
      = soft (fun x => ∑ c : Fin 64, Q (ix3 0 r ⟨64 + c.val, by omega⟩) * scale * K (ix2 x ⟨64 + c.val, by omega⟩))
          (fun x => V (ix2 x j)) (fun x => V (ix2 x ⟨(j.val + 128 - 64) % 128, by omega⟩)) := by
  pointwise [k0_pay11, k0_pay10, k0_pay8, k0_pay7]
  simp only [named]
  simp only [sum_high (fun c => Q (ix3 0 r c) * scale * K (ix2 _ c))]
  rfl

/-- One entry of a tile: lane `j` belongs to head `j / 64` of the two. -/
theorem tile_at (Q : FVec Ideal S1x128x128 .f32) (K V : FVec Ideal S4608x128 .bf16) (r j : Fin 128) :
    tile Q K V (ix3 0 r j)
      = soft (fun x => ∑ c : Fin 64, Q (ix3 0 r ⟨j.val / 64 * 64 + c.val, by omega⟩) * scale * K (ix2 x ⟨j.val / 64 * 64 + c.val, by omega⟩))
          (fun x => V (ix2 x ⟨j.val % 64, by omega⟩)) (fun x => V (ix2 x ⟨64 + j.val % 64, by omega⟩)) := by
  unfold tile
  pointwise [k0_pay2, k0_pay7]
  rw [below, low_at, high_at]
  by_cases h : j.val < 64
  · rw [if_pos h]
    have e0 : j.val / 64 = 0 := by omega
    have e1 : j.val % 64 = j.val := by omega
    have e2 : (j.val + 128 - 64) % 128 = 64 + j.val := by omega
    simp only [e0, e1, e2, Nat.zero_mul, Nat.zero_add]
    rfl
  · rw [if_neg h]
    have e0 : j.val / 64 = 1 := by omega
    have e1 : j.val % 64 = (j.val + 128 - 64) % 128 := by omega
    have e2 : ((j.val + 128 - 64) % 128 + 128 - 64) % 128 = 64 + (j.val + 128 - 64) % 128 := by omega
    simp only [e0, e1, e2, Nat.one_mul]
    rfl

/-- One entry of what a grid point stores: row `r` of 512 queries, lane `n % 64` of head `n / 64`. -/
def entry (Q : FVec Ideal S1x512x512 .f32) (K V : FVec Ideal S4608x256 .bf16) (r n : Fin 512) : EReal :=
  soft (fun x => ∑ c : Fin 64, Q (ix3 0 r ⟨n.val / 64 * 64 + c.val, by omega⟩) * scale * K (ix2 x ⟨n.val / 256 * 128 + n.val / 64 % 2 * 64 + c.val, by omega⟩))
    (fun x => V (ix2 x ⟨n.val / 256 * 128 + n.val % 64, by omega⟩))
    (fun x => V (ix2 x ⟨n.val / 256 * 128 + 64 + n.val % 64, by omega⟩))

/-- What a grid point stores: every head of 512 queries against all keys. -/
def block (Q : FVec Ideal S1x512x512 .f32) (K V : FVec Ideal S4608x256 .bf16) : FVec Ideal S1x512x512 .bf16 := fun i => entry Q K V (i 1) (i 2)

/-- A tile of the rows from `a` and the columns from `128 p` is that part of the block. -/
theorem tile_piece (Q : FVec Ideal S1x512x512 .f32) (K V : FVec Ideal S4608x256 .bf16) (a p o k : ℕ) (ho : o = p * 128) (hk : k = p / 2 * 128)
    (i1 : ∀ d, (![0, a, o] : Fin 3 → ℕ) d + (![1, 128, 128] : Fin 3 → ℕ) d ≤ S1x512x512.size d)
    (i2 : ∀ d, (![0, k] : Fin 2 → ℕ) d + (![4608, 128] : Fin 2 → ℕ) d ≤ S4608x256.size d) (x : S1x128x128.Idx) :
    tile (View.ld Q (Rect.unit (s := S1x512x512) ![0, a, o] ![1, 128, 128] i1))
        (View.ld K (Rect.unit (s := S4608x256) ![0, k] ![4608, 128] i2))
        (View.ld V (Rect.unit (s := S4608x256) ![0, k] ![4608, 128] i2)) x
      = block Q K V ((Rect.unit (s := S1x512x512) ![0, a, o] ![1, 128, 128] i1).emb x) := by
  subst ho hk
  obtain ⟨z, r, j, rfl⟩ : ∃ (z : Fin 1) (r j : Fin 128), x = ix3 z r j := ⟨x 0, x 1, x 2, eq_ix3 x⟩
  obtain rfl : z = 0 := Subsingleton.elim _ _
  rw [tile_at]
  have e1 : (Rect.unit (s := S1x512x512) ![0, a, p * 128] ![1, 128, 128] i1).emb (ix3 0 r j) = ix3 0 ⟨a + r.val, by have := i1 1; have := r.isLt; simp at *; omega⟩ ⟨p * 128 + j.val, by have := i1 2; have := j.isLt; simp at *; omega⟩ := by
    funext d
    apply Fin.ext
    match d with
    | ⟨0, _⟩ => rfl
    | ⟨1, _⟩ => show a + 1 * r.val = a + r.val; omega
    | ⟨2, _⟩ => show p * 128 + 1 * j.val = p * 128 + j.val; omega
  rw [e1]
  show _ = entry Q K V _ _
  unfold entry
  pointwise
  have hj := j.isLt
  have f1 : (p * 128 + j.val) / 64 * 64 = p * 128 + j.val / 64 * 64 := by omega
  have f2 : (p * 128 + j.val) / 256 = p / 2 := by omega
  have f3 : (p * 128 + j.val) / 64 % 2 = j.val / 64 := by omega
  have f4 : (p * 128 + j.val) % 64 = j.val % 64 := by omega
  simp only [f1, f2, f3, f4, Nat.add_assoc]

end Cert.AttnMath

end
-- ==== Proof.AttnValue.lean ====
/- What the attention kernel stores over its whole launch, as one function of the arguments. -/
module

public import proofs.«01_k».proof.Proof.Gen.KernelIdeal.Value
public import proofs.«01_k».proof.Proof.AttnMath
public import Idealize.ShloMosaic.Lib.Claim
public import Idealize.ShloMosaic.Lib.Ring
public import Idealize.ShloMosaic.Lib.Pipeline.ReadBack
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen

variable (m : (ℓ : Loc nD τ sig) → Buf (Elt Ideal) ℓ)

/-- Which block each window of the launch holds at a grid point. -/
theorem idx : ∀ t : Fin cfg0.N, win0_0.index t = ![t.val / 8, t.val % 8, 0] ∧ win0_1.index t = ![t.val / 8, 0, 0] ∧ win0_2.index t = ![t.val / 8, 0, 0] ∧ win0_3.index t = ![t.val / 8, 0, 0] ∧ win0_4.index t = ![t.val / 8, 0, 0] ∧ win0_5.index t = ![t.val / 8, t.val % 8, 0] :=
  (by decide +kernel : ∀ t : Fin grid0.N, _)

/-- Stores that are blocks of `G` and cover the buffer leave `G`. -/
theorem canon_pieces {s : Shape} {e : EltTy} {Val : EltTy → Type} [∀ e, Nonempty (Val e)]
    (L : List (View.Piece Val s e)) (G : s.Idx → Val e) (hc : ∀ y : s.Idx, ∃ p ∈ L, y ∈ p.1.set) (h : View.PiecesOf G L) :
    View.canon L = G := by
  funext y
  simpa using View.canon_append_of_piecesOf G [] L h y (hc y)

/-- Two arrays of rows, the second below the first: the copy of the keys, or of the values, that the launch keeps. -/
def stacked (A : FVec Ideal S1x512x256 .bf16) (B : FVec Ideal S1x4096x256 .bf16) : FVec Ideal S4608x256 .bf16 := fun i =>
  if h : (i 0 : Fin 4608).val < 512 then A (ix3 0 ⟨(i 0 : Fin 4608).val, h⟩ (i 1))
  else B (ix3 0 ⟨(i 0 : Fin 4608).val - 512, by have := (show Fin 4608 from i 0).isLt; simp at *; omega⟩ (i 1))

theorem upper_piece (A : FVec Ideal S1x512x256 .bf16) (B : FVec Ideal S1x4096x256 .bf16)
    (i : ∀ d, (![0, 0] : Fin 2 → ℕ) d + (![512, 256] : Fin 2 → ℕ) d ≤ S4608x256.size d) (x : S512x256.Idx) :
    k0_pay3 (F := Ideal) A x = stacked A B ((Rect.unit (s := S4608x256) ![0, 0] ![512, 256] i).emb x) := by
  obtain ⟨r, n, rfl⟩ : ∃ (r : Fin 512) (n : Fin 256), x = ix2 r n := ⟨x 0, x 1, eq_ix2 x⟩
  have e : (Rect.unit (s := S4608x256) ![0, 0] ![512, 256] i).emb (ix2 r n) = ix2 ⟨r.val, by omega⟩ n := by
    funext d
    apply Fin.ext
    match d with
    | ⟨0, _⟩ => show 0 + 1 * r.val = r.val; omega
    | ⟨1, _⟩ => show 0 + 1 * n.val = n.val; omega
  rw [e]
  unfold stacked
  pointwise [k0_pay3]

theorem lower_piece (A : FVec Ideal S1x512x256 .bf16) (B : FVec Ideal S1x4096x256 .bf16)
    (i : ∀ d, (![512, 0] : Fin 2 → ℕ) d + (![4096, 256] : Fin 2 → ℕ) d ≤ S4608x256.size d) (x : S4096x256.Idx) :
    k0_pay5 (F := Ideal) B x = stacked A B ((Rect.unit (s := S4608x256) ![512, 0] ![4096, 256] i).emb x) := by
  obtain ⟨r, n, rfl⟩ : ∃ (r : Fin 4096) (n : Fin 256), x = ix2 r n := ⟨x 0, x 1, eq_ix2 x⟩
  have e : (Rect.unit (s := S4608x256) ![512, 0] ![4096, 256] i).emb (ix2 r n) = ix2 ⟨512 + r.val, by omega⟩ n := by
    funext d
    apply Fin.ext
    match d with
    | ⟨0, _⟩ => show 512 + 1 * r.val = 512 + r.val; omega
    | ⟨1, _⟩ => show 0 + 1 * n.val = n.val; omega
  rw [e]
  unfold stacked
  pointwise [k0_pay5]

/-- The stacked arrays at a grid point. -/
def keysAt (c : Dev nD) (t : Fin cfg0.N) : FVec Ideal S4608x256 .bf16 := stacked (iblk m c 1 t) (iblk m c 2 t)
def valsAt (c : Dev nD) (t : Fin cfg0.N) : FVec Ideal S4608x256 .bf16 := stacked (iblk m c 3 t) (iblk m c 4 t)

theorem keys_write (c : Dev nD) (t : Fin cfg0.N) (h : t.val % 8 = 0) : (outsAt0 m c t.val t.isLt).2.1 = keysAt m c t := by
  rw [outsAt0_A m c t h]
  frame_out
  refine canon_pieces _ _ (View.cover_of_tiledBy _ ![512, 256] (by sl_kernel_rfl)) ⟨fun x => ?_, fun x => ?_, trivial⟩
  · exact lower_piece (iblk m c 1 t) (iblk m c 2 t) inb_S4608x256_S4096x256_512_0 x
  · exact upper_piece (iblk m c 1 t) (iblk m c 2 t) inb_S4608x256_S512x256_0_0 x

theorem vals_write (c : Dev nD) (t : Fin cfg0.N) (h : t.val % 8 = 0) : (outsAt0 m c t.val t.isLt).2.2 = valsAt m c t := by
  rw [outsAt0_A m c t h]
  frame_out
  refine canon_pieces _ _ (View.cover_of_tiledBy _ ![512, 256] (by sl_kernel_rfl)) ⟨fun x => ?_, fun x => ?_, trivial⟩
  · exact lower_piece (iblk m c 3 t) (iblk m c 4 t) inb_S4608x256_S4096x256_512_0 x
  · exact upper_piece (iblk m c 3 t) (iblk m c 4 t) inb_S4608x256_S512x256_0_0 x

theorem keys_hold (c : Dev nD) (t : Fin cfg0.N) (h : ¬t.val % 8 = 0) :
    (outsAt0 m c t.val t.isLt).2.1 = (outsAt0 m c (t.val - 1) (by omega)).2.1 := by
  rw [outsAt0_B m c t h]
  rfl

theorem vals_hold (c : Dev nD) (t : Fin cfg0.N) (h : ¬t.val % 8 = 0) :
    (outsAt0 m c t.val t.isLt).2.2 = (outsAt0 m c (t.val - 1) (by omega)).2.2 := by
  rw [outsAt0_B m c t h]
  rfl

/-- At every grid point the kept keys are those of the batch's first point. -/
theorem keys_kept (c : Dev nD) (t : Fin cfg0.N) :
    (outsAt0 m c t.val t.isLt).2.1 = keysAt m c ⟨8 * (t.val / 8), Pipeline.run_start_lt t⟩ :=
  Pipeline.eq_of_write_hold (fun n h => (outsAt0 m c n h).2.1) 8 (keysAt m c) (keys_write m c) (keys_hold m c) t

theorem vals_kept (c : Dev nD) (t : Fin cfg0.N) :
    (outsAt0 m c t.val t.isLt).2.2 = valsAt m c ⟨8 * (t.val / 8), Pipeline.run_start_lt t⟩ :=
  Pipeline.eq_of_write_hold (fun n h => (outsAt0 m c n h).2.2) 8 (valsAt m c) (vals_write m c) (vals_hold m c) t

/-- The new keys as the launch receives them: each head twice over. -/
def newKeys (k : FVec Ideal S8x4096x2x64 .f32) : FVec Ideal S8x4096x256 .bf16 :=
  let a := shapeCast S8x4096x128 k shapeCasts_S8x4096x2x64_S8x4096x128
  let l := extractStridedSlice S8x4096x64 ![0, 0, 0] a slices_S8x4096x128_S8x4096x64_0_0_0
  let h := extractStridedSlice S8x4096x64 ![0, 0, 64] a slices_S8x4096x128_S8x4096x64_0_0_64
  truncf .bf16 (concatenate S8x4096x256 2 [⟨S8x4096x64, l⟩, ⟨S8x4096x64, l⟩, ⟨S8x4096x64, h⟩, ⟨S8x4096x64, h⟩] concatenates_S8x4096x64_S8x4096x64_S8x4096x64_S8x4096x64_S8x4096x256_d2) bitsLt_bf16_f32

/-- The cached keys as the launch receives them. -/
def oldKeys (k : FVec Ideal S8x512x2x64 .f32) : FVec Ideal S8x512x256 .bf16 :=
  let a := shapeCast S8x512x128 k shapeCasts_S8x512x2x64_S8x512x128
  let l := extractStridedSlice S8x512x64 ![0, 0, 0] a slices_S8x512x128_S8x512x64_0_0_0
  let h := extractStridedSlice S8x512x64 ![0, 0, 64] a slices_S8x512x128_S8x512x64_0_0_64
  truncf .bf16 (concatenate S8x512x256 2 [⟨S8x512x64, l⟩, ⟨S8x512x64, l⟩, ⟨S8x512x64, h⟩, ⟨S8x512x64, h⟩] concatenates_S8x512x64_S8x512x64_S8x512x64_S8x512x64_S8x512x256_d2) bitsLt_bf16_f32

/-- The new values as the launch receives them: each head followed by ones. -/
def newVals (v : FVec Ideal S8x4096x2x64 .f32) : FVec Ideal S8x4096x256 .bf16 :=
  let a := shapeCast S8x4096x128 v shapeCasts_S8x4096x2x64_S8x4096x128
  let l := extractStridedSlice S8x4096x64 ![0, 0, 0] a slices_S8x4096x128_S8x4096x64_0_0_0
  let h := extractStridedSlice S8x4096x64 ![0, 0, 64] a slices_S8x4096x128_S8x4096x64_0_0_64
  let o : FVec Ideal S8x4096x64 .f32 := broadcastInDim S8x4096x64 ![] bcast_S_S8x4096x64 (constant S_ .f32 0x3F800000#32)
  truncf .bf16 (concatenate S8x4096x256 2 [⟨S8x4096x64, l⟩, ⟨S8x4096x64, o⟩, ⟨S8x4096x64, h⟩, ⟨S8x4096x64, o⟩] concatenates_S8x4096x64_S8x4096x64_S8x4096x64_S8x4096x64_S8x4096x256_d2) bitsLt_bf16_f32

/-- The cached values as the launch receives them. -/
def oldVals (v : FVec Ideal S8x512x2x64 .f32) : FVec Ideal S8x512x256 .bf16 :=
  let a := shapeCast S8x512x128 v shapeCasts_S8x512x2x64_S8x512x128
  let l := extractStridedSlice S8x512x64 ![0, 0, 0] a slices_S8x512x128_S8x512x64_0_0_0
  let h := extractStridedSlice S8x512x64 ![0, 0, 64] a slices_S8x512x128_S8x512x64_0_0_64
  let o : FVec Ideal S8x512x64 .f32 := broadcastInDim S8x512x64 ![] bcast_S_S8x512x64 (constant S_ .f32 0x3F800000#32)
  truncf .bf16 (concatenate S8x512x256 2 [⟨S8x512x64, l⟩, ⟨S8x512x64, o⟩, ⟨S8x512x64, h⟩, ⟨S8x512x64, o⟩] concatenates_S8x512x64_S8x512x64_S8x512x64_S8x512x64_S8x512x256_d2) bitsLt_bf16_f32

theorem newKeys_at (k : FVec Ideal S8x4096x2x64 .f32) (b : Fin 8) (x : Fin 4096) (n : Fin 256) :
    newKeys k (ix3 b x n) = k (ix4 b x ⟨n.val / 128, by omega⟩ ⟨n.val % 64, by omega⟩) := by
  unfold newKeys
  pointwise
  split_ifs <;> (refine congrArg k ?_; congr 1 <;> (apply Fin.ext; dsimp only; omega))

theorem oldKeys_at (k : FVec Ideal S8x512x2x64 .f32) (b : Fin 8) (x : Fin 512) (n : Fin 256) :
    oldKeys k (ix3 b x n) = k (ix4 b x ⟨n.val / 128, by omega⟩ ⟨n.val % 64, by omega⟩) := by
  unfold oldKeys
  pointwise
  split_ifs <;> (refine congrArg k ?_; congr 1 <;> (apply Fin.ext; dsimp only; omega))

theorem newVals_at (v : FVec Ideal S8x4096x2x64 .f32) (b : Fin 8) (x : Fin 4096) (n : Fin 256) :
    newVals v (ix3 b x n) = if n.val % 128 < 64 then v (ix4 b x ⟨n.val / 128, by omega⟩ ⟨n.val % 64, by omega⟩) else (1 : EReal) := by
  unfold newVals
  pointwise
  by_cases a : n.val % 128 < 64
  · rw [if_pos a]
    split_ifs
    all_goals first | (exfalso; omega) | (refine congrArg v ?_; congr 1 <;> (apply Fin.ext; dsimp only; omega))
  · rw [if_neg a]
    split_ifs
    all_goals first | (exfalso; omega) | rfl

theorem oldVals_at (v : FVec Ideal S8x512x2x64 .f32) (b : Fin 8) (x : Fin 512) (n : Fin 256) :
    oldVals v (ix3 b x n) = if n.val % 128 < 64 then v (ix4 b x ⟨n.val / 128, by omega⟩ ⟨n.val % 64, by omega⟩) else (1 : EReal) := by
  unfold oldVals
  pointwise
  by_cases a : n.val % 128 < 64
  · rw [if_pos a]
    split_ifs
    all_goals first | (exfalso; omega) | (refine congrArg v ?_; congr 1 <;> (apply Fin.ext; dsimp only; omega))
  · rw [if_neg a]
    split_ifs
    all_goals first | (exfalso; omega) | rfl

theorem batch_lt (t : Fin cfg0.N) : t.val / 8 < 8 := by
  have h := t.isLt
  have e : cfg0.N = 64 := rfl
  omega

theorem row_lt (t : Fin cfg0.N) (r : Fin 512) : t.val % 8 * 512 + r.val < 4096 := by omega

theorem oldKeys_blk (c : Dev nD) (t : Fin cfg0.N) (x : Fin 512) (n : Fin 256) :
    (iblk m c 1 t : FVec Ideal S1x512x256 .bf16) (ix3 0 x n) = oldKeys (m (c.tc.loc main_arg3)) (ix3 ⟨t.val / 8, batch_lt t⟩ x n) := by
  refine congrArg (oldKeys (m (c.tc.loc main_arg3))) (funext fun d => Fin.ext ?_)
  have e := (idx t).2.1
  match d with
  | ⟨0, _⟩ => show (win0_1.index t) 0 * 1 + 1 * 0 = t.val / 8; rw [e]; show t.val / 8 * 1 + 1 * 0 = t.val / 8; omega
  | ⟨1, _⟩ => show (win0_1.index t) 1 * 512 + 1 * x.val = x.val; rw [e]; show 0 * 512 + 1 * x.val = x.val; omega
  | ⟨2, _⟩ => show (win0_1.index t) 2 * 256 + 1 * n.val = n.val; rw [e]; show 0 * 256 + 1 * n.val = n.val; omega

theorem newKeys_blk (c : Dev nD) (t : Fin cfg0.N) (x : Fin 4096) (n : Fin 256) :
    (iblk m c 2 t : FVec Ideal S1x4096x256 .bf16) (ix3 0 x n) = newKeys (m (c.tc.loc main_arg1)) (ix3 ⟨t.val / 8, batch_lt t⟩ x n) := by
  refine congrArg (newKeys (m (c.tc.loc main_arg1))) (funext fun d => Fin.ext ?_)
  have e := (idx t).2.2.1
  match d with
  | ⟨0, _⟩ => show (win0_2.index t) 0 * 1 + 1 * 0 = t.val / 8; rw [e]; show t.val / 8 * 1 + 1 * 0 = t.val / 8; omega
  | ⟨1, _⟩ => show (win0_2.index t) 1 * 4096 + 1 * x.val = x.val; rw [e]; show 0 * 4096 + 1 * x.val = x.val; omega
  | ⟨2, _⟩ => show (win0_2.index t) 2 * 256 + 1 * n.val = n.val; rw [e]; show 0 * 256 + 1 * n.val = n.val; omega

theorem oldVals_blk (c : Dev nD) (t : Fin cfg0.N) (x : Fin 512) (n : Fin 256) :
    (iblk m c 3 t : FVec Ideal S1x512x256 .bf16) (ix3 0 x n) = oldVals (m (c.tc.loc main_arg4)) (ix3 ⟨t.val / 8, batch_lt t⟩ x n) := by
  refine congrArg (oldVals (m (c.tc.loc main_arg4))) (funext fun d => Fin.ext ?_)
  have e := (idx t).2.2.2.1
  match d with
  | ⟨0, _⟩ => show (win0_3.index t) 0 * 1 + 1 * 0 = t.val / 8; rw [e]; show t.val / 8 * 1 + 1 * 0 = t.val / 8; omega
  | ⟨1, _⟩ => show (win0_3.index t) 1 * 512 + 1 * x.val = x.val; rw [e]; show 0 * 512 + 1 * x.val = x.val; omega
  | ⟨2, _⟩ => show (win0_3.index t) 2 * 256 + 1 * n.val = n.val; rw [e]; show 0 * 256 + 1 * n.val = n.val; omega

theorem newVals_blk (c : Dev nD) (t : Fin cfg0.N) (x : Fin 4096) (n : Fin 256) :
    (iblk m c 4 t : FVec Ideal S1x4096x256 .bf16) (ix3 0 x n) = newVals (m (c.tc.loc main_arg2)) (ix3 ⟨t.val / 8, batch_lt t⟩ x n) := by
  refine congrArg (newVals (m (c.tc.loc main_arg2))) (funext fun d => Fin.ext ?_)
  have e := (idx t).2.2.2.2.1
  match d with
  | ⟨0, _⟩ => show (win0_4.index t) 0 * 1 + 1 * 0 = t.val / 8; rw [e]; show t.val / 8 * 1 + 1 * 0 = t.val / 8; omega
  | ⟨1, _⟩ => show (win0_4.index t) 1 * 4096 + 1 * x.val = x.val; rw [e]; show 0 * 4096 + 1 * x.val = x.val; omega
  | ⟨2, _⟩ => show (win0_4.index t) 2 * 256 + 1 * n.val = n.val; rw [e]; show 0 * 256 + 1 * n.val = n.val; omega

theorem queries_blk (c : Dev nD) (t : Fin cfg0.N) (r n : Fin 512) :
    (iblk m c 0 t : FVec Ideal S1x512x512 .f32) (ix3 0 r n)
      = (m (c.tc.loc main_arg0) : FVec Ideal S8x4096x8x64 .f32) (ix4 ⟨t.val / 8, batch_lt t⟩ ⟨t.val % 8 * 512 + r.val, row_lt t r⟩ ⟨n.val / 64, by omega⟩ ⟨n.val % 64, by omega⟩) := by
  blk_point [iblk, V, idx t]

/-- The kept keys read at a row and a column. -/
theorem keysAt_at (c : Dev nD) (t : Fin cfg0.N) (x : Fin 4608) (n : Fin 256) :
    keysAt m c t (ix2 x n)
      = AttnMath.rows (m (c.tc.loc main_arg1)) (m (c.tc.loc main_arg3)) ⟨t.val / 8, batch_lt t⟩ x ⟨n.val / 128, by omega⟩ ⟨n.val % 64, by omega⟩ := by
  unfold keysAt stacked AttnMath.rows
  show (if h : x.val < 512 then (iblk m c 1 t : FVec Ideal S1x512x256 .bf16) (ix3 0 ⟨x.val, h⟩ n) else (iblk m c 2 t : FVec Ideal S1x4096x256 .bf16) (ix3 0 ⟨x.val - 512, _⟩ n)) = _
  split_ifs with h
  · rw [oldKeys_blk, oldKeys_at]
  · rw [newKeys_blk, newKeys_at]

/-- The kept values read at a row and a column: every other half head is ones. -/
theorem valsAt_at (c : Dev nD) (t : Fin cfg0.N) (x : Fin 4608) (n : Fin 256) :
    valsAt m c t (ix2 x n) = if n.val % 128 < 64
      then AttnMath.rows (m (c.tc.loc main_arg2)) (m (c.tc.loc main_arg4)) ⟨t.val / 8, batch_lt t⟩ x ⟨n.val / 128, by omega⟩ ⟨n.val % 64, by omega⟩
      else (1 : EReal) := by
  unfold valsAt stacked AttnMath.rows
  show (if h : x.val < 512 then (iblk m c 3 t : FVec Ideal S1x512x256 .bf16) (ix3 0 ⟨x.val, h⟩ n) else (iblk m c 4 t : FVec Ideal S1x4096x256 .bf16) (ix3 0 ⟨x.val - 512, _⟩ n)) = _
  by_cases h : x.val < 512
  · simp only [dif_pos h]
    rw [oldVals_blk, oldVals_at]
  · simp only [dif_neg h]
    rw [newVals_blk, newVals_at]

open AttnMath in
/-- What a grid point stores, read at a row and a column. -/
theorem block_at (c : Dev nD) (t s : Fin cfg0.N) (hs : s.val / 8 = t.val / 8) (r n : Fin 512) :
    entry (iblk m c 0 t) (keysAt m c s) (valsAt m c s) r n
      = result (m (c.tc.loc main_arg0)) (m (c.tc.loc main_arg1)) (m (c.tc.loc main_arg2)) (m (c.tc.loc main_arg3)) (m (c.tc.loc main_arg4))
          ⟨t.val / 8, batch_lt t⟩ ⟨t.val % 8 * 512 + r.val, row_lt t r⟩ n := by
  have hn := n.isLt
  unfold entry result
  congr 1
  · funext x
    refine Finset.sum_congr rfl fun k _ => ?_
    rw [queries_blk, keysAt_at]
    have e1 : (n.val / 64 * 64 + k.val) / 64 = n.val / 64 := by omega
    have e2 : (n.val / 64 * 64 + k.val) % 64 = k.val := by omega
    have e3 : (n.val / 256 * 128 + n.val / 64 % 2 * 64 + k.val) / 128 = n.val / 256 := by omega
    have e4 : (n.val / 256 * 128 + n.val / 64 % 2 * 64 + k.val) % 64 = k.val := by omega
    simp only [e1, e2, e3, e4, hs]
  · funext x
    rw [valsAt_at, if_pos (show (n.val / 256 * 128 + n.val % 64) % 128 < 64 by omega)]
    have e1 : (n.val / 256 * 128 + n.val % 64) / 128 = n.val / 256 := by omega
    have e2 : (n.val / 256 * 128 + n.val % 64) % 64 = n.val % 64 := by omega
    simp only [e1, e2, hs]
  · funext x
    rw [valsAt_at, if_neg (show ¬(n.val / 256 * 128 + 64 + n.val % 64) % 128 < 64 by omega)]

theorem out_hold (c : Dev nD) (t : Fin cfg0.N) (h : ¬t.val % 8 = 0) (K V : FVec Ideal S4608x256 .bf16)
    (hK : (outsAt0 m c (t.val - 1) (by omega)).2.1 = K) (hV : (outsAt0 m c (t.val - 1) (by omega)).2.2 = V) :
    (outsAt0 m c t.val t.isLt).1 = AttnMath.block (iblk m c 0 t) K V := by
  rw [outsAt0_B m c t h]
  frame_out
  simp only [read_unread_whole]
  rw [hK, hV]
  refine canon_pieces _ _ (View.cover_of_tiledL _ ![1, 128, 128] (by sl_kernel_rfl))
    ⟨fun x => AttnMath.tile_piece _ K V 384 3 384 128 rfl rfl inb_S1x512x512_S1x128x128_0_384_384 inb_S4608x256_S4608x128_0_128 x,
      fun x => AttnMath.tile_piece _ K V 384 2 256 128 rfl rfl inb_S1x512x512_S1x128x128_0_384_256 inb_S4608x256_S4608x128_0_128 x,
      fun x => AttnMath.tile_piece _ K V 384 1 128 0 rfl rfl inb_S1x512x512_S1x128x128_0_384_128 inb_S4608x256_S4608x128_0_0 x,
      fun x => AttnMath.tile_piece _ K V 384 0 0 0 rfl rfl inb_S1x512x512_S1x128x128_0_384_0 inb_S4608x256_S4608x128_0_0 x,
      fun x => AttnMath.tile_piece _ K V 256 3 384 128 rfl rfl inb_S1x512x512_S1x128x128_0_256_384 inb_S4608x256_S4608x128_0_128 x,
      fun x => AttnMath.tile_piece _ K V 256 2 256 128 rfl rfl inb_S1x512x512_S1x128x128_0_256_256 inb_S4608x256_S4608x128_0_128 x,
      fun x => AttnMath.tile_piece _ K V 256 1 128 0 rfl rfl inb_S1x512x512_S1x128x128_0_256_128 inb_S4608x256_S4608x128_0_0 x,
      fun x => AttnMath.tile_piece _ K V 256 0 0 0 rfl rfl inb_S1x512x512_S1x128x128_0_256_0 inb_S4608x256_S4608x128_0_0 x,
      fun x => AttnMath.tile_piece _ K V 128 3 384 128 rfl rfl inb_S1x512x512_S1x128x128_0_128_384 inb_S4608x256_S4608x128_0_128 x,
      fun x => AttnMath.tile_piece _ K V 128 2 256 128 rfl rfl inb_S1x512x512_S1x128x128_0_128_256 inb_S4608x256_S4608x128_0_128 x,
      fun x => AttnMath.tile_piece _ K V 128 1 128 0 rfl rfl inb_S1x512x512_S1x128x128_0_128_128 inb_S4608x256_S4608x128_0_0 x,
      fun x => AttnMath.tile_piece _ K V 128 0 0 0 rfl rfl inb_S1x512x512_S1x128x128_0_128_0 inb_S4608x256_S4608x128_0_0 x,
      fun x => AttnMath.tile_piece _ K V 0 3 384 128 rfl rfl inb_S1x512x512_S1x128x128_0_0_384 inb_S4608x256_S4608x128_0_128 x,
      fun x => AttnMath.tile_piece _ K V 0 2 256 128 rfl rfl inb_S1x512x512_S1x128x128_0_0_256 inb_S4608x256_S4608x128_0_128 x,
      fun x => AttnMath.tile_piece _ K V 0 1 128 0 rfl rfl inb_S1x512x512_S1x128x128_0_0_128 inb_S4608x256_S4608x128_0_0 x,
      fun x => AttnMath.tile_piece _ K V 0 0 0 0 rfl rfl inb_S1x512x512_S1x128x128_0_0_0 inb_S4608x256_S4608x128_0_0 x, trivial⟩

/-- A load from the two stored pieces is a load from the stacked rows. -/
theorem keys_ld (c : Dev nD) (t : Fin cfg0.N) (v : View sig .tc .vmem S4608x256 .bf16) (b : Rect S4608x256) :
    v.readCov (Val := Elt Ideal) [⟨Rect.unit (s := S4608x256) ![512, 0] ![4096, 256] inb_S4608x256_S4096x256_512_0, k0_pay5 (F := Ideal) (iblk m c 2 t)⟩,
        ⟨Rect.unit (s := S4608x256) ![0, 0] ![512, 256] inb_S4608x256_S512x256_0_0, k0_pay3 (F := Ideal) (iblk m c 1 t)⟩] b.toLoadRect
      = View.ld (keysAt m c t) b := by
  have e : View.canon (Val := Elt Ideal) (s := S4608x256) (e := .bf16) [⟨Rect.unit (s := S4608x256) ![512, 0] ![4096, 256] inb_S4608x256_S4096x256_512_0, k0_pay5 (F := Ideal) (iblk m c 2 t)⟩,
        ⟨Rect.unit (s := S4608x256) ![0, 0] ![512, 256] inb_S4608x256_S512x256_0_0, k0_pay3 (F := Ideal) (iblk m c 1 t)⟩] = keysAt m c t := by
    refine canon_pieces _ _ (View.cover_of_tiledBy _ ![512, 256] (by sl_kernel_rfl)) ⟨fun x => ?_, fun x => ?_, trivial⟩
    · exact lower_piece (iblk m c 1 t) (iblk m c 2 t) inb_S4608x256_S4096x256_512_0 x
    · exact upper_piece (iblk m c 1 t) (iblk m c 2 t) inb_S4608x256_S512x256_0_0 x
  rw [View.readCov_eq_canon', e]

theorem vals_ld (c : Dev nD) (t : Fin cfg0.N) (v : View sig .tc .vmem S4608x256 .bf16) (b : Rect S4608x256) :
    v.readCov (Val := Elt Ideal) [⟨Rect.unit (s := S4608x256) ![512, 0] ![4096, 256] inb_S4608x256_S4096x256_512_0, k0_pay6 (F := Ideal) (iblk m c 4 t)⟩,
        ⟨Rect.unit (s := S4608x256) ![0, 0] ![512, 256] inb_S4608x256_S512x256_0_0, k0_pay4 (F := Ideal) (iblk m c 3 t)⟩] b.toLoadRect
      = View.ld (valsAt m c t) b := by
  have e : View.canon (Val := Elt Ideal) (s := S4608x256) (e := .bf16) [⟨Rect.unit (s := S4608x256) ![512, 0] ![4096, 256] inb_S4608x256_S4096x256_512_0, k0_pay6 (F := Ideal) (iblk m c 4 t)⟩,
        ⟨Rect.unit (s := S4608x256) ![0, 0] ![512, 256] inb_S4608x256_S512x256_0_0, k0_pay4 (F := Ideal) (iblk m c 3 t)⟩] = valsAt m c t := by
    refine canon_pieces _ _ (View.cover_of_tiledBy _ ![512, 256] (by sl_kernel_rfl)) ⟨fun x => ?_, fun x => ?_, trivial⟩
    · exact lower_piece (iblk m c 3 t) (iblk m c 4 t) inb_S4608x256_S4096x256_512_0 x
    · exact upper_piece (iblk m c 3 t) (iblk m c 4 t) inb_S4608x256_S512x256_0_0 x
  rw [View.readCov_eq_canon', e]

theorem out_write (c : Dev nD) (t : Fin cfg0.N) (h : t.val % 8 = 0) :
    (outsAt0 m c t.val t.isLt).1 = AttnMath.block (iblk m c 0 t) (keysAt m c t) (valsAt m c t) := by
  rw [outsAt0_A m c t h]
  frame_out
  simp only [keys_ld, vals_ld]
  refine canon_pieces _ _ (View.cover_of_tiledL _ ![1, 128, 128] (by sl_kernel_rfl))
    ⟨fun x => AttnMath.tile_piece _ (keysAt m c t) (valsAt m c t) 384 3 384 128 rfl rfl inb_S1x512x512_S1x128x128_0_384_384 inb_S4608x256_S4608x128_0_128 x,
      fun x => AttnMath.tile_piece _ (keysAt m c t) (valsAt m c t) 384 2 256 128 rfl rfl inb_S1x512x512_S1x128x128_0_384_256 inb_S4608x256_S4608x128_0_128 x,
      fun x => AttnMath.tile_piece _ (keysAt m c t) (valsAt m c t) 384 1 128 0 rfl rfl inb_S1x512x512_S1x128x128_0_384_128 inb_S4608x256_S4608x128_0_0 x,
      fun x => AttnMath.tile_piece _ (keysAt m c t) (valsAt m c t) 384 0 0 0 rfl rfl inb_S1x512x512_S1x128x128_0_384_0 inb_S4608x256_S4608x128_0_0 x,
      fun x => AttnMath.tile_piece _ (keysAt m c t) (valsAt m c t) 256 3 384 128 rfl rfl inb_S1x512x512_S1x128x128_0_256_384 inb_S4608x256_S4608x128_0_128 x,
      fun x => AttnMath.tile_piece _ (keysAt m c t) (valsAt m c t) 256 2 256 128 rfl rfl inb_S1x512x512_S1x128x128_0_256_256 inb_S4608x256_S4608x128_0_128 x,
      fun x => AttnMath.tile_piece _ (keysAt m c t) (valsAt m c t) 256 1 128 0 rfl rfl inb_S1x512x512_S1x128x128_0_256_128 inb_S4608x256_S4608x128_0_0 x,
      fun x => AttnMath.tile_piece _ (keysAt m c t) (valsAt m c t) 256 0 0 0 rfl rfl inb_S1x512x512_S1x128x128_0_256_0 inb_S4608x256_S4608x128_0_0 x,
      fun x => AttnMath.tile_piece _ (keysAt m c t) (valsAt m c t) 128 3 384 128 rfl rfl inb_S1x512x512_S1x128x128_0_128_384 inb_S4608x256_S4608x128_0_128 x,
      fun x => AttnMath.tile_piece _ (keysAt m c t) (valsAt m c t) 128 2 256 128 rfl rfl inb_S1x512x512_S1x128x128_0_128_256 inb_S4608x256_S4608x128_0_128 x,
      fun x => AttnMath.tile_piece _ (keysAt m c t) (valsAt m c t) 128 1 128 0 rfl rfl inb_S1x512x512_S1x128x128_0_128_128 inb_S4608x256_S4608x128_0_0 x,
      fun x => AttnMath.tile_piece _ (keysAt m c t) (valsAt m c t) 128 0 0 0 rfl rfl inb_S1x512x512_S1x128x128_0_128_0 inb_S4608x256_S4608x128_0_0 x,
      fun x => AttnMath.tile_piece _ (keysAt m c t) (valsAt m c t) 0 3 384 128 rfl rfl inb_S1x512x512_S1x128x128_0_0_384 inb_S4608x256_S4608x128_0_128 x,
      fun x => AttnMath.tile_piece _ (keysAt m c t) (valsAt m c t) 0 2 256 128 rfl rfl inb_S1x512x512_S1x128x128_0_0_256 inb_S4608x256_S4608x128_0_128 x,
      fun x => AttnMath.tile_piece _ (keysAt m c t) (valsAt m c t) 0 1 128 0 rfl rfl inb_S1x512x512_S1x128x128_0_0_128 inb_S4608x256_S4608x128_0_0 x,
      fun x => AttnMath.tile_piece _ (keysAt m c t) (valsAt m c t) 0 0 0 0 rfl rfl inb_S1x512x512_S1x128x128_0_0_0 inb_S4608x256_S4608x128_0_0 x, trivial⟩

/-- At every grid point the result's block is the attention of its queries against the batch's keys and values. -/
theorem out_at (c : Dev nD) (t : Fin cfg0.N) :
    (outsAt0 m c t.val t.isLt).1
      = AttnMath.block (iblk m c 0 t) (keysAt m c ⟨8 * (t.val / 8), Pipeline.run_start_lt t⟩) (valsAt m c ⟨8 * (t.val / 8), Pipeline.run_start_lt t⟩) := by
  by_cases h : t.val % 8 = 0
  · have e : (⟨8 * (t.val / 8), Pipeline.run_start_lt t⟩ : Fin cfg0.N) = t := Fin.ext (by show 8 * (t.val / 8) = t.val; omega)
    rw [e]
    exact out_write m c t h
  · exact out_hold m c t h _ _ ((keys_hold m c t h).symm.trans (keys_kept m c t)) ((vals_hold m c t h).symm.trans (vals_kept m c t))

/-- The result the whole launch leaves. -/
def G (c : Dev nD) : FVec Ideal S8x4096x512 .bf16 := fun i =>
  AttnMath.result (m (c.tc.loc main_arg0)) (m (c.tc.loc main_arg1)) (m (c.tc.loc main_arg2)) (m (c.tc.loc main_arg3)) (m (c.tc.loc main_arg4)) (i 0) (i 1) (i 2)

theorem final (c : Dev nD) : (dats m 0 c).arrAt 5 cfg0.N = G m c := by
  refine (dats m 0 c).arrAt_eq_of_covers 5 _ (by decide +kernel) fun t hf y => ?_
  blk_simp
  rw [after0_5, out_at]
  obtain ⟨z, r, n, rfl⟩ : ∃ (z : Fin 1) (r n : Fin 512), y = ix3 z r n := ⟨y 0, y 1, y 2, eq_ix3 y⟩
  obtain rfl : z = 0 := Subsingleton.elim _ _
  have e := (idx t).2.2.2.2.2
  have k : (win0_5.blk t).view.emb (ix3 0 r n) = ix3 ⟨t.val / 8, batch_lt t⟩ ⟨t.val % 8 * 512 + r.val, row_lt t r⟩ n := by
    funext d
    apply Fin.ext
    match d with
    | ⟨0, _⟩ => show (win0_5.index t) 0 * 1 + 1 * 0 = t.val / 8; rw [e]; show t.val / 8 * 1 + 1 * 0 = t.val / 8; omega
    | ⟨1, _⟩ => show (win0_5.index t) 1 * 512 + 1 * r.val = t.val % 8 * 512 + r.val; rw [e]; show t.val % 8 * 512 + 1 * r.val = _; omega
    | ⟨2, _⟩ => show (win0_5.index t) 2 * 512 + 1 * n.val = n.val; rw [e]; show 0 * 512 + 1 * n.val = n.val; omega
  rw [k]
  exact block_at m c t _ (by show 8 * (t.val / 8) / 8 = t.val / 8; omega) r n

end Cert.KernelIdeal.Whole

end
-- ==== Proof.AttnRef.lean ====
/- The attention reference's result read at an index: its scores, their softmax weights and the weighted sum of the values. -/
module

public import proofs.«01_k».proof.Proof.Gen.ReferenceIdeal.Run
public import Idealize.ShloMosaic.Lib.Tactic.CleanTypes
public import Idealize.ShloMosaic.Lib.Pointwise

@[expose] public section

set_option maxRecDepth 16384

noncomputable section

open Idealize.ShloMosaic Idealize.ShloMosaic.TcCoe Idealize.SL.Sem

namespace Cert.AttnRef

open Cert.ReferenceIdeal Cert.ReferenceIdeal.Gen

/-- A row's maximum, taken along the last of five axes, is the fold over that axis, whatever the sizes. -/
theorem rowMax_at {n0 n1 n2 n3 n4 : ℕ} (h : (⟨5, ![n0, n1, n2, n3, n4]⟩ : Shape).ReducesTo [4] ⟨4, ![n0, n1, n2, n3]⟩)
    {u : Shape} (hu : 0 < u.numel) (x : FVec Ideal ⟨5, ![n0, n1, n2, n3, n4]⟩ .f32) (w : BitVec 32)
    (b : Fin n0) (p : Fin n1) (g : Fin n2) (r : Fin n3) :
    Host.reduce FloatOps.maximumf x (constant u .f32 w) h hu (ix4 b p g r)
      = Finset.fold max (Ideal.ofBits .f32 w) (fun j => x (ix5 b p g r j)) Finset.univ := by
  rw [Host.reduce_eq_fold, Shape.ReducesTo.fold_fiber_r5_a4]
  rfl

variable (q : FVec Ideal S8x4096x8x64 .f32) (k v : FVec Ideal S8x4096x2x64 .f32) (ck cv : FVec Ideal S8x512x2x64 .f32)

/-- The reference's scaled scores of every query against every key. -/
def scores : FVec Ideal S8x2x4x4096x4608 .f32 :=
  mulf (transpose S8x2x4x4096x4608 [0, 1, 4, 3, 2] (Host.dotGeneral dot_S8x4608x2x64_S8x4096x2x4x64_S8x2x4608x4096x4_3_4_1_13_02_02 none (concatenate S8x4608x2x64 1 [⟨S8x512x2x64, ck⟩, ⟨S8x4096x2x64, k⟩] concatenates_S8x512x2x64_S8x4096x2x64_S8x4608x2x64_d1) (shapeCast _ q shapeCasts_S8x4096x8x64_S8x4096x2x4x64)) transposes_S8x2x4608x4096x4_S8x2x4x4096x4608_0_1_4_3_2) (broadcastInDim S8x2x4x4096x4608 ![] bcast_S_S8x2x4x4096x4608 (constant S_ .f32 0x3E000000#32))

/-- The exponentials of the scores minus their row's largest. -/
def weights (s : FVec Ideal S8x2x4x4096x4608 .f32) : FVec Ideal S8x2x4x4096x4608 .f32 :=
  Host.exp (subf s (broadcastInDim S8x2x4x4096x4608 ![0, 1, 2, 3, 4] bcast_S8x2x4x4096x1_S8x2x4x4096x4608_0_1_2_3_4 (broadcastInDim S8x2x4x4096x1 ![0, 1, 2, 3] bcast_S8x2x4x4096_S8x2x4x4096x1_0_1_2_3 (maximumf (broadcastInDim S8x2x4x4096 ![] bcast_S_S8x2x4x4096 (constant S_ .f32 0xFF800000#32)) (Host.reduce FloatOps.maximumf s (constant S_ .f32 0xFF800000#32) reducesTo_S8x2x4x4096x4608_S8x2x4x4096_d4 h_S_)))))

/-- The weighted sums of the values, the weights divided by their row's sum. -/
def mixed (w : FVec Ideal S8x2x4x4096x4608 .f32) : FVec Ideal S8x4096x512 .bf16 :=
  truncf .bf16 (shapeCast _ (transpose S8x4096x2x4x64 [0, 4, 1, 3, 2] (Host.dotGeneral dot_S8x4608x2x64_S8x2x4x4096x4608_S8x2x64x4x4096_1_4_3_23_02_01 none (concatenate S8x4608x2x64 1 [⟨S8x512x2x64, cv⟩, ⟨S8x4096x2x64, v⟩] concatenates_S8x512x2x64_S8x4096x2x64_S8x4608x2x64_d1) (Host.divf w (broadcastInDim S8x2x4x4096x4608 ![0, 1, 2, 3, 4] bcast_S8x2x4x4096x1_S8x2x4x4096x4608_0_1_2_3_4 (broadcastInDim S8x2x4x4096x1 ![0, 1, 2, 3] bcast_S8x2x4x4096_S8x2x4x4096x1_0_1_2_3 (Host.reduceAdd w (constant S_ .f32 0x00000000#32) reducesTo_S8x2x4x4096x4608_S8x2x4x4096_d4 h_S_))))) transposes_S8x2x64x4x4096_S8x4096x2x4x64_0_4_1_3_2) shapeCasts_S8x4096x2x4x64_S8x4096x512) bitsLt_bf16_f32

/-- The cache's rows with the new rows below them. -/
def stack (new : FVec Ideal S8x4096x2x64 .f32) (old : FVec Ideal S8x512x2x64 .f32) : FVec Ideal S8x4608x2x64 .f32 :=
  concatenate S8x4608x2x64 1 [⟨S8x512x2x64, old⟩, ⟨S8x4096x2x64, new⟩] concatenates_S8x512x2x64_S8x4096x2x64_S8x4608x2x64_d1

theorem stack_at (new : FVec Ideal S8x4096x2x64 .f32) (old : FVec Ideal S8x512x2x64 .f32) (b : Fin 8) (x : Fin 4608) (p : Fin 2) (c : Fin 64) :
    stack new old (ix4 b x p c) = if h : x.val < 512 then old (ix4 b ⟨x.val, h⟩ p c) else new (ix4 b ⟨x.val - 512, by omega⟩ p c) := by
  unfold stack
  pointwise

def scoresOf (q : FVec Ideal S8x4096x8x64 .f32) (K : FVec Ideal S8x4608x2x64 .f32) : FVec Ideal S8x2x4x4096x4608 .f32 :=
  mulf (transpose S8x2x4x4096x4608 [0, 1, 4, 3, 2] (Host.dotGeneral dot_S8x4608x2x64_S8x4096x2x4x64_S8x2x4608x4096x4_3_4_1_13_02_02 none K (shapeCast _ q shapeCasts_S8x4096x8x64_S8x4096x2x4x64)) transposes_S8x2x4608x4096x4_S8x2x4x4096x4608_0_1_4_3_2) (broadcastInDim S8x2x4x4096x4608 ![] bcast_S_S8x2x4x4096x4608 (constant S_ .f32 0x3E000000#32))

theorem scoresOf_at (K : FVec Ideal S8x4608x2x64 .f32) (b : Fin 8) (p : Fin 2) (g : Fin 4) (r : Fin 4096) (j : Fin 4608) :
    scoresOf q K (ix5 b p g r j) = (∑ c : Fin 64, K (ix4 b j p c) * q (ix4 b r ⟨p.val * 4 + g.val, by omega⟩ c)) * Ideal.ofBits .f32 0x3E000000#32 := by
  unfold scoresOf
  pointwise

theorem scores_at (b : Fin 8) (p : Fin 2) (g : Fin 4) (r : Fin 4096) (j : Fin 4608) :
    scores q k ck (ix5 b p g r j) = (∑ c : Fin 64, stack k ck (ix4 b j p c) * q (ix4 b r ⟨p.val * 4 + g.val, by omega⟩ c)) * Ideal.ofBits .f32 0x3E000000#32 :=
  scoresOf_at q (stack k ck) b p g r j

/-- The exponentials, given each row's maximum as an array of its own. -/
def expOf (s : FVec Ideal S8x2x4x4096x4608 .f32) (mx : FVec Ideal S8x2x4x4096 .f32) : FVec Ideal S8x2x4x4096x4608 .f32 :=
  Host.exp (subf s (broadcastInDim S8x2x4x4096x4608 ![0, 1, 2, 3, 4] bcast_S8x2x4x4096x1_S8x2x4x4096x4608_0_1_2_3_4 (broadcastInDim S8x2x4x4096x1 ![0, 1, 2, 3] bcast_S8x2x4x4096_S8x2x4x4096x1_0_1_2_3 (maximumf (broadcastInDim S8x2x4x4096 ![] bcast_S_S8x2x4x4096 (constant S_ .f32 0xFF800000#32)) mx))))

theorem expOf_at (s : FVec Ideal S8x2x4x4096x4608 .f32) (mx : FVec Ideal S8x2x4x4096 .f32) (b : Fin 8) (p : Fin 2) (g : Fin 4) (r : Fin 4096) (j : Fin 4608) :
    expOf s mx (ix5 b p g r j) = Ideal.exp (s (ix5 b p g r j) - max (Ideal.ofBits .f32 0xFF800000#32) (mx (ix4 b p g r))) := by
  unfold expOf
  pointwise

theorem weights_at (s : FVec Ideal S8x2x4x4096x4608 .f32) (b : Fin 8) (p : Fin 2) (g : Fin 4) (r : Fin 4096) (j : Fin 4608) :
    weights s (ix5 b p g r j)
      = Ideal.exp (s (ix5 b p g r j) - max (Ideal.ofBits .f32 0xFF800000#32) (Finset.fold max (Ideal.ofBits .f32 0xFF800000#32) (fun j => s (ix5 b p g r j)) Finset.univ)) :=
  (expOf_at s (Host.reduce FloatOps.maximumf s (constant S_ .f32 0xFF800000#32) reducesTo_S8x2x4x4096x4608_S8x2x4x4096_d4 h_S_) b p g r j).trans
    (congrArg (fun M => Ideal.exp (s (ix5 b p g r j) - max (Ideal.ofBits .f32 0xFF800000#32) M))
      (rowMax_at reducesTo_S8x2x4x4096x4608_S8x2x4x4096_d4 h_S_ s 0xFF800000#32 b p g r))

/-- The weighted sums, given the stacked values as an array of its own. -/
def mixedOf (V : FVec Ideal S8x4608x2x64 .f32) (w : FVec Ideal S8x2x4x4096x4608 .f32) : FVec Ideal S8x4096x512 .bf16 :=
  truncf .bf16 (shapeCast _ (transpose S8x4096x2x4x64 [0, 4, 1, 3, 2] (Host.dotGeneral dot_S8x4608x2x64_S8x2x4x4096x4608_S8x2x64x4x4096_1_4_3_23_02_01 none V (Host.divf w (broadcastInDim S8x2x4x4096x4608 ![0, 1, 2, 3, 4] bcast_S8x2x4x4096x1_S8x2x4x4096x4608_0_1_2_3_4 (broadcastInDim S8x2x4x4096x1 ![0, 1, 2, 3] bcast_S8x2x4x4096_S8x2x4x4096x1_0_1_2_3 (Host.reduceAdd w (constant S_ .f32 0x00000000#32) reducesTo_S8x2x4x4096x4608_S8x2x4x4096_d4 h_S_))))) transposes_S8x2x64x4x4096_S8x4096x2x4x64_0_4_1_3_2) shapeCasts_S8x4096x2x4x64_S8x4096x512) bitsLt_bf16_f32

theorem mixedOf_at (V : FVec Ideal S8x4608x2x64 .f32) (w : FVec Ideal S8x2x4x4096x4608 .f32) (b : Fin 8) (r : Fin 4096) (n : Fin 512) :
    mixedOf V w (ix3 b r n)
      = ∑ x : Fin 4608, V (ix4 b x ⟨n.val / 256, by omega⟩ ⟨n.val % 64, by omega⟩) *
          Ideal.div (w (ix5 b ⟨n.val / 256, by omega⟩ ⟨n.val / 64 % 4, by omega⟩ r x)) (∑ x : Fin 4608, w (ix5 b ⟨n.val / 256, by omega⟩ ⟨n.val / 64 % 4, by omega⟩ r x)) := by
  unfold mixedOf
  pointwise
  trace_state

theorem mixed_at (w : FVec Ideal S8x2x4x4096x4608 .f32) (b : Fin 8) (r : Fin 4096) (n : Fin 512) :
    mixed v cv w (ix3 b r n)
      = ∑ x : Fin 4608, stack v cv (ix4 b x ⟨n.val / 256, by omega⟩ ⟨n.val % 64, by omega⟩) *
          Ideal.div (w (ix5 b ⟨n.val / 256, by omega⟩ ⟨n.val / 64 % 4, by omega⟩ r x)) (∑ x : Fin 4608, w (ix5 b ⟨n.val / 256, by omega⟩ ⟨n.val / 64 % 4, by omega⟩ r x)) :=
  mixedOf_at (stack v cv) w b r n

end Cert.AttnRef
end
-- ==== Proof.AttnAlg.lean ====
/- The attention kernel's result and its reference's are the same function of the arguments when the queries and keys are finite. -/
module

public import proofs.«01_k».proof.Pre_finite
public import proofs.«01_k».proof.Proof.AttnValue
public import proofs.«01_k».proof.Proof.AttnRef
public import Idealize.ShloMosaic.Lib.ReduceAll

@[expose] public section

set_option maxRecDepth 16384

noncomputable section

open Idealize.ShloMosaic Idealize.ShloMosaic.TcCoe Idealize.SL.Sem

namespace Cert.AttnAlg

/-- The side conditions of the precondition's operations. -/
theorem pre_facts : Cert.Pre_finite.Facts where
  bcast_S_S8x4096x8x64 := by decide
  reducesTo_S8x4096x8x64_S_d0_1_2_3 := by decide
  h_S_ := by decide
  bcast_S_S8x4096x2x64 := by decide
  reducesTo_S8x4096x2x64_S_d0_1_2_3 := by decide
  bcast_S_S8x512x2x64 := by decide
  reducesTo_S8x512x2x64_S_d0_1_2_3 := by decide

theorem infinity : Ideal.ofBits .f32 0x7F800000#32 = (⊤ : EReal) := by
  simp [Ideal.ofBits, Ideal.ieee]

/-- A number whose absolute value compares below infinity is a real number. -/
theorem real_of_below (x : EReal) (h : Ideal.cmp .olt (max x (-x)) (Ideal.ofBits .f32 0x7F800000#32) = 1#1) : ((x.toReal : ℝ) : EReal) = x := by
  rw [infinity] at h
  induction x using EReal.rec with
  | bot => exact absurd h (by simp [Ideal.cmp])
  | top => exact absurd h (by simp [Ideal.cmp])
  | coe x => rfl

instance : Subsingleton (Cert.Pre_finite.S_).Idx := ⟨fun a b => funext fun d => d.elim0⟩

open Cert.Pre_finite in
/-- What the precondition says of the queries, the new keys and the cached keys. -/
theorem reals [hf : Cert.Pre_finite.Facts] (q : FVec Ideal S8x4096x8x64 .f32) (k v : FVec Ideal S8x4096x2x64 .f32) (ck cv : FVec Ideal S8x512x2x64 .f32)
    (h : Cert.Pre_finite.fn (F := Ideal) q k v ck cv = fun _ => 1#1) :
    (∀ i, (((q i).toReal : ℝ) : EReal) = q i) ∧ (∀ i, (((k i).toReal : ℝ) : EReal) = k i) ∧ (∀ i, (((ck i).toReal : ℝ) : EReal) = ck i) := by
  have e := congrFun h (Shape.Idx.first hf.h_S_)
  have e1 := IntOp.andi_eq_one.1 e
  have e2 := IntOp.andi_eq_one.1 e1.1
  exact ⟨fun i => real_of_below _ (Host.reduce_andi_all _ _ _ _ _ e2.1 i), fun i => real_of_below _ (Host.reduce_andi_all _ _ _ _ _ e2.2 i),
    fun i => real_of_below _ (Host.reduce_andi_all _ _ _ _ _ e1.2 i)⟩

open AttnMath in
/-- The kernel's entry is the reference's. -/
theorem same (q : FVec Ideal Cert.ReferenceIdeal.S8x4096x8x64 .f32) (k v : FVec Ideal Cert.ReferenceIdeal.S8x4096x2x64 .f32) (ck cv : FVec Ideal Cert.ReferenceIdeal.S8x512x2x64 .f32)
    (hq : ∀ i, (((q i).toReal : ℝ) : EReal) = q i) (hk : ∀ i, (((k i).toReal : ℝ) : EReal) = k i) (hc : ∀ i, (((ck i).toReal : ℝ) : EReal) = ck i)
    (b : Fin 8) (r : Fin 4096) (n : Fin 512) :
    result q k v ck cv b r n = AttnRef.mixed v cv (AttnRef.weights (AttnRef.scores q k ck)) (ix3 b r n) := by
  have hn := n.isLt
  have hrow : ∀ x p c, (((rows k ck b x p c).toReal : ℝ) : EReal) = rows k ck b x p c := fun x p c => by
    unfold rows
    split_ifs
    · exact hc _
    · exact hk _
  rw [AttnRef.mixed_at]
  unfold result
  rw [soft_eq _ (fun x => AttnRef.scores q k ck (ix5 b ⟨n.val / 256, by omega⟩ ⟨n.val / 64 % 4, by omega⟩ r x)) _ _
    (fun x => (∑ c : Fin 64, (rows k ck b x ⟨n.val / 256, by omega⟩ c).toReal * (q (ix4 b r ⟨n.val / 64, by omega⟩ c)).toReal) * (1 / 8)) ?_ ?_ (fun _ => rfl)]
  · refine Finset.sum_congr rfl fun x _ => ?_
    simp only [AttnRef.weights_at, AttnRef.stack_at]
    rfl
  · intro x
    rw [Finset.sum_mul, Finset.sum_mul, ← coe_sum]
    refine Finset.sum_congr rfl fun c _ => ?_
    unfold scale
    rw [← hq (ix4 b r ⟨n.val / 64, by omega⟩ c), ← hrow x ⟨n.val / 256, by omega⟩ c, ← EReal.coe_mul, ← EReal.coe_mul]
    congr 1
    simp only [EReal.toReal_coe]
    ring
  · intro x
    rw [AttnRef.scores_at, eighth, EReal.coe_mul, ← coe_sum]
    congr 1
    refine Finset.sum_congr rfl fun c _ => ?_
    have e : (⟨n.val / 256 * 4 + n.val / 64 % 4, by omega⟩ : Fin 8) = ⟨n.val / 64, by omega⟩ := Fin.ext (by show n.val / 256 * 4 + n.val / 64 % 4 = n.val / 64; omega)
    rw [AttnRef.stack_at]
    simp only [e]
    rw [EReal.coe_mul, hq, hrow]
    rfl

end Cert.AttnAlg

end
-- ==== Proof.FfnMath.lean ====
/- The half-step of the layer's gated feed-forward network, as arithmetic on extended reals, and the kernel's tiles of it: what one 256-column
   chunk of activations holds, what the whole activation buffer holds once its eleven chunks are stored, and what one output row is. -/
module

public import proofs.«01_k».proof.Proof.Gen.OddFfnIdeal.Skeleton
public import Idealize.ShloMosaic.Lib.Pipeline.ValueKit
public import Idealize.ShloMosaic.Lib.Pipeline.ReadBack
public import Idealize.ShloMosaic.Lib.Pointwise
public import Idealize.ShloMosaic.Lib.Ring

@[expose] public section

set_option maxRecDepth 16384

noncomputable section

open Idealize.ShloMosaic Idealize.ShloMosaic.TcCoe Idealize.SL.Sem

namespace Cert.FfnMath

open Cert.OddFfnIdeal Cert.OddFfnIdeal.Gen

/-- The modulated norm of one row, at column `k`: the row over the root of its mean square, times the gain and one plus the scale, plus the shift. -/
def hid (x gain shift scale : Fin 1024 → EReal) (k : Fin 1024) : EReal :=
  x k * Ideal.rsqrt (Ideal.div (∑ l, x l * x l) (Ideal.ofBits .f32 0x44800000#32) + Ideal.ofBits .f32 0x358637BD#32) * gain k * (1 + scale k) + shift k

/-- One activation: the gate column's product, times its logistic, times the up column's product. -/
def act (h wg wu : Fin 1024 → EReal) : EReal :=
  (∑ k, h k * wg k) * Ideal.div 1 (1 + Ideal.exp (-∑ k, h k * wg k)) * ∑ k, h k * wu k

/-- One entry of the half-step: the row plus half its gate times the activations' product with one output column. -/
def half (x gate : EReal) (a wo : Fin 2816 → EReal) : EReal :=
  x + Ideal.ofBits .f32 0x3F000000#32 * gate * ∑ j, a j * wo j

/-- A gate column and the up column that belongs to it. -/
def gcol (j : Fin 2816) : Fin 5632 := ⟨j.val, by omega⟩
def ucol (j : Fin 2816) : Fin 5632 := ⟨2816 + j.val, by omega⟩

/-- A row of the half-step in full. -/
def row (x gain shift scale gate : Fin 1024 → EReal) (wi : Fin 1024 → Fin 5632 → EReal) (wo : Fin 2816 → Fin 1024 → EReal) (n : Fin 1024) : EReal :=
  half (x n) (gate n) (fun j => act (hid x gain shift scale) (fun k => wi k (gcol j)) (fun k => wi k (ucol j))) (fun j => wo j n)

theorem chunk_at (H : FVec Ideal S1024x1024 .bf16) (w1 w2 : FVec Ideal S1x1x1024x256 .bf16) (x : S1024x256.Idx) :
    k0_pay7 (F := Ideal) H w1 w2 x
      = act (fun k => H (ix2 (x 0) k)) (fun k => w1 (ix4 0 0 k (x 1))) (fun k => w2 (ix4 0 0 k (x 1))) := by
  pointwise [k0_pay7, act]
  simp only [zero_sub]

/-- What the activation buffer holds. -/
def acts (H : FVec Ideal S1024x1024 .bf16) (W : FVec Ideal S1x1x1024x5632 .bf16) : FVec Ideal S1024x2816 .bf16 := fun j =>
  act (fun k => H (ix2 (j 0) k)) (fun k => W (ix4 0 0 k (gcol (j 1)))) (fun k => W (ix4 0 0 k (ucol (j 1))))

/-- One chunk, stored at columns `off …`, is that part of the activations. -/
theorem chunk_piece (H : FVec Ideal S1024x1024 .bf16) (W : FVec Ideal S1x1x1024x5632 .bf16) (off off' : ℕ) (e : off' = 2816 + off)
    (i1 : ∀ a, (![0, 0, 0, off] : Fin 4 → ℕ) a + (![1, 1, 1024, 256] : Fin 4 → ℕ) a ≤ S1x1x1024x5632.size a)
    (i2 : ∀ a, (![0, 0, 0, off'] : Fin 4 → ℕ) a + (![1, 1, 1024, 256] : Fin 4 → ℕ) a ≤ S1x1x1024x5632.size a)
    (i3 : ∀ a, (![0, off] : Fin 2 → ℕ) a + (![1024, 256] : Fin 2 → ℕ) a ≤ S1024x2816.size a) (x : S1024x256.Idx) :
    k0_pay7 (F := Ideal) H (View.ld W (Rect.unit (s := S1x1x1024x5632) ![0, 0, 0, off] ![1, 1, 1024, 256] i1))
        (View.ld W (Rect.unit (s := S1x1x1024x5632) ![0, 0, 0, off'] ![1, 1, 1024, 256] i2)) x
      = acts H W ((Rect.unit (s := S1024x2816) ![0, off] ![1024, 256] i3).emb x) := by
  subst e
  rw [chunk_at]
  unfold acts
  pointwise
  have e0 : (Rect.unit (s := S1024x2816) ![0, off] ![1024, 256] i3).emb x 0 = x 0 :=
    Fin.ext (by show 0 + 1 * (x 0).val = (x 0).val; omega)
  have e1 : (((Rect.unit (s := S1024x2816) ![0, off] ![1024, 256] i3).emb x 1 : Fin 2816) : ℕ) = off + (x 1).val := by
    show off + 1 * (x 1).val = off + (x 1).val; omega
  rw [e0]
  congr 1 <;> funext k <;> congr 2 <;> apply Fin.ext
  · exact e1.symm
  · show 2816 + off + (x 1).val = 2816 + _
    rw [e1]; omega

/-- Stores that are blocks of `G` and cover the buffer leave `G` to a load of the whole buffer. -/
theorem read_pieces {sig : RefSig} {κ : Kind} {sp : Space} {s : Shape} {e : EltTy} {Val : EltTy → Type} [∀ e, Nonempty (Val e)]
    (v : View sig κ sp s e) (L : List (View.Piece Val s e)) (G : s.Idx → Val e) (off : Fin s.rank → ℕ) (inb : ∀ a, off a + s.size a ≤ s.size a)
    (h0 : ∀ a, off a = 0) (hc : ∀ y : s.Idx, ∃ p ∈ L, y ∈ p.1.set) (h : View.PiecesOf G L) :
    v.readCov L (Rect.unit off s.size inb).toLoadRect = G := by
  rw [View.readCov_eq_canon']
  funext j
  have e : (Rect.unit off s.size inb).toLoadRect.idx j = j := by
    funext a
    apply Fin.ext
    simp [h0]
  rw [e]
  simpa using View.canon_append_of_piecesOf G [] L h j (hc j)

/-- Eleven chunks stored side by side, read back whole, are the activations. -/
theorem buffer_eq {sig : RefSig} {κ : Kind} {sp : Space} (v : View sig κ sp S1024x2816 .bf16) (H : FVec Ideal S1024x1024 .bf16)
    (W : FVec Ideal S1x1x1024x5632 .bf16) (off0 : ∀ a, (![0, 0] : Fin 2 → ℕ) a + S1024x2816.size a ≤ S1024x2816.size a) :
    v.readCov (Val := Elt Ideal) [⟨Rect.unit (s := S1024x2816) ![0, 2560] ![1024, 256] inb_S1024x2816_S1024x256_0_2560, k0_pay7 (F := Ideal) H (View.ld W (Rect.unit (s := S1x1x1024x5632) ![0, 0, 0, 2560] ![1, 1, 1024, 256] inb_S1x1x1024x5632_S1x1x1024x256_0_0_0_2560)) (View.ld W (Rect.unit (s := S1x1x1024x5632) ![0, 0, 0, 5376] ![1, 1, 1024, 256] inb_S1x1x1024x5632_S1x1x1024x256_0_0_0_5376))⟩,
        ⟨Rect.unit (s := S1024x2816) ![0, 2304] ![1024, 256] inb_S1024x2816_S1024x256_0_2304, k0_pay7 (F := Ideal) H (View.ld W (Rect.unit (s := S1x1x1024x5632) ![0, 0, 0, 2304] ![1, 1, 1024, 256] inb_S1x1x1024x5632_S1x1x1024x256_0_0_0_2304)) (View.ld W (Rect.unit (s := S1x1x1024x5632) ![0, 0, 0, 5120] ![1, 1, 1024, 256] inb_S1x1x1024x5632_S1x1x1024x256_0_0_0_5120))⟩,
        ⟨Rect.unit (s := S1024x2816) ![0, 2048] ![1024, 256] inb_S1024x2816_S1024x256_0_2048, k0_pay7 (F := Ideal) H (View.ld W (Rect.unit (s := S1x1x1024x5632) ![0, 0, 0, 2048] ![1, 1, 1024, 256] inb_S1x1x1024x5632_S1x1x1024x256_0_0_0_2048)) (View.ld W (Rect.unit (s := S1x1x1024x5632) ![0, 0, 0, 4864] ![1, 1, 1024, 256] inb_S1x1x1024x5632_S1x1x1024x256_0_0_0_4864))⟩,
        ⟨Rect.unit (s := S1024x2816) ![0, 1792] ![1024, 256] inb_S1024x2816_S1024x256_0_1792, k0_pay7 (F := Ideal) H (View.ld W (Rect.unit (s := S1x1x1024x5632) ![0, 0, 0, 1792] ![1, 1, 1024, 256] inb_S1x1x1024x5632_S1x1x1024x256_0_0_0_1792)) (View.ld W (Rect.unit (s := S1x1x1024x5632) ![0, 0, 0, 4608] ![1, 1, 1024, 256] inb_S1x1x1024x5632_S1x1x1024x256_0_0_0_4608))⟩,
        ⟨Rect.unit (s := S1024x2816) ![0, 1536] ![1024, 256] inb_S1024x2816_S1024x256_0_1536, k0_pay7 (F := Ideal) H (View.ld W (Rect.unit (s := S1x1x1024x5632) ![0, 0, 0, 1536] ![1, 1, 1024, 256] inb_S1x1x1024x5632_S1x1x1024x256_0_0_0_1536)) (View.ld W (Rect.unit (s := S1x1x1024x5632) ![0, 0, 0, 4352] ![1, 1, 1024, 256] inb_S1x1x1024x5632_S1x1x1024x256_0_0_0_4352))⟩,
        ⟨Rect.unit (s := S1024x2816) ![0, 1280] ![1024, 256] inb_S1024x2816_S1024x256_0_1280, k0_pay7 (F := Ideal) H (View.ld W (Rect.unit (s := S1x1x1024x5632) ![0, 0, 0, 1280] ![1, 1, 1024, 256] inb_S1x1x1024x5632_S1x1x1024x256_0_0_0_1280)) (View.ld W (Rect.unit (s := S1x1x1024x5632) ![0, 0, 0, 4096] ![1, 1, 1024, 256] inb_S1x1x1024x5632_S1x1x1024x256_0_0_0_4096))⟩,
        ⟨Rect.unit (s := S1024x2816) ![0, 1024] ![1024, 256] inb_S1024x2816_S1024x256_0_1024, k0_pay7 (F := Ideal) H (View.ld W (Rect.unit (s := S1x1x1024x5632) ![0, 0, 0, 1024] ![1, 1, 1024, 256] inb_S1x1x1024x5632_S1x1x1024x256_0_0_0_1024)) (View.ld W (Rect.unit (s := S1x1x1024x5632) ![0, 0, 0, 3840] ![1, 1, 1024, 256] inb_S1x1x1024x5632_S1x1x1024x256_0_0_0_3840))⟩,
        ⟨Rect.unit (s := S1024x2816) ![0, 768] ![1024, 256] inb_S1024x2816_S1024x256_0_768, k0_pay7 (F := Ideal) H (View.ld W (Rect.unit (s := S1x1x1024x5632) ![0, 0, 0, 768] ![1, 1, 1024, 256] inb_S1x1x1024x5632_S1x1x1024x256_0_0_0_768)) (View.ld W (Rect.unit (s := S1x1x1024x5632) ![0, 0, 0, 3584] ![1, 1, 1024, 256] inb_S1x1x1024x5632_S1x1x1024x256_0_0_0_3584))⟩,
        ⟨Rect.unit (s := S1024x2816) ![0, 512] ![1024, 256] inb_S1024x2816_S1024x256_0_512, k0_pay7 (F := Ideal) H (View.ld W (Rect.unit (s := S1x1x1024x5632) ![0, 0, 0, 512] ![1, 1, 1024, 256] inb_S1x1x1024x5632_S1x1x1024x256_0_0_0_512)) (View.ld W (Rect.unit (s := S1x1x1024x5632) ![0, 0, 0, 3328] ![1, 1, 1024, 256] inb_S1x1x1024x5632_S1x1x1024x256_0_0_0_3328))⟩,
        ⟨Rect.unit (s := S1024x2816) ![0, 256] ![1024, 256] inb_S1024x2816_S1024x256_0_256, k0_pay7 (F := Ideal) H (View.ld W (Rect.unit (s := S1x1x1024x5632) ![0, 0, 0, 256] ![1, 1, 1024, 256] inb_S1x1x1024x5632_S1x1x1024x256_0_0_0_256)) (View.ld W (Rect.unit (s := S1x1x1024x5632) ![0, 0, 0, 3072] ![1, 1, 1024, 256] inb_S1x1x1024x5632_S1x1x1024x256_0_0_0_3072))⟩,
        ⟨Rect.unit (s := S1024x2816) ![0, 0] ![1024, 256] inb_S1024x2816_S1024x256_0_0, k0_pay7 (F := Ideal) H (View.ld W (Rect.unit (s := S1x1x1024x5632) ![0, 0, 0, 0] ![1, 1, 1024, 256] inb_S1x1x1024x5632_S1x1x1024x256_0_0_0_0)) (View.ld W (Rect.unit (s := S1x1x1024x5632) ![0, 0, 0, 2816] ![1, 1, 1024, 256] inb_S1x1x1024x5632_S1x1x1024x256_0_0_0_2816))⟩]
      (Rect.unit (s := S1024x2816) ![0, 0] S1024x2816.size off0).toLoadRect = acts H W := by
  refine read_pieces _ _ _ _ _ (by decide) ?hc ?hp
  case hc => exact View.cover_of_tiledL _ ![1024, 256] (by sl_kernel_rfl)
  case hp => exact ⟨fun x => chunk_piece H W 2560 _ rfl _ _ inb_S1024x2816_S1024x256_0_2560 x,
    fun x => chunk_piece H W 2304 _ rfl _ _ inb_S1024x2816_S1024x256_0_2304 x,
    fun x => chunk_piece H W 2048 _ rfl _ _ inb_S1024x2816_S1024x256_0_2048 x,
    fun x => chunk_piece H W 1792 _ rfl _ _ inb_S1024x2816_S1024x256_0_1792 x,
    fun x => chunk_piece H W 1536 _ rfl _ _ inb_S1024x2816_S1024x256_0_1536 x,
    fun x => chunk_piece H W 1280 _ rfl _ _ inb_S1024x2816_S1024x256_0_1280 x,
    fun x => chunk_piece H W 1024 _ rfl _ _ inb_S1024x2816_S1024x256_0_1024 x,
    fun x => chunk_piece H W 768 _ rfl _ _ inb_S1024x2816_S1024x256_0_768 x,
    fun x => chunk_piece H W 512 _ rfl _ _ inb_S1024x2816_S1024x256_0_512 x,
    fun x => chunk_piece H W 256 _ rfl _ _ inb_S1024x2816_S1024x256_0_256 x,
    fun x => chunk_piece H W 0 _ rfl _ _ inb_S1024x2816_S1024x256_0_0 x, trivial⟩

theorem out_at (X : FVec Ideal S1024x1024 .f32) (A : FVec Ideal S1024x2816 .bf16) (W : FVec Ideal S1x1x2816x1024 .bf16) (g : FVec Ideal S1x1x1024 .f32)
    (y : S1x1024x1024.Idx) :
    k0_pay1 (F := Ideal) X (k0_pay27 A W) g y
      = half (X (ix2 (y 1) (y 2))) (g (ix3 0 0 (y 2))) (fun j => A (ix2 (y 1) j)) (fun j => W (ix4 0 0 j (y 2))) := by
  pointwise [k0_pay1, k0_pay27, half]

/-- The modulated norm of a tile of rows. -/
def hids (X : FVec Ideal S1024x1024 .f32) (g : FVec Ideal S1x1024 .f32) (sh sc : FVec Ideal S1x1x1024 .f32) : FVec Ideal S1024x1024 .bf16 :=
  k0_pay5 (F := Ideal) X (k0_pay3 g) (k0_pay4 sh) sc

theorem hid_at (X : FVec Ideal S1024x1024 .f32) (g : FVec Ideal S1x1024 .f32) (sh sc : FVec Ideal S1x1x1024 .f32) (r k : Fin 1024) :
    hids X g sh sc (ix2 r k)
      = hid (fun l => X (ix2 r l)) (fun l => g (ix2 0 l)) (fun l => sh (ix3 0 0 l)) (fun l => sc (ix3 0 0 l)) k := by
  unfold hids
  pointwise [k0_pay5, k0_pay4, k0_pay3, hid]

/-- One entry of the tile that a grid point stores, from what each of its blocks holds. -/
theorem tile_eq (X : FVec Ideal S1024x1024 .f32) (g : FVec Ideal S1x1024 .f32) (sh sc gt : FVec Ideal S1x1x1024 .f32)
    (W3 : FVec Ideal S1x1x1024x5632 .bf16) (W4 : FVec Ideal S1x1x2816x1024 .bf16) (A : FVec Ideal S1024x2816 .bf16) (y : S1x1024x1024.Idx)
    (x gain shift scale gate : Fin 1024 → EReal) (wi : Fin 1024 → Fin 5632 → EReal) (wo : Fin 2816 → Fin 1024 → EReal) (n : Fin 1024)
    (hA : A = acts (hids X g sh sc) W3)
    (hx : ∀ l, X (ix2 (y 1) l) = x l) (hg : ∀ l, g (ix2 0 l) = gain l) (hsh : ∀ l, sh (ix3 0 0 l) = shift l)
    (hsc : ∀ l, sc (ix3 0 0 l) = scale l) (hgt : ∀ l, gt (ix3 0 0 l) = gate l) (hwi : ∀ k j, W3 (ix4 0 0 k j) = wi k j)
    (hwo : ∀ j l, W4 (ix4 0 0 j l) = wo j l) (hn : y 2 = n) :
    k0_pay1 (F := Ideal) X (k0_pay27 A W4) gt y = row x gain shift scale gate wi wo n := by
  idx_vars y
  obtain rfl : x = fun l => X (ix2 y1 l) := funext fun l => (hx l).symm
  obtain rfl : gain = fun l => g (ix2 0 l) := funext fun l => (hg l).symm
  obtain rfl : shift = fun l => sh (ix3 0 0 l) := funext fun l => (hsh l).symm
  obtain rfl : scale = fun l => sc (ix3 0 0 l) := funext fun l => (hsc l).symm
  obtain rfl : gate = fun l => gt (ix3 0 0 l) := funext fun l => (hgt l).symm
  obtain rfl : wi = fun k j => W3 (ix4 0 0 k j) := funext fun k => funext fun j => (hwi k j).symm
  obtain rfl : wo = fun j l => W4 (ix4 0 0 j l) := funext fun j => funext fun l => (hwo j l).symm
  subst hA hn
  refine (out_at _ _ _ _ _).trans ?_
  unfold row acts
  refine congrArg (fun z => half _ _ z _) (funext fun j => ?_)
  exact congrArg (fun z => act z _ _) (funext fun k => hid_at X g sh sc y1 k)

/-- A row after a mixer: the row plus the gate times the two mixed halves against the two halves of the projection. -/
def mixed (x gate : Fin 1024 → EReal) (a b : Fin 512 → EReal) (w : Fin 1024 → Fin 1024 → EReal) (n : Fin 1024) : EReal :=
  x n + gate n * (∑ k : Fin 512, a k * w ⟨k.val, by omega⟩ n + ∑ k : Fin 512, b k * w ⟨512 + k.val, by omega⟩ n)

/-- The half-step on every row: of the layer, weight slot and norm given, and the modulation's shift, scale and gate rows. -/
def step (layer slot : Fin 2) (norm : Fin 3) (shift scale gate : Fin 9) (X : Fin 8 → Fin 4096 → Fin 1024 → EReal)
    (mod : FVec Ideal ⟨4, ![8, 1, 9, 1024]⟩ .f32) (gain : FVec Ideal ⟨3, ![2, 3, 1024]⟩ .f32) (wi : FVec Ideal ⟨4, ![2, 2, 1024, 5632]⟩ .f32)
    (wo : FVec Ideal ⟨4, ![2, 2, 2816, 1024]⟩ .f32) : FVec Ideal S8x4096x1024 .f32 := fun i =>
  row (X (i 0) (i 1)) (fun l => gain (ix3 layer norm l)) (fun l => mod (ix4 (i 0) 0 shift l)) (fun l => mod (ix4 (i 0) 0 scale l))
    (fun l => mod (ix4 (i 0) 0 gate l)) (fun k j => wi (ix4 layer slot k j)) (fun j l => wo (ix4 layer slot j l)) (i 2)

end Cert.FfnMath

end
-- ==== Proof.OddFfnValue.lean ====
/- What the OddFfn program's kernel stores over its whole launch, as one function of the arguments, and the same function of its reference's result. -/
module

public import proofs.«01_k».proof.Proof.Gen.OddFfnIdeal.Value
public import proofs.«01_k».proof.Proof.Gen.OddFfnRefIdeal.Run
public import proofs.«01_k».proof.Proof.FfnMath
public import Idealize.ShloMosaic.Lib.Claim
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.OddFfnIdeal.Whole

open Cert.OddFfnIdeal Cert.OddFfnIdeal.Gen

variable (m : (ℓ : Loc nD τ sig) → Buf (Elt Ideal) ℓ)

/-- Which block each window of the launch holds at a grid point. -/
theorem idx : ∀ t : Fin cfg0.N, win0_0.index t = ![t.val / 4, t.val % 4, 0] ∧ win0_1.index t = ![t.val / 4, t.val % 4, 0] ∧ win0_2.index t = ![t.val / 4, t.val % 4, 0] ∧ win0_3.index t = ![t.val / 4, t.val % 4, 0] ∧ win0_4.index t = ![t.val / 4, 0, 0] ∧ win0_5.index t = ![0, 0] ∧ win0_6.index t = ![0, 0] ∧ win0_7.index t = ![0, 0] ∧ win0_8.index t = ![1, 1, 0, 0] ∧ win0_9.index t = ![1, 1, 0, 0] ∧ win0_10.index t = ![t.val / 4, t.val % 4, 0] :=
  (by decide +kernel : ∀ t : Fin grid0.N, _)

/-- A row of the tile after the mixer, from what each block holds. -/
theorem mix_eq (x0 : FVec Ideal S1x1024x1024 .f32) (a0 a1 b0 : FVec Ideal S1x1024x512 .bf16) (wa wb : FVec Ideal S512x1024 .bf16)
    (gt : FVec Ideal S1x1x1024 .f32) (r : Fin 1024) (x gate : Fin 1024 → EReal) (a b : Fin 512 → EReal) (w : Fin 1024 → Fin 1024 → EReal)
    (hx : ∀ l, x0 (ix3 0 r l) = x l) (hgt : ∀ l, gt (ix3 0 0 l) = gate l) (ha : ∀ k, a0 (ix3 0 r k) + a1 (ix3 0 r k) = a k) (hb : ∀ k, b0 (ix3 0 r k) = b k)
    (hwa : ∀ k l, wa (ix2 k l) = w ⟨k.val, by omega⟩ l) (hwb : ∀ k l, wb (ix2 k l) = w ⟨512 + k.val, by omega⟩ l) (l : Fin 1024) :
    k0_pay2 (F := Ideal) x0 a0 a1 wa b0 wb gt (ix2 r l) = FfnMath.mixed x gate a b w l := by
  unfold FfnMath.mixed
  simp only [← hx, ← hgt, ← ha, ← hb, ← hwa, ← hwb]
  pointwise [k0_pay2]

/-- The result the whole launch leaves. -/
def G (c : Dev nD) : FVec Ideal S8x4096x1024 .f32 :=
  FfnMath.step 1 1 2 6 7 8
    (fun b r => FfnMath.mixed (fun l => m (c.tc.loc main_arg0) (ix3 b r l)) (fun l => m (c.tc.loc main_arg1) (ix4 b 0 5 l)) (fun k => @HAdd.hAdd EReal EReal EReal _ (m (c.tc.loc main_arg5) (ix3 b r k)) (m (c.tc.loc main_arg6) (ix3 b r k)))
      (fun k => m (c.tc.loc main_arg7) (ix3 b r k)) (fun k l => m (c.tc.loc main_arg8) (ix3 0 k l)))
    (m (c.tc.loc main_arg1)) (m (c.tc.loc main_arg2)) (m (c.tc.loc main_arg3)) (m (c.tc.loc main_arg4))

theorem final (c : Dev nD) : (dats m 0 c).arrAt 10 cfg0.N = G m c := by
  refine (dats m 0 c).arrAt_eq_of_covers 10 _ (by decide +kernel) fun t hf y => ?_
  blk_simp
  rw [after0_10]
  unfold outsAt0
  frame_out
  unfold G FfnMath.step
  refine FfnMath.tile_eq (k0_pay2 (iblk m c 0 t) (iblk m c 1 t) (iblk m c 2 t) (iblk m c 6 t) (iblk m c 3 t) (iblk m c 7 t) (View.ld (iblk m c 4 t) (Rect.unit (s := S1x9x1024) ![0, 5, 0] ![1, 1, 1024] inb_S1x9x1024_S1x1x1024_0_5_0)))
    (View.ld (iblk m c 5 t) (Rect.unit (s := S3x1024) ![2, 0] ![1, 1024] inb_S3x1024_S1x1024_2_0))
    (View.ld (iblk m c 4 t) (Rect.unit (s := S1x9x1024) ![0, 6, 0] ![1, 1, 1024] inb_S1x9x1024_S1x1x1024_0_6_0))
    (View.ld (iblk m c 4 t) (Rect.unit (s := S1x9x1024) ![0, 7, 0] ![1, 1, 1024] inb_S1x9x1024_S1x1x1024_0_7_0))
    _ (iblk m c 8 t) _ _ y _ _ _ _ _ _ _ _ (FfnMath.buffer_eq _ _ _ _) ?hx ?_ ?_ ?_ ?_ ?_ ?_ ?_
  case hx =>
    intro l
    refine mix_eq _ _ _ _ _ _ _ _ _ _ _ _ _ ?_ ?_ ?_ ?_ ?_ ?_ l
    all_goals intros
    all_goals try pointwise
    all_goals try blk_point [iblk, V, idx t]
  all_goals intros
  all_goals skip
  all_goals try pointwise
  all_goals try blk_point [iblk, V, idx t]
  have e : (win0_10.index t) 2 = 0 := by rw [(idx t).2.2.2.2.2.2.2.2.2.2]; rfl
  apply Fin.ext
  show ((y 2 : Fin 1024) : ℕ) = (win0_10.index t) 2 * 1024 + 1 * ((y 2 : Fin 1024) : ℕ)
  rw [e]; omega

end Cert.OddFfnIdeal.Whole

namespace Cert.OddFfnRefIdeal.Whole

open Cert.OddFfnRefIdeal Cert.OddFfnRefIdeal.Gen

variable (m : (ℓ : Loc nD τ sig) → Buf (Elt Ideal) ℓ)

/-- The reference's result. -/
theorem result (c : Dev nD) : Value.res_main_v53 m c =
  FfnMath.step 1 1 2 6 7 8
    (fun b r => FfnMath.mixed (fun l => m (c.tc.loc main_arg0) (ix3 b r l)) (fun l => m (c.tc.loc main_arg1) (ix4 b 0 5 l)) (fun k => @HAdd.hAdd EReal EReal EReal _ (m (c.tc.loc main_arg5) (ix3 b r k)) (m (c.tc.loc main_arg6) (ix3 b r k)))
      (fun k => m (c.tc.loc main_arg7) (ix3 b r k)) (fun k l => m (c.tc.loc main_arg8) (ix3 0 k l)))
    (m (c.tc.loc main_arg1)) (m (c.tc.loc main_arg2)) (m (c.tc.loc main_arg3)) (m (c.tc.loc main_arg4)) := by
  funext i
  obtain ⟨b, r, n, rfl⟩ : ∃ (b : Fin 8) (r : Fin 4096) (n : Fin 1024), i = ix3 b r n := ⟨i 0, i 1, i 2, eq_ix3 i⟩
  unfold Value.res_main_v53
  clean_types
  pointwise [FfnMath.mixed]
  rfl

end Cert.OddFfnRefIdeal.Whole

end
-- ==== Proof.EvenFfnValue.lean ====
/- What the EvenFfn program's kernel stores over its whole launch, as one function of the arguments, and the same function of its reference's result. -/
module

public import proofs.«01_k».proof.Proof.Gen.EvenFfnIdeal.Value
public import proofs.«01_k».proof.Proof.Gen.EvenFfnRefIdeal.Run
public import proofs.«01_k».proof.Proof.FfnMath
public import Idealize.ShloMosaic.Lib.Claim
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.EvenFfnIdeal.Whole

open Cert.EvenFfnIdeal Cert.EvenFfnIdeal.Gen

variable (m : (ℓ : Loc nD τ sig) → Buf (Elt Ideal) ℓ)

/-- Which block each window of the launch holds at a grid point. -/
theorem idx : ∀ t : Fin cfg0.N, win0_0.index t = ![t.val / 4, t.val % 4, 0] ∧ win0_1.index t = ![t.val / 4, t.val % 4, 0] ∧ win0_2.index t = ![t.val / 4, t.val % 4, 0] ∧ win0_3.index t = ![t.val / 4, 0, 0] ∧ win0_4.index t = ![0, 0] ∧ win0_5.index t = ![0, 0] ∧ win0_6.index t = ![0, 0] ∧ win0_7.index t = ![0, 1, 0, 0] ∧ win0_8.index t = ![0, 1, 0, 0] ∧ win0_9.index t = ![t.val / 4, t.val % 4, 0] :=
  (by decide +kernel : ∀ t : Fin grid0.N, _)

/-- A row of the tile after the mixer, from what each block holds. -/
theorem mix_eq (x0 : FVec Ideal S1x1024x1024 .f32) (a0 b0 : FVec Ideal S1x1024x512 .bf16) (wa wb : FVec Ideal S512x1024 .bf16)
    (gt : FVec Ideal S1x1x1024 .f32) (r : Fin 1024) (x gate : Fin 1024 → EReal) (a b : Fin 512 → EReal) (w : Fin 1024 → Fin 1024 → EReal)
    (hx : ∀ l, x0 (ix3 0 r l) = x l) (hgt : ∀ l, gt (ix3 0 0 l) = gate l) (ha : ∀ k, a0 (ix3 0 r k) = a k) (hb : ∀ k, b0 (ix3 0 r k) = b k)
    (hwa : ∀ k l, wa (ix2 k l) = w ⟨k.val, by omega⟩ l) (hwb : ∀ k l, wb (ix2 k l) = w ⟨512 + k.val, by omega⟩ l) (l : Fin 1024) :
    k0_pay2 (F := Ideal) x0 a0 wa b0 wb gt (ix2 r l) = FfnMath.mixed x gate a b w l := by
  unfold FfnMath.mixed
  simp only [← hx, ← hgt, ← ha, ← hb, ← hwa, ← hwb]
  pointwise [k0_pay2]

/-- The result the whole launch leaves. -/
def G (c : Dev nD) : FVec Ideal S8x4096x1024 .f32 :=
  FfnMath.step 0 1 2 6 7 8
    (fun b r => FfnMath.mixed (fun l => m (c.tc.loc main_arg0) (ix3 b r l)) (fun l => m (c.tc.loc main_arg1) (ix4 b 0 5 l)) (fun k => m (c.tc.loc main_arg5) (ix3 b r k))
      (fun k => m (c.tc.loc main_arg6) (ix3 b r k)) (fun k l => m (c.tc.loc main_arg7) (ix3 0 k l)))
    (m (c.tc.loc main_arg1)) (m (c.tc.loc main_arg2)) (m (c.tc.loc main_arg3)) (m (c.tc.loc main_arg4))

theorem final (c : Dev nD) : (dats m 0 c).arrAt 9 cfg0.N = G m c := by
  refine (dats m 0 c).arrAt_eq_of_covers 9 _ (by decide +kernel) fun t hf y => ?_
  blk_simp
  rw [after0_9]
  unfold outsAt0
  frame_out
  unfold G FfnMath.step
  refine FfnMath.tile_eq (k0_pay2 (iblk m c 0 t) (iblk m c 1 t) (iblk m c 5 t) (iblk m c 2 t) (iblk m c 6 t) (View.ld (iblk m c 3 t) (Rect.unit (s := S1x9x1024) ![0, 5, 0] ![1, 1, 1024] inb_S1x9x1024_S1x1x1024_0_5_0)))
    (View.ld (iblk m c 4 t) (Rect.unit (s := S3x1024) ![2, 0] ![1, 1024] inb_S3x1024_S1x1024_2_0))
    (View.ld (iblk m c 3 t) (Rect.unit (s := S1x9x1024) ![0, 6, 0] ![1, 1, 1024] inb_S1x9x1024_S1x1x1024_0_6_0))
    (View.ld (iblk m c 3 t) (Rect.unit (s := S1x9x1024) ![0, 7, 0] ![1, 1, 1024] inb_S1x9x1024_S1x1x1024_0_7_0))
    _ (iblk m c 7 t) _ _ y _ _ _ _ _ _ _ _ (FfnMath.buffer_eq _ _ _ _) ?hx ?_ ?_ ?_ ?_ ?_ ?_ ?_
  case hx =>
    intro l
    refine mix_eq _ _ _ _ _ _ _ _ _ _ _ _ ?_ ?_ ?_ ?_ ?_ ?_ l
    all_goals intros
    all_goals try pointwise
    all_goals try blk_point [iblk, V, idx t]
  all_goals intros
  all_goals skip
  all_goals try pointwise
  all_goals try blk_point [iblk, V, idx t]
  have e : (win0_9.index t) 2 = 0 := by rw [(idx t).2.2.2.2.2.2.2.2.2]; rfl
  apply Fin.ext
  show ((y 2 : Fin 1024) : ℕ) = (win0_9.index t) 2 * 1024 + 1 * ((y 2 : Fin 1024) : ℕ)
  rw [e]; omega

end Cert.EvenFfnIdeal.Whole

namespace Cert.EvenFfnRefIdeal.Whole

open Cert.EvenFfnRefIdeal Cert.EvenFfnRefIdeal.Gen

variable (m : (ℓ : Loc nD τ sig) → Buf (Elt Ideal) ℓ)

/-- The reference's result. -/
theorem result (c : Dev nD) : Value.res_main_v51 m c =
  FfnMath.step 0 1 2 6 7 8
    (fun b r => FfnMath.mixed (fun l => m (c.tc.loc main_arg0) (ix3 b r l)) (fun l => m (c.tc.loc main_arg1) (ix4 b 0 5 l)) (fun k => m (c.tc.loc main_arg5) (ix3 b r k))
      (fun k => m (c.tc.loc main_arg6) (ix3 b r k)) (fun k l => m (c.tc.loc main_arg7) (ix3 0 k l)))
    (m (c.tc.loc main_arg1)) (m (c.tc.loc main_arg2)) (m (c.tc.loc main_arg3)) (m (c.tc.loc main_arg4)) := by
  funext i
  obtain ⟨b, r, n, rfl⟩ : ∃ (b : Fin 8) (r : Fin 4096) (n : Fin 1024), i = ix3 b r n := ⟨i 0, i 1, i 2, eq_ix3 i⟩
  unfold Value.res_main_v51
  clean_types
  pointwise [FfnMath.mixed]
  rfl

end Cert.EvenFfnRefIdeal.Whole

end
-- ==== Proof.FfnValue.lean ====
/- What the Ffn program's kernel stores over its whole launch, as one function of the arguments, and the same function of its reference's result. -/
module

public import proofs.«01_k».proof.Proof.Gen.FfnIdeal.Value
public import proofs.«01_k».proof.Proof.Gen.FfnRefIdeal.Run
public import proofs.«01_k».proof.Proof.FfnMath
public import Idealize.ShloMosaic.Lib.Claim
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.FfnIdeal.Whole

open Cert.FfnIdeal Cert.FfnIdeal.Gen

variable (m : (ℓ : Loc nD τ sig) → Buf (Elt Ideal) ℓ)

/-- Which block each window of the launch holds at a grid point. -/
theorem idx : ∀ t : Fin cfg0.N, win0_0.index t = ![t.val / 4, t.val % 4, 0] ∧ win0_1.index t = ![t.val / 4, 0, 0] ∧ win0_2.index t = ![0, 0] ∧ win0_3.index t = ![0, 0, 0, 0] ∧ win0_4.index t = ![0, 0, 0, 0] ∧ win0_5.index t = ![t.val / 4, t.val % 4, 0] :=
  (by decide +kernel : ∀ t : Fin grid0.N, _)

/-- The result the whole launch leaves. -/
def G (c : Dev nD) : FVec Ideal S8x4096x1024 .f32 :=
  FfnMath.step 0 0 0 0 1 2
    (fun b r l => m (c.tc.loc main_arg0) (ix3 b r l))
    (m (c.tc.loc main_arg1)) (m (c.tc.loc main_arg2)) (m (c.tc.loc main_arg3)) (m (c.tc.loc main_arg4))

theorem final (c : Dev nD) : (dats m 0 c).arrAt 5 cfg0.N = G m c := by
  refine (dats m 0 c).arrAt_eq_of_covers 5 _ (by decide +kernel) fun t hf y => ?_
  blk_simp
  rw [after0_5]
  unfold outsAt0
  frame_out
  unfold G FfnMath.step
  refine FfnMath.tile_eq (k0_pay3 (iblk m c 0 t))
    (View.ld (iblk m c 2 t) (Rect.unit (s := S3x1024) ![0, 0] ![1, 1024] inb_S3x1024_S1x1024_0_0))
    (View.ld (iblk m c 1 t) (Rect.unit (s := S1x9x1024) ![0, 0, 0] ![1, 1, 1024] inb_S1x9x1024_S1x1x1024_0_0_0))
    (View.ld (iblk m c 1 t) (Rect.unit (s := S1x9x1024) ![0, 1, 0] ![1, 1, 1024] inb_S1x9x1024_S1x1x1024_0_1_0))
    _ (iblk m c 3 t) _ _ y _ _ _ _ _ _ _ _ (FfnMath.buffer_eq _ _ _ _) ?_ ?_ ?_ ?_ ?_ ?_ ?_ ?_
  all_goals intros
  all_goals try unfold k0_pay3
  all_goals try pointwise
  all_goals try blk_point [iblk, V, idx t]
  have e : (win0_5.index t) 2 = 0 := by rw [(idx t).2.2.2.2.2]; rfl
  apply Fin.ext
  show ((y 2 : Fin 1024) : ℕ) = (win0_5.index t) 2 * 1024 + 1 * ((y 2 : Fin 1024) : ℕ)
  rw [e]; omega

end Cert.FfnIdeal.Whole

namespace Cert.FfnRefIdeal.Whole

open Cert.FfnRefIdeal Cert.FfnRefIdeal.Gen

variable (m : (ℓ : Loc nD τ sig) → Buf (Elt Ideal) ℓ)

/-- The reference's result. -/
theorem result (c : Dev nD) : Value.res_main_v41 m c =
  FfnMath.step 0 0 0 0 1 2
    (fun b r l => m (c.tc.loc main_arg0) (ix3 b r l))
    (m (c.tc.loc main_arg1)) (m (c.tc.loc main_arg2)) (m (c.tc.loc main_arg3)) (m (c.tc.loc main_arg4)) := by
  funext i
  obtain ⟨b, r, n, rfl⟩ : ∃ (b : Fin 8) (r : Fin 4096) (n : Fin 1024), i = ix3 b r n := ⟨i 0, i 1, i 2, eq_ix3 i⟩
  unfold Value.res_main_v41
  clean_types
  pointwise
  rfl

end Cert.FfnRefIdeal.Whole

end
-- ==== Proof.LateFfnValue.lean ====
/- What the LateFfn program's kernel stores over its whole launch, as one function of the arguments, and the same function of its reference's result. -/
module

public import proofs.«01_k».proof.Proof.Gen.LateFfnIdeal.Value
public import proofs.«01_k».proof.Proof.Gen.LateFfnRefIdeal.Run
public import proofs.«01_k».proof.Proof.FfnMath
public import Idealize.ShloMosaic.Lib.Claim
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.LateFfnIdeal.Whole

open Cert.LateFfnIdeal Cert.LateFfnIdeal.Gen

variable (m : (ℓ : Loc nD τ sig) → Buf (Elt Ideal) ℓ)

/-- Which block each window of the launch holds at a grid point. -/
theorem idx : ∀ t : Fin cfg0.N, win0_0.index t = ![t.val / 4, t.val % 4, 0] ∧ win0_1.index t = ![t.val / 4, 0, 0] ∧ win0_2.index t = ![0, 0] ∧ win0_3.index t = ![1, 0, 0, 0] ∧ win0_4.index t = ![1, 0, 0, 0] ∧ win0_5.index t = ![t.val / 4, t.val % 4, 0] :=
  (by decide +kernel : ∀ t : Fin grid0.N, _)

/-- The result the whole launch leaves. -/
def G (c : Dev nD) : FVec Ideal S8x4096x1024 .f32 :=
  FfnMath.step 1 0 0 0 1 2
    (fun b r l => m (c.tc.loc main_arg0) (ix3 b r l))
    (m (c.tc.loc main_arg1)) (m (c.tc.loc main_arg2)) (m (c.tc.loc main_arg3)) (m (c.tc.loc main_arg4))

theorem final (c : Dev nD) : (dats m 0 c).arrAt 5 cfg0.N = G m c := by
  refine (dats m 0 c).arrAt_eq_of_covers 5 _ (by decide +kernel) fun t hf y => ?_
  blk_simp
  rw [after0_5]
  unfold outsAt0
  frame_out
  unfold G FfnMath.step
  refine FfnMath.tile_eq (k0_pay3 (iblk m c 0 t))
    (View.ld (iblk m c 2 t) (Rect.unit (s := S3x1024) ![0, 0] ![1, 1024] inb_S3x1024_S1x1024_0_0))
    (View.ld (iblk m c 1 t) (Rect.unit (s := S1x9x1024) ![0, 0, 0] ![1, 1, 1024] inb_S1x9x1024_S1x1x1024_0_0_0))
    (View.ld (iblk m c 1 t) (Rect.unit (s := S1x9x1024) ![0, 1, 0] ![1, 1, 1024] inb_S1x9x1024_S1x1x1024_0_1_0))
    _ (iblk m c 3 t) _ _ y _ _ _ _ _ _ _ _ (FfnMath.buffer_eq _ _ _ _) ?_ ?_ ?_ ?_ ?_ ?_ ?_ ?_
  all_goals intros
  all_goals try unfold k0_pay3
  all_goals try pointwise
  all_goals try blk_point [iblk, V, idx t]
  have e : (win0_5.index t) 2 = 0 := by rw [(idx t).2.2.2.2.2]; rfl
  apply Fin.ext
  show ((y 2 : Fin 1024) : ℕ) = (win0_5.index t) 2 * 1024 + 1 * ((y 2 : Fin 1024) : ℕ)
  rw [e]; omega

end Cert.LateFfnIdeal.Whole

namespace Cert.LateFfnRefIdeal.Whole

open Cert.LateFfnRefIdeal Cert.LateFfnRefIdeal.Gen

variable (m : (ℓ : Loc nD τ sig) → Buf (Elt Ideal) ℓ)

/-- The reference's result. -/
theorem result (c : Dev nD) : Value.res_main_v41 m c =
  FfnMath.step 1 0 0 0 1 2
    (fun b r l => m (c.tc.loc main_arg0) (ix3 b r l))
    (m (c.tc.loc main_arg1)) (m (c.tc.loc main_arg2)) (m (c.tc.loc main_arg3)) (m (c.tc.loc main_arg4)) := by
  funext i
  obtain ⟨b, r, n, rfl⟩ : ∃ (b : Fin 8) (r : Fin 4096) (n : Fin 1024), i = ix3 b r n := ⟨i 0, i 1, i 2, eq_ix3 i⟩
  unfold Value.res_main_v41
  clean_types
  pointwise
  rfl

end Cert.LateFfnRefIdeal.Whole

end
-- ==== Proof.EvenMath.lean ====
/- The even layer's input stage as arithmetic on extended reals: the tanh gate, the normalised groups, the spatial product of a chunk, the mean
   over a head's columns, and the host-made operands of the kernel read at an index. -/
module

public import proofs.«01_k».proof.Proof.Gen.EvenInIdeal.Frame
public import proofs.«01_k».proof.Proof.FfnMath
public import proofs.«01_k».proof.Proof.AttnMath
public import Idealize.ShloMosaic.Lib.Claim
public import Idealize.ShloMosaic.Lib.Tactic.CleanTypes

@[expose] public section

set_option maxRecDepth 16384

noncomputable section

open Idealize.ShloMosaic Idealize.ShloMosaic.TcCoe Idealize.SL.Sem

namespace Cert.EvenMath

open Cert.EvenInIdeal Cert.EvenInIdeal.Gen

/-- The smooth gate of one number, in its tanh form. -/
def gelu (x : EReal) : EReal :=
  x * (Ideal.ofBits .f32 0x3F000000#32 * (1 + Ideal.tanh (Ideal.ofBits .f32 0x3F4C422A#32 * (x + Ideal.ofBits .f32 0x3D372713#32 * (x * x * x)))))

theorem gelu_pay11 (A : FVec Ideal S512x512 .f32) (i : S512x512.Idx) : k0_pay11 (F := Ideal) A i = gelu (A i) := by
  pointwise [k0_pay11]
  unfold gelu
  rw [mul_assoc, mul_left_comm]

theorem gelu_pay29 (A : FVec Ideal S512x512 .f32) (i : S512x512.Idx) : k0_pay29 (F := Ideal) A i = gelu (A i) := by
  pointwise [k0_pay29]
  unfold gelu
  rw [mul_assoc, mul_left_comm]

/-- A number over the root of the mean square of its group of 128, times its gain. -/
def unit (f : Fin 128 → EReal) (g : EReal) (d : Fin 128) : EReal :=
  f d * Ideal.rsqrt (Ideal.div (∑ e, f e * f e) (Ideal.ofBits .f32 0x43000000#32) + Ideal.ofBits .f32 0x358637BD#32) * g

/-- One spatial product: the weights' row with the normalised gates of the chunk's rows. -/
def spat (A : Vec Ideal S512x512 .f32) (g : Vec Ideal S1x128 .f32) (w : Vec Ideal S1x128x128 .bf16) (h : Fin 4) (p : Fin 128) (j : Fin 512) : EReal :=
  ∑ q : Fin 128, w (ix3 0 p q) * unit (fun d => A (ix2 ⟨j.val / 128 * 128 + q.val, by omega⟩ ⟨h.val * 128 + d.val, by omega⟩)) (g (ix2 0 ⟨j.val % 128, by omega⟩)) ⟨j.val % 128, by omega⟩

theorem spat14 (A : FVec Ideal S512x512 .f32) (g : FVec Ideal S1x128 .f32) (w : FVec Ideal S1x128x128 .bf16) (p : Fin 128) (j : Fin 512) :
    k0_pay14 (F := Ideal) (k0_pay12 A) (k0_pay13 A) g w (ix2 p j) = spat (k0_pay11 A) g w 0 p j := by
  unfold spat unit
  pointwise [k0_pay14, k0_pay12, k0_pay13]
  refine Finset.sum_congr rfl fun q _ => ?_
  split_ifs
  all_goals first
    | exact absurd rfl ‹¬ _›
    | (have hr : j.val / 128 * 128 = 0 := by omega
       have hc : j.val % 128 = j.val := by omega
       simp only [hr, hc, zero_add])
    | (have hr : j.val / 128 * 128 = 128 := by omega
       have hc : j.val % 128 = j.val - 128 := by omega
       simp only [hr, hc, zero_add])
    | (have hr : j.val / 128 * 128 = 256 := by omega
       have hc : j.val % 128 = j.val - 128 - 128 := by omega
       simp only [hr, hc, zero_add])
    | (have hr : j.val / 128 * 128 = 384 := by omega
       have hc : j.val % 128 = j.val - 128 - 128 - 128 := by omega
       simp only [hr, hc, zero_add])

theorem spat15 (A : FVec Ideal S512x512 .f32) (g : FVec Ideal S1x128 .f32) (w : FVec Ideal S1x128x128 .bf16) (p : Fin 128) (j : Fin 512) :
    k0_pay15 (F := Ideal) A g w (ix2 p j) = spat A g w 1 p j := by
  unfold spat unit
  pointwise [k0_pay15]
  refine Finset.sum_congr rfl fun q _ => ?_
  split_ifs
  all_goals first
    | exact absurd rfl ‹¬ _›
    | (have hr : j.val / 128 * 128 = 0 := by omega
       have hc : j.val % 128 = j.val := by omega
       simp only [hr, hc, zero_add])
    | (have hr : j.val / 128 * 128 = 128 := by omega
       have hc : j.val % 128 = j.val - 128 := by omega
       simp only [hr, hc, zero_add])
    | (have hr : j.val / 128 * 128 = 256 := by omega
       have hc : j.val % 128 = j.val - 128 - 128 := by omega
       simp only [hr, hc, zero_add])
    | (have hr : j.val / 128 * 128 = 384 := by omega
       have hc : j.val % 128 = j.val - 128 - 128 - 128 := by omega
       simp only [hr, hc, zero_add])

theorem spat19 (A : FVec Ideal S512x512 .f32) (g : FVec Ideal S1x128 .f32) (w : FVec Ideal S1x128x128 .bf16) (p : Fin 128) (j : Fin 512) :
    k0_pay19 (F := Ideal) (k0_pay16 A) (k0_pay17 A) (k0_pay18 (F := Ideal)) g w (ix2 p j) = spat A g w 2 p j := by
  unfold spat unit
  pointwise [k0_pay19, k0_pay16, k0_pay17, k0_pay18]
  refine Finset.sum_congr rfl fun q _ => ?_
  split_ifs
  all_goals first
    | exact absurd rfl ‹¬ _›
    | (have hr : j.val / 128 * 128 = 0 := by omega
       have hc : j.val % 128 = j.val := by omega
       simp only [hr, hc, zero_add])
    | (have hr : j.val / 128 * 128 = 128 := by omega
       have hc : j.val % 128 = j.val - 128 := by omega
       simp only [hr, hc, zero_add])
    | (have hr : j.val / 128 * 128 = 256 := by omega
       have hc : j.val % 128 = j.val - 128 - 128 := by omega
       simp only [hr, hc, zero_add])
    | (have hr : j.val / 128 * 128 = 384 := by omega
       have hc : j.val % 128 = j.val - 128 - 128 - 128 := by omega
       simp only [hr, hc, zero_add])

theorem spat20 (A : FVec Ideal S512x512 .f32) (g : FVec Ideal S1x128 .f32) (w : FVec Ideal S1x128x128 .bf16) (p : Fin 128) (j : Fin 512) :
    k0_pay20 (F := Ideal) A g w (ix2 p j) = spat A g w 3 p j := by
  unfold spat unit
  pointwise [k0_pay20]
  refine Finset.sum_congr rfl fun q _ => ?_
  split_ifs
  all_goals first
    | exact absurd rfl ‹¬ _›
    | (have hr : j.val / 128 * 128 = 0 := by omega
       have hc : j.val % 128 = j.val := by omega
       simp only [hr, hc, zero_add])
    | (have hr : j.val / 128 * 128 = 128 := by omega
       have hc : j.val % 128 = j.val - 128 := by omega
       simp only [hr, hc, zero_add])
    | (have hr : j.val / 128 * 128 = 256 := by omega
       have hc : j.val % 128 = j.val - 128 - 128 := by omega
       simp only [hr, hc, zero_add])
    | (have hr : j.val / 128 * 128 = 384 := by omega
       have hc : j.val % 128 = j.val - 128 - 128 - 128 := by omega
       simp only [hr, hc, zero_add])

theorem sixtyfourth : Ideal.ofBits .f32 0x3C800000#32 = (((1 : ℝ) / 64 : ℝ) : EReal) := by
  simp [Ideal.ofBits, Ideal.ieee, -EReal.coe_mul]
  norm_num [Rat.cast]

theorem sixtyfour : Ideal.ofBits .f32 0x42800000#32 = ((64 : ℝ) : EReal) := by
  simp [Ideal.ofBits, Ideal.ieee, -EReal.coe_mul]
  norm_num [Rat.cast]

/-- A product with a block-diagonal matrix of 64ths is the mean over the column's group of 64. -/
theorem group_mean {N : ℕ} (f B : Fin N → EReal) (c : Fin N) (hN : c.val / 64 * 64 + 64 ≤ N)
    (hB : ∀ x : Fin N, B x = if x.val / 64 = c.val / 64 then Ideal.ofBits .f32 0x3C800000#32 else 0) :
    ∑ x, f x * B x = Ideal.div (∑ e : Fin 64, f ⟨c.val / 64 * 64 + e.val, by omega⟩) (Ideal.ofBits .f32 0x42800000#32) := by
  simp only [hB, mul_ite, mul_zero]
  rw [Finset.sum_ite, Finset.sum_const_zero, add_zero]
  have e : ∑ x ∈ Finset.univ.filter (fun x : Fin N => x.val / 64 = c.val / 64), f x * Ideal.ofBits .f32 0x3C800000#32
      = ∑ e : Fin 64, f ⟨c.val / 64 * 64 + e.val, by omega⟩ * Ideal.ofBits .f32 0x3C800000#32 := by
    refine Finset.sum_bij' (fun x _ => (⟨x.val % 64, by omega⟩ : Fin 64)) (fun e _ => ⟨c.val / 64 * 64 + e.val, by omega⟩) ?_ ?_ ?_ ?_ ?_
    · intro x _; exact Finset.mem_univ _
    · intro e _
      simp only [Finset.mem_filter, Finset.mem_univ, true_and]
      omega
    · intro x hx
      have := (Finset.mem_filter.1 hx).2
      apply Fin.ext
      dsimp only
      omega
    · intro e _
      apply Fin.ext
      dsimp only
      omega
    · intro x hx
      have := (Finset.mem_filter.1 hx).2
      congr 2
      apply Fin.ext
      dsimp only
      omega
  rw [e]
  simp only [mul_comm _ (Ideal.ofBits .f32 0x3C800000#32)]
  rw [← AttnMath.sum_mul_pos, sixtyfourth, sixtyfour]
  · unfold Ideal.div
    rw [if_neg, mul_comm]
    · congr 1
      rw [← EReal.coe_inv]
      norm_num
    · norm_num
  · rw [sixtyfourth]; exact EReal.coe_nonneg.2 (by norm_num)
  · rw [sixtyfourth]; exact EReal.coe_ne_top _

/-- A lane below 64 takes the first of two numbers, the others the second. -/
theorem lane_select (a : Fin 128) (x y : EReal) :
    Scalar.select (k0_pay21 (iota .tc S1x128 32 [1] iota_S1x128_d1_w32) (ix2 0 a)) x y = if a.val < 64 then x else y := by
  have e : ∀ a : Fin 128, k0_pay21 (iota .tc S1x128 32 [1] iota_S1x128_d1_w32) (ix2 0 a) = if a.val < 64 then 1#1 else 0#1 := by decide +kernel
  rw [e]
  split_ifs <;> rfl

/-- The quotient by 64 of a column or row number, as the host program computes it. -/
def quot (s : Shape) (a : IVec s 32) (h : S_.BroadcastsInDim s (![] : Fin 0 → Fin s.rank)) : IVec s 32 :=
  select (andi (cmpi .ne (signi a) (broadcastInDim s ![] h (signi (constantI S_ 32 64#32)))) (cmpi .ne (Host.remsi a (broadcastInDim s ![] h (constantI S_ 32 64#32))) (broadcastInDim s ![] h (constantI S_ 32 0#32))))
    (subi (Host.divsi a (broadcastInDim s ![] h (constantI S_ 32 64#32))) (broadcastInDim s ![] h (constantI S_ 32 1#32)))
    (Host.divsi a (broadcastInDim s ![] h (constantI S_ 32 64#32)))

def quotRow : IVec S512x1 32 := quot S512x1 (broadcastInDim S512x1 ![0] bcast_S512_S512x1_0 (iotaInDim S512 32 0)) bcast_S_S512x1
def quotCol : IVec S1x512 32 := quot S1x512 (broadcastInDim S1x512 ![1] bcast_S512_S1x512_1 (iotaInDim S512 32 0)) bcast_S_S1x512

theorem quotRow_at : ∀ a : Fin 512, quotRow (ix2 a 0) = BitVec.ofNat 32 (a.val / 64) := by decide +kernel
theorem quotCol_at : ∀ a : Fin 512, quotCol (ix2 0 a) = BitVec.ofNat 32 (a.val / 64) := by decide +kernel

/-- The block-diagonal matrix of 64ths. -/
def diag : FVec Ideal S512x512 .bf16 :=
  truncf .bf16 (select (cmpi .eq (broadcastInDim S512x512 ![0, 1] bcast_S512x1_S512x512_0_1 quotRow) (broadcastInDim S512x512 ![0, 1] bcast_S1x512_S512x512_0_1 quotCol))
    (broadcastInDim S512x512 ![] bcast_S_S512x512 (constant (F := Ideal) S_ .f32 0x3C800000#32))
    (broadcastInDim S512x512 ![] bcast_S_S512x512 (constant (F := Ideal) S_ .f32 0x00000000#32))) bitsLt_bf16_f32

theorem diag_at (a b : Fin 512) : diag (ix2 a b) = if a.val / 64 = b.val / 64 then Ideal.ofBits .f32 0x3C800000#32 else 0 := by
  unfold diag
  pointwise [quotRow_at, quotCol_at]
  have e : ∀ a b : Fin 8, IntOp.cmpi .eq (BitVec.ofNat 32 a.val) (BitVec.ofNat 32 b.val) = if a.val = b.val then 1#1 else 0#1 := by decide
  rw [e ⟨a.val / 64, by omega⟩ ⟨b.val / 64, by omega⟩]
  dsimp only
  split_ifs <;> rfl

/-- The column of the input projection a doubled key column, or a doubled value column, is a copy of. -/
def keyCol (j : Fin 256) : Fin 1792 := ⟨1536 + (j.val / 128 * 64 + j.val % 64), by omega⟩
def valCol (j : Fin 256) : Fin 1792 := ⟨1664 + (j.val / 128 * 64 + j.val % 64), by omega⟩

/-- One head's columns twice side by side, and the next head's. -/
def doubled (w : FVec Ideal S1024x128 .f32) : FVec Ideal S1024x256 .f32 :=
  concatenate S1024x256 1 [⟨S1024x64, extractStridedSlice S1024x64 ![0, 0] w slices_S1024x128_S1024x64_0_0⟩, ⟨S1024x64, extractStridedSlice S1024x64 ![0, 0] w slices_S1024x128_S1024x64_0_0⟩,
    ⟨S1024x64, extractStridedSlice S1024x64 ![0, 64] w slices_S1024x128_S1024x64_0_64⟩, ⟨S1024x64, extractStridedSlice S1024x64 ![0, 64] w slices_S1024x128_S1024x64_0_64⟩] concatenates_S1024x64_S1024x64_S1024x64_S1024x64_S1024x256_d1

theorem doubled_at (w : FVec Ideal S1024x128 .f32) (k : Fin 1024) (j : Fin 256) : doubled w (ix2 k j) = w (ix2 k ⟨j.val / 128 * 64 + j.val % 64, by omega⟩) := by
  unfold doubled
  pointwise
  split_ifs <;> first | exact absurd rfl ‹¬ _› | (refine congrArg w ?_; congr 1; apply Fin.ext; dsimp only; omega)

/-- The input projection as the host program lays it out. -/
def weights (w : FVec Ideal S1x1024x1792 .f32) : FVec Ideal S1024x2048 .bf16 :=
  truncf .bf16 (concatenate S1024x2048 1 [⟨S1024x1536, extractStridedSlice S1024x1536 ![0, 0] (shapeCast _ w shapeCasts_S1x1024x1792_S1024x1792) slices_S1024x1792_S1024x1536_0_0⟩,
    ⟨S1024x256, doubled (extractStridedSlice S1024x128 ![0, 1536] (shapeCast _ w shapeCasts_S1x1024x1792_S1024x1792) slices_S1024x1792_S1024x128_0_1536)⟩,
    ⟨S1024x256, doubled (extractStridedSlice S1024x128 ![0, 1664] (shapeCast _ w shapeCasts_S1x1024x1792_S1024x1792) slices_S1024x1792_S1024x128_0_1664)⟩] concatenates_S1024x1536_S1024x256_S1024x256_S1024x2048_d1) bitsLt_bf16_f32

theorem weights_low (w : FVec Ideal S1x1024x1792 .f32) (k : Fin 1024) (j : Fin 2048) (h : j.val < 1536) :
    weights w (ix2 k j) = w (ix3 0 k ⟨j.val, by omega⟩) := by
  unfold weights
  pointwise [doubled_at]
  rw [dif_pos h]

theorem weights_key (w : FVec Ideal S1x1024x1792 .f32) (k : Fin 1024) (j : Fin 256) :
    weights w (ix2 k ⟨1536 + j.val, by omega⟩) = w (ix3 0 k (keyCol j)) := by
  unfold weights keyCol
  pointwise [doubled_at]

theorem weights_val (w : FVec Ideal S1x1024x1792 .f32) (k : Fin 1024) (j : Fin 256) :
    weights w (ix2 k ⟨1792 + j.val, by omega⟩) = w (ix3 0 k (valCol j)) := by
  unfold weights valCol
  pointwise [doubled_at]
  rw [dif_neg (by omega), dif_neg (by omega)]
  have e : 1792 + j.val - 1536 - 256 = j.val := by omega
  simp only [e]

end Cert.EvenMath

end
-- ==== Proof.EvenTile.lean ====
/- One tile of the even layer's input stage, read at an index from the blocks the kernel loads. -/
module

public import proofs.«01_k».proof.Proof.EvenMath

@[expose] public section

set_option maxRecDepth 16384

noncomputable section

open Idealize.ShloMosaic Idealize.ShloMosaic.TcCoe Idealize.SL.Sem

namespace Cert.EvenMath

open Cert.EvenInIdeal Cert.EvenInIdeal.Gen

/-! The other operands the host program lays out. -/

theorem sgu_at (a : FVec Ideal S1x4x128 .f32) (j : Fin 512) :
    (shapeCast S1x512 (shapeCast S4x128 a shapeCasts_S1x4x128_S4x128) shapeCasts_S4x128_S1x512) (ix2 0 j) = a (ix3 0 ⟨j.val / 128, by omega⟩ ⟨j.val % 128, by omega⟩) := by
  pointwise

theorem spatw_at (a : FVec Ideal S1x4x128x128 .f32) (g : Fin 4) (p q : Fin 128) :
    truncf (F := Ideal) .bf16 (shapeCast S4x128x128 a shapeCasts_S1x4x128x128_S4x128x128) bitsLt_bf16_f32 (ix3 g p q) = a (ix4 0 g p q) := by
  pointwise

theorem spatb_at (a : FVec Ideal S1x4x128 .f32) (g : Fin 4) (p q : Fin 128) :
    broadcastInDim S4x128x128 ![0, 1, 2] bcast_S4x128x1_S4x128x128_0_1_2 (broadcastInDim S4x128x1 ![0, 1] bcast_S4x128_S4x128x1_0_1 (shapeCast S4x128 a shapeCasts_S1x4x128_S4x128)) (ix3 g p q)
      = a (ix3 0 g p) := by
  pointwise

theorem qgain_at (a : FVec Ideal S1x64 .f32) (j : Fin 512) :
    broadcastInDim S1x512 ![1] bcast_S512_S1x512_1 (shapeCast S512 (broadcastInDim S8x64 ![0, 1] bcast_S1x64_S8x64_0_1 (shapeCast S1x64 (shapeCast S64 a shapeCasts_S1x64_S64) shapeCasts_S64_S1x64)) shapeCasts_S8x64_S512) (ix2 0 j)
      = a (ix2 0 ⟨j.val % 64, by omega⟩) := by
  pointwise

theorem kgain_at (a : FVec Ideal S1x64 .f32) (j : Fin 256) :
    broadcastInDim S1x256 ![1] bcast_S256_S1x256_1 (shapeCast S256 (broadcastInDim S4x64 ![0, 1] bcast_S1x64_S4x64_0_1 (shapeCast S1x64 (shapeCast S64 a shapeCasts_S1x64_S64) shapeCasts_S64_S1x64)) shapeCasts_S4x64_S256) (ix2 0 j)
      = a (ix2 0 ⟨j.val % 64, by omega⟩) := by
  pointwise

section Tile

variable (x0 : Vec Ideal S1x512x1024 .f32) (x1 : Vec Ideal S1x9x1024 .f32) (x2 : Vec Ideal S3x1024 .f32) (x3 : Vec Ideal S1024x2048 .bf16)
  (x4 : Vec Ideal S1x512 .f32) (x5 : Vec Ideal S4x128x128 .bf16) (x6 : Vec Ideal S4x128x128 .f32) (x7 : Vec Ideal S1x512 .f32)
  (x8 : Vec Ideal S1x256 .f32) (x9 : Vec Ideal S512x512 .bf16)

/-- One column of the tile's input projection. -/
def col (r : Fin 512) (j : Fin 2048) : EReal :=
  ∑ k, FfnMath.hid (fun l => x0 (ix3 0 r l)) (fun l => x2 (ix2 1 l)) (fun l => x1 (ix3 0 3 l)) (fun l => x1 (ix3 0 4 l)) k * x3 (ix2 k j)

theorem norm_at (r : Fin 512) (k : Fin 1024) : k0_pay50 (F := Ideal) x0 x1 x2 x3 x4 x5 x6 x7 x8 x9 (ix2 r k)
    = FfnMath.hid (fun l => x0 (ix3 0 r l)) (fun l => x2 (ix2 1 l)) (fun l => x1 (ix3 0 3 l)) (fun l => x1 (ix3 0 4 l)) k := by
  unfold k0_pay50 FfnMath.hid
  pointwise [k0_pay2]

theorem u_at (r j : Fin 512) : k0_pay51 (F := Ideal) x0 x1 x2 x3 x4 x5 x6 x7 x8 x9 (ix2 r j) = col x0 x1 x2 x3 r ⟨j.val, by omega⟩ := by
  show k0_pay3 (View.ld x0 r0_0) (View.ld x2 r0_1) (View.ld x1 r0_2) (View.ld x1 r0_3) (View.ld x3 r0_4) (ix2 r j) = _
  unfold col FfnMath.hid
  pointwise [k0_pay3, k0_pay2]

theorem v_at (r j : Fin 512) : k0_pay52 (F := Ideal) x0 x1 x2 x3 x4 x5 x6 x7 x8 x9 (ix2 r j) = col x0 x1 x2 x3 r ⟨512 + j.val, by omega⟩ := by
  show k0_pay4 (View.ld x0 r0_0) (View.ld x2 r0_1) (View.ld x1 r0_2) (View.ld x1 r0_3) (View.ld x3 r0_5) (ix2 r j) = _
  unfold col FfnMath.hid
  pointwise [k0_pay4, k0_pay2]

theorem q_at (r j : Fin 512) : k0_pay6 (k0_pay50 (F := Ideal) x0 x1 x2 x3 x4 x5 x6 x7 x8 x9) (k0_pay53 (F := Ideal) x0 x1 x2 x3 x4 x5 x6 x7 x8 x9) (ix2 r j) = col x0 x1 x2 x3 r ⟨1024 + j.val, by omega⟩ := by
  unfold col k0_pay53
  pointwise [k0_pay6, k0_pay5]
  simp only [norm_at]

theorem k_at (r : Fin 512) (j : Fin 256) : k0_pay54 (F := Ideal) x0 x1 x2 x3 x4 x5 x6 x7 x8 x9 (ix2 r j) = col x0 x1 x2 x3 r ⟨1536 + j.val, by omega⟩ := by
  unfold col k0_pay54
  pointwise [k0_pay7]
  simp only [norm_at]

theorem val_at (r : Fin 512) (j : Fin 256) : k0_pay55 (F := Ideal) x0 x1 x2 x3 x4 x5 x6 x7 x8 x9 (ix2 r j) = col x0 x1 x2 x3 r ⟨1792 + j.val, by omega⟩ := by
  unfold col k0_pay55
  pointwise [k0_pay8]
  simp only [norm_at]

/-- A column over the root of its group's mean square, which the tile takes as a product with a matrix, times its gain. -/
def scaled {N : ℕ} (f : Fin N → EReal) (B : Fin N → EReal) (g : EReal) (j : Fin N) : EReal :=
  f j * Ideal.rsqrt (∑ x, f x * f x * B x + Ideal.ofBits .f32 0x358637BD#32) * g

theorem query_tile (r j : Fin 512) : k0_pay22 (k0_pay6 (k0_pay50 (F := Ideal) x0 x1 x2 x3 x4 x5 x6 x7 x8 x9) (k0_pay53 (F := Ideal) x0 x1 x2 x3 x4 x5 x6 x7 x8 x9)) (k0_pay9 (k0_pay50 (F := Ideal) x0 x1 x2 x3 x4 x5 x6 x7 x8 x9) (k0_pay53 (F := Ideal) x0 x1 x2 x3 x4 x5 x6 x7 x8 x9) x9) x7 (ix3 0 r j)
    = scaled (fun j : Fin 512 => col x0 x1 x2 x3 r ⟨1024 + j.val, by omega⟩) (fun x => x9 (ix2 x j)) (x7 (ix2 0 j)) j := by
  unfold scaled
  pointwise [k0_pay22, k0_pay9]
  simp only [q_at]

theorem key_tile (r : Fin 512) (a : Fin 128) : k0_pay24 (k0_pay54 (F := Ideal) x0 x1 x2 x3 x4 x5 x6 x7 x8 x9) (k0_pay56 (F := Ideal) x0 x1 x2 x3 x4 x5 x6 x7 x8 x9) (k0_pay60 (F := Ideal) x0 x1 x2 x3 x4 x5 x6 x7 x8 x9) x8 (ix3 0 r a)
    = if a.val < 64 then scaled (fun j : Fin 256 => col x0 x1 x2 x3 r ⟨1536 + j.val, by omega⟩) (fun x => x9 (ix2 ⟨x.val, by omega⟩ ⟨a.val, by omega⟩)) (x8 (ix2 0 ⟨a.val, by omega⟩)) ⟨a.val, by omega⟩
      else scaled (fun j : Fin 256 => col x0 x1 x2 x3 r ⟨1536 + j.val, by omega⟩) (fun x => x9 (ix2 ⟨x.val, by omega⟩ ⟨128 + a.val, by omega⟩)) (x8 (ix2 0 ⟨128 + a.val, by omega⟩)) ⟨128 + a.val, by omega⟩ := by
  unfold scaled k0_pay56
  pointwise [k0_pay24, k0_pay23, k0_pay10]
  rw [show k0_pay60 (F := Ideal) x0 x1 x2 x3 x4 x5 x6 x7 x8 x9 = iota .tc S1x128 32 [1] iota_S1x128_d1_w32 from rfl, lane_select]
  simp only [k_at, ← show k0_pay54 (F := Ideal) x0 x1 x2 x3 x4 x5 x6 x7 x8 x9 = k0_pay7 (k0_pay50 (F := Ideal) x0 x1 x2 x3 x4 x5 x6 x7 x8 x9) (View.ld x3 r0_7) from rfl]

theorem value_tile (r : Fin 512) (a : Fin 128) : k0_pay25 (k0_pay55 (F := Ideal) x0 x1 x2 x3 x4 x5 x6 x7 x8 x9) (k0_pay60 (F := Ideal) x0 x1 x2 x3 x4 x5 x6 x7 x8 x9) (ix3 0 r a)
    = if a.val < 64 then col x0 x1 x2 x3 r ⟨1792 + a.val, by omega⟩ else col x0 x1 x2 x3 r ⟨1792 + (128 + a.val), by omega⟩ := by
  pointwise [k0_pay25]
  rw [show k0_pay60 (F := Ideal) x0 x1 x2 x3 x4 x5 x6 x7 x8 x9 = iota .tc S1x128 32 [1] iota_S1x128_d1_w32 from rfl, lane_select]
  simp only [val_at]

/-- One entry of the gated product's tile. -/
def gated (r j : Fin 512) : EReal :=
  gelu (col x0 x1 x2 x3 r ⟨j.val, by omega⟩)
    * ((∑ q : Fin 128, x5 (ix3 ⟨j.val / 128, by omega⟩ ⟨r.val % 128, by omega⟩ q)
          * unit (fun d => gelu (col x0 x1 x2 x3 ⟨r.val / 128 * 128 + q.val, by omega⟩ ⟨512 + (j.val / 128 * 128 + d.val), by omega⟩)) (x4 (ix2 0 j)) ⟨j.val % 128, by omega⟩)
      + x6 (ix3 ⟨j.val / 128, by omega⟩ ⟨r.val % 128, by omega⟩ ⟨j.val % 128, by omega⟩))

/-- Stores that are blocks of `G` and cover the buffer leave `G`. -/
theorem canon_pieces {s : Shape} {e : EltTy} {Val : EltTy → Type} [∀ e, Nonempty (Val e)]
    (L : List (View.Piece Val s e)) (G : s.Idx → Val e) (hc : ∀ y : s.Idx, ∃ p ∈ L, y ∈ p.1.set) (h : View.PiecesOf G L) :
    View.canon L = G := by
  funext y
  simpa using View.canon_append_of_piecesOf G [] L h y (hc y)

theorem gated_at (h n : Fin 4) (p d : Fin 128) (U S : EReal) (g : Vec Ideal S1x128 .f32) (w : Vec Ideal S1x128x128 .bf16)
    (hg : ∀ d : Fin 128, g (ix2 0 d) = x4 (ix2 0 ⟨h.val * 128 + d.val, by omega⟩)) (hw : ∀ q, w (ix3 0 p q) = x5 (ix3 h p q))
    (hU : U = gelu (col x0 x1 x2 x3 ⟨n.val * 128 + p.val, by omega⟩ ⟨h.val * 128 + d.val, by omega⟩)) (hS : S = spat (k0_pay57 (F := Ideal) x0 x1 x2 x3 x4 x5 x6 x7 x8 x9) g w h p ⟨n.val * 128 + d.val, by omega⟩) :
    U * (S + x6 (ix3 h p d))
      = gated x0 x1 x2 x3 x4 x5 x6 ⟨n.val * 128 + p.val, by omega⟩ ⟨h.val * 128 + d.val, by omega⟩ := by
  have e1 : (h.val * 128 + d.val) / 128 = h.val := by omega
  have e2 : (h.val * 128 + d.val) % 128 = d.val := by omega
  have e3 : (n.val * 128 + p.val) / 128 = n.val := by omega
  have e4 : (n.val * 128 + p.val) % 128 = p.val := by omega
  have e5 : (n.val * 128 + d.val) / 128 = n.val := by omega
  have e6 : (n.val * 128 + d.val) % 128 = d.val := by omega
  have e7 : ∀ i : S512x512.Idx, k0_pay57 (F := Ideal) x0 x1 x2 x3 x4 x5 x6 x7 x8 x9 i = gelu (k0_pay52 (F := Ideal) x0 x1 x2 x3 x4 x5 x6 x7 x8 x9 i) := fun i => gelu_pay11 _ i
  rw [hU, hS]
  unfold gated spat
  simp only [e1, e2, e3, e4, e5, e6, e7, v_at, hg, hw]

theorem spat_0 (p : Fin 128) (j : Fin 512) : k0_pay58 (F := Ideal) x0 x1 x2 x3 x4 x5 x6 x7 x8 x9 (ix2 p j) = spat (k0_pay57 (F := Ideal) x0 x1 x2 x3 x4 x5 x6 x7 x8 x9) (View.ld x4 r0_11) (View.ld x5 r0_12) 0 p j := spat14 _ _ _ p j
theorem spat_1 (p : Fin 128) (j : Fin 512) : k0_pay59 (F := Ideal) x0 x1 x2 x3 x4 x5 x6 x7 x8 x9 (ix2 p j) = spat (k0_pay57 (F := Ideal) x0 x1 x2 x3 x4 x5 x6 x7 x8 x9) (View.ld x4 r0_13) (View.ld x5 r0_14) 1 p j := spat15 _ _ _ p j
theorem spat_2 (p : Fin 128) (j : Fin 512) : k0_pay61 (F := Ideal) x0 x1 x2 x3 x4 x5 x6 x7 x8 x9 (ix2 p j) = spat (k0_pay57 (F := Ideal) x0 x1 x2 x3 x4 x5 x6 x7 x8 x9) (View.ld x4 r0_15) (View.ld x5 r0_16) 2 p j := spat19 _ _ _ p j
theorem spat_3 (p : Fin 128) (j : Fin 512) : k0_pay62 (F := Ideal) x0 x1 x2 x3 x4 x5 x6 x7 x8 x9 (ix2 p j) = spat (k0_pay57 (F := Ideal) x0 x1 x2 x3 x4 x5 x6 x7 x8 x9) (View.ld x4 r0_17) (View.ld x5 r0_18) 3 p j := spat20 _ _ _ p j

theorem gate_u (r j : Fin 512) : k0_pay63 (F := Ideal) x0 x1 x2 x3 x4 x5 x6 x7 x8 x9 (ix2 r j) = gelu (col x0 x1 x2 x3 r ⟨j.val, by omega⟩) :=
  (gelu_pay29 _ _).trans (congrArg gelu (u_at x0 x1 x2 x3 x4 x5 x6 x7 x8 x9 r j))

/-- Place `d` of block `n`. -/
def sh (n : Fin 4) (d : Fin 128) : Fin 512 := ⟨n.val * 128 + d.val, by omega⟩

theorem out_tile : out0_10 (F := Ideal) x0 x1 x2 x3 x4 x5 x6 x7 x8 x9 = fun y => gated x0 x1 x2 x3 x4 x5 x6 (y 1) (y 2) := by
  unfold out0_10
  refine canon_pieces _ _ (View.cover_of_tiledL _ ![1, 128, 128] (by sl_kernel_rfl))
    ⟨fun (x : S1x128x128.Idx) => ?_, fun (x : S1x128x128.Idx) => ?_, fun (x : S1x128x128.Idx) => ?_, fun (x : S1x128x128.Idx) => ?_, fun (x : S1x128x128.Idx) => ?_, fun (x : S1x128x128.Idx) => ?_, fun (x : S1x128x128.Idx) => ?_, fun (x : S1x128x128.Idx) => ?_, fun (x : S1x128x128.Idx) => ?_, fun (x : S1x128x128.Idx) => ?_, fun (x : S1x128x128.Idx) => ?_, fun (x : S1x128x128.Idx) => ?_, fun (x : S1x128x128.Idx) => ?_, fun (x : S1x128x128.Idx) => ?_, fun (x : S1x128x128.Idx) => ?_, fun (x : S1x128x128.Idx) => ?_, trivial⟩
  · refine Eq.trans ?_ ((gated_at x0 x1 x2 x3 x4 x5 x6 x7 x8 x9 3 3 (x 1) (x 2) (k0_pay63 (F := Ideal) x0 x1 x2 x3 x4 x5 x6 x7 x8 x9 (ix2 (sh 3 (x 1)) (sh 3 (x 2)))) (k0_pay62 (F := Ideal) x0 x1 x2 x3 x4 x5 x6 x7 x8 x9 (ix2 (x 1) (sh 3 (x 2)))) (View.ld x4 r0_17) (View.ld x5 r0_18) ?_ ?_ (gate_u x0 x1 x2 x3 x4 x5 x6 x7 x8 x9 _ _) (spat_3 x0 x1 x2 x3 x4 x5 x6 x7 x8 x9 _ _)).trans
      (congrArg₂ (gated x0 x1 x2 x3 x4 x5 x6) (Fin.ext (by show 3 * 128 + (x 1).val = 384 + 1 * (x 1).val; omega)) (Fin.ext (by show 3 * 128 + (x 2).val = 384 + 1 * (x 2).val; omega))))
    · pointwise [sh, k0_pay1, k0_pay49]
    · intro d; pointwise
    · intro q; pointwise
  · refine Eq.trans ?_ ((gated_at x0 x1 x2 x3 x4 x5 x6 x7 x8 x9 3 2 (x 1) (x 2) (k0_pay63 (F := Ideal) x0 x1 x2 x3 x4 x5 x6 x7 x8 x9 (ix2 (sh 2 (x 1)) (sh 3 (x 2)))) (k0_pay62 (F := Ideal) x0 x1 x2 x3 x4 x5 x6 x7 x8 x9 (ix2 (x 1) (sh 2 (x 2)))) (View.ld x4 r0_17) (View.ld x5 r0_18) ?_ ?_ (gate_u x0 x1 x2 x3 x4 x5 x6 x7 x8 x9 _ _) (spat_3 x0 x1 x2 x3 x4 x5 x6 x7 x8 x9 _ _)).trans
      (congrArg₂ (gated x0 x1 x2 x3 x4 x5 x6) (Fin.ext (by show 2 * 128 + (x 1).val = 256 + 1 * (x 1).val; omega)) (Fin.ext (by show 3 * 128 + (x 2).val = 384 + 1 * (x 2).val; omega))))
    · pointwise [sh, k0_pay48]
    · intro d; pointwise
    · intro q; pointwise
  · refine Eq.trans ?_ ((gated_at x0 x1 x2 x3 x4 x5 x6 x7 x8 x9 3 1 (x 1) (x 2) (k0_pay63 (F := Ideal) x0 x1 x2 x3 x4 x5 x6 x7 x8 x9 (ix2 (sh 1 (x 1)) (sh 3 (x 2)))) (k0_pay62 (F := Ideal) x0 x1 x2 x3 x4 x5 x6 x7 x8 x9 (ix2 (x 1) (sh 1 (x 2)))) (View.ld x4 r0_17) (View.ld x5 r0_18) ?_ ?_ (gate_u x0 x1 x2 x3 x4 x5 x6 x7 x8 x9 _ _) (spat_3 x0 x1 x2 x3 x4 x5 x6 x7 x8 x9 _ _)).trans
      (congrArg₂ (gated x0 x1 x2 x3 x4 x5 x6) (Fin.ext (by show 1 * 128 + (x 1).val = 128 + 1 * (x 1).val; omega)) (Fin.ext (by show 3 * 128 + (x 2).val = 384 + 1 * (x 2).val; omega))))
    · pointwise [sh, k0_pay47]
    · intro d; pointwise
    · intro q; pointwise
  · refine Eq.trans ?_ ((gated_at x0 x1 x2 x3 x4 x5 x6 x7 x8 x9 3 0 (x 1) (x 2) (k0_pay63 (F := Ideal) x0 x1 x2 x3 x4 x5 x6 x7 x8 x9 (ix2 (sh 0 (x 1)) (sh 3 (x 2)))) (k0_pay62 (F := Ideal) x0 x1 x2 x3 x4 x5 x6 x7 x8 x9 (ix2 (x 1) (sh 0 (x 2)))) (View.ld x4 r0_17) (View.ld x5 r0_18) ?_ ?_ (gate_u x0 x1 x2 x3 x4 x5 x6 x7 x8 x9 _ _) (spat_3 x0 x1 x2 x3 x4 x5 x6 x7 x8 x9 _ _)).trans
      (congrArg₂ (gated x0 x1 x2 x3 x4 x5 x6) (Fin.ext (by show 0 * 128 + (x 1).val = 0 + 1 * (x 1).val; omega)) (Fin.ext (by show 3 * 128 + (x 2).val = 384 + 1 * (x 2).val; omega))))
    · pointwise [sh, k0_pay46]
    · intro d; pointwise
    · intro q; pointwise
  · refine Eq.trans ?_ ((gated_at x0 x1 x2 x3 x4 x5 x6 x7 x8 x9 2 3 (x 1) (x 2) (k0_pay63 (F := Ideal) x0 x1 x2 x3 x4 x5 x6 x7 x8 x9 (ix2 (sh 3 (x 1)) (sh 2 (x 2)))) (k0_pay61 (F := Ideal) x0 x1 x2 x3 x4 x5 x6 x7 x8 x9 (ix2 (x 1) (sh 3 (x 2)))) (View.ld x4 r0_15) (View.ld x5 r0_16) ?_ ?_ (gate_u x0 x1 x2 x3 x4 x5 x6 x7 x8 x9 _ _) (spat_2 x0 x1 x2 x3 x4 x5 x6 x7 x8 x9 _ _)).trans
      (congrArg₂ (gated x0 x1 x2 x3 x4 x5 x6) (Fin.ext (by show 3 * 128 + (x 1).val = 384 + 1 * (x 1).val; omega)) (Fin.ext (by show 2 * 128 + (x 2).val = 256 + 1 * (x 2).val; omega))))
    · pointwise [sh, k0_pay45, k0_pay44]
    · intro d; pointwise
    · intro q; pointwise
  · refine Eq.trans ?_ ((gated_at x0 x1 x2 x3 x4 x5 x6 x7 x8 x9 2 2 (x 1) (x 2) (k0_pay63 (F := Ideal) x0 x1 x2 x3 x4 x5 x6 x7 x8 x9 (ix2 (sh 2 (x 1)) (sh 2 (x 2)))) (k0_pay61 (F := Ideal) x0 x1 x2 x3 x4 x5 x6 x7 x8 x9 (ix2 (x 1) (sh 2 (x 2)))) (View.ld x4 r0_15) (View.ld x5 r0_16) ?_ ?_ (gate_u x0 x1 x2 x3 x4 x5 x6 x7 x8 x9 _ _) (spat_2 x0 x1 x2 x3 x4 x5 x6 x7 x8 x9 _ _)).trans
      (congrArg₂ (gated x0 x1 x2 x3 x4 x5 x6) (Fin.ext (by show 2 * 128 + (x 1).val = 256 + 1 * (x 1).val; omega)) (Fin.ext (by show 2 * 128 + (x 2).val = 256 + 1 * (x 2).val; omega))))
    · pointwise [sh, k0_pay43]
    · intro d; pointwise
    · intro q; pointwise
  · refine Eq.trans ?_ ((gated_at x0 x1 x2 x3 x4 x5 x6 x7 x8 x9 2 1 (x 1) (x 2) (k0_pay63 (F := Ideal) x0 x1 x2 x3 x4 x5 x6 x7 x8 x9 (ix2 (sh 1 (x 1)) (sh 2 (x 2)))) (k0_pay61 (F := Ideal) x0 x1 x2 x3 x4 x5 x6 x7 x8 x9 (ix2 (x 1) (sh 1 (x 2)))) (View.ld x4 r0_15) (View.ld x5 r0_16) ?_ ?_ (gate_u x0 x1 x2 x3 x4 x5 x6 x7 x8 x9 _ _) (spat_2 x0 x1 x2 x3 x4 x5 x6 x7 x8 x9 _ _)).trans
      (congrArg₂ (gated x0 x1 x2 x3 x4 x5 x6) (Fin.ext (by show 1 * 128 + (x 1).val = 128 + 1 * (x 1).val; omega)) (Fin.ext (by show 2 * 128 + (x 2).val = 256 + 1 * (x 2).val; omega))))
    · pointwise [sh, k0_pay42]
    · intro d; pointwise
    · intro q; pointwise
  · refine Eq.trans ?_ ((gated_at x0 x1 x2 x3 x4 x5 x6 x7 x8 x9 2 0 (x 1) (x 2) (k0_pay63 (F := Ideal) x0 x1 x2 x3 x4 x5 x6 x7 x8 x9 (ix2 (sh 0 (x 1)) (sh 2 (x 2)))) (k0_pay61 (F := Ideal) x0 x1 x2 x3 x4 x5 x6 x7 x8 x9 (ix2 (x 1) (sh 0 (x 2)))) (View.ld x4 r0_15) (View.ld x5 r0_16) ?_ ?_ (gate_u x0 x1 x2 x3 x4 x5 x6 x7 x8 x9 _ _) (spat_2 x0 x1 x2 x3 x4 x5 x6 x7 x8 x9 _ _)).trans
      (congrArg₂ (gated x0 x1 x2 x3 x4 x5 x6) (Fin.ext (by show 0 * 128 + (x 1).val = 0 + 1 * (x 1).val; omega)) (Fin.ext (by show 2 * 128 + (x 2).val = 256 + 1 * (x 2).val; omega))))
    · pointwise [sh, k0_pay41, k0_pay40]
    · intro d; pointwise
    · intro q; pointwise
  · refine Eq.trans ?_ ((gated_at x0 x1 x2 x3 x4 x5 x6 x7 x8 x9 1 3 (x 1) (x 2) (k0_pay63 (F := Ideal) x0 x1 x2 x3 x4 x5 x6 x7 x8 x9 (ix2 (sh 3 (x 1)) (sh 1 (x 2)))) (k0_pay59 (F := Ideal) x0 x1 x2 x3 x4 x5 x6 x7 x8 x9 (ix2 (x 1) (sh 3 (x 2)))) (View.ld x4 r0_13) (View.ld x5 r0_14) ?_ ?_ (gate_u x0 x1 x2 x3 x4 x5 x6 x7 x8 x9 _ _) (spat_1 x0 x1 x2 x3 x4 x5 x6 x7 x8 x9 _ _)).trans
      (congrArg₂ (gated x0 x1 x2 x3 x4 x5 x6) (Fin.ext (by show 3 * 128 + (x 1).val = 384 + 1 * (x 1).val; omega)) (Fin.ext (by show 1 * 128 + (x 2).val = 128 + 1 * (x 2).val; omega))))
    · pointwise [sh, k0_pay39]
    · intro d; pointwise
    · intro q; pointwise
  · refine Eq.trans ?_ ((gated_at x0 x1 x2 x3 x4 x5 x6 x7 x8 x9 1 2 (x 1) (x 2) (k0_pay63 (F := Ideal) x0 x1 x2 x3 x4 x5 x6 x7 x8 x9 (ix2 (sh 2 (x 1)) (sh 1 (x 2)))) (k0_pay59 (F := Ideal) x0 x1 x2 x3 x4 x5 x6 x7 x8 x9 (ix2 (x 1) (sh 2 (x 2)))) (View.ld x4 r0_13) (View.ld x5 r0_14) ?_ ?_ (gate_u x0 x1 x2 x3 x4 x5 x6 x7 x8 x9 _ _) (spat_1 x0 x1 x2 x3 x4 x5 x6 x7 x8 x9 _ _)).trans
      (congrArg₂ (gated x0 x1 x2 x3 x4 x5 x6) (Fin.ext (by show 2 * 128 + (x 1).val = 256 + 1 * (x 1).val; omega)) (Fin.ext (by show 1 * 128 + (x 2).val = 128 + 1 * (x 2).val; omega))))
    · pointwise [sh, k0_pay38]
    · intro d; pointwise
    · intro q; pointwise
  · refine Eq.trans ?_ ((gated_at x0 x1 x2 x3 x4 x5 x6 x7 x8 x9 1 1 (x 1) (x 2) (k0_pay63 (F := Ideal) x0 x1 x2 x3 x4 x5 x6 x7 x8 x9 (ix2 (sh 1 (x 1)) (sh 1 (x 2)))) (k0_pay59 (F := Ideal) x0 x1 x2 x3 x4 x5 x6 x7 x8 x9 (ix2 (x 1) (sh 1 (x 2)))) (View.ld x4 r0_13) (View.ld x5 r0_14) ?_ ?_ (gate_u x0 x1 x2 x3 x4 x5 x6 x7 x8 x9 _ _) (spat_1 x0 x1 x2 x3 x4 x5 x6 x7 x8 x9 _ _)).trans
      (congrArg₂ (gated x0 x1 x2 x3 x4 x5 x6) (Fin.ext (by show 1 * 128 + (x 1).val = 128 + 1 * (x 1).val; omega)) (Fin.ext (by show 1 * 128 + (x 2).val = 128 + 1 * (x 2).val; omega))))
    · pointwise [sh, k0_pay37]
    · intro d; pointwise
    · intro q; pointwise
  · refine Eq.trans ?_ ((gated_at x0 x1 x2 x3 x4 x5 x6 x7 x8 x9 1 0 (x 1) (x 2) (k0_pay63 (F := Ideal) x0 x1 x2 x3 x4 x5 x6 x7 x8 x9 (ix2 (sh 0 (x 1)) (sh 1 (x 2)))) (k0_pay59 (F := Ideal) x0 x1 x2 x3 x4 x5 x6 x7 x8 x9 (ix2 (x 1) (sh 0 (x 2)))) (View.ld x4 r0_13) (View.ld x5 r0_14) ?_ ?_ (gate_u x0 x1 x2 x3 x4 x5 x6 x7 x8 x9 _ _) (spat_1 x0 x1 x2 x3 x4 x5 x6 x7 x8 x9 _ _)).trans
      (congrArg₂ (gated x0 x1 x2 x3 x4 x5 x6) (Fin.ext (by show 0 * 128 + (x 1).val = 0 + 1 * (x 1).val; omega)) (Fin.ext (by show 1 * 128 + (x 2).val = 128 + 1 * (x 2).val; omega))))
    · pointwise [sh, k0_pay36, k0_pay35]
    · intro d; pointwise
    · intro q; pointwise
  · refine Eq.trans ?_ ((gated_at x0 x1 x2 x3 x4 x5 x6 x7 x8 x9 0 3 (x 1) (x 2) (k0_pay63 (F := Ideal) x0 x1 x2 x3 x4 x5 x6 x7 x8 x9 (ix2 (sh 3 (x 1)) (sh 0 (x 2)))) (k0_pay58 (F := Ideal) x0 x1 x2 x3 x4 x5 x6 x7 x8 x9 (ix2 (x 1) (sh 3 (x 2)))) (View.ld x4 r0_11) (View.ld x5 r0_12) ?_ ?_ (gate_u x0 x1 x2 x3 x4 x5 x6 x7 x8 x9 _ _) (spat_0 x0 x1 x2 x3 x4 x5 x6 x7 x8 x9 _ _)).trans
      (congrArg₂ (gated x0 x1 x2 x3 x4 x5 x6) (Fin.ext (by show 3 * 128 + (x 1).val = 384 + 1 * (x 1).val; omega)) (Fin.ext (by show 0 * 128 + (x 2).val = 0 + 1 * (x 2).val; omega))))
    · pointwise [sh, k0_pay34]
    · intro d; pointwise
    · intro q; pointwise
  · refine Eq.trans ?_ ((gated_at x0 x1 x2 x3 x4 x5 x6 x7 x8 x9 0 2 (x 1) (x 2) (k0_pay63 (F := Ideal) x0 x1 x2 x3 x4 x5 x6 x7 x8 x9 (ix2 (sh 2 (x 1)) (sh 0 (x 2)))) (k0_pay58 (F := Ideal) x0 x1 x2 x3 x4 x5 x6 x7 x8 x9 (ix2 (x 1) (sh 2 (x 2)))) (View.ld x4 r0_11) (View.ld x5 r0_12) ?_ ?_ (gate_u x0 x1 x2 x3 x4 x5 x6 x7 x8 x9 _ _) (spat_0 x0 x1 x2 x3 x4 x5 x6 x7 x8 x9 _ _)).trans
      (congrArg₂ (gated x0 x1 x2 x3 x4 x5 x6) (Fin.ext (by show 2 * 128 + (x 1).val = 256 + 1 * (x 1).val; omega)) (Fin.ext (by show 0 * 128 + (x 2).val = 0 + 1 * (x 2).val; omega))))
    · pointwise [sh, k0_pay33]
    · intro d; pointwise
    · intro q; pointwise
  · refine Eq.trans ?_ ((gated_at x0 x1 x2 x3 x4 x5 x6 x7 x8 x9 0 1 (x 1) (x 2) (k0_pay63 (F := Ideal) x0 x1 x2 x3 x4 x5 x6 x7 x8 x9 (ix2 (sh 1 (x 1)) (sh 0 (x 2)))) (k0_pay58 (F := Ideal) x0 x1 x2 x3 x4 x5 x6 x7 x8 x9 (ix2 (x 1) (sh 1 (x 2)))) (View.ld x4 r0_11) (View.ld x5 r0_12) ?_ ?_ (gate_u x0 x1 x2 x3 x4 x5 x6 x7 x8 x9 _ _) (spat_0 x0 x1 x2 x3 x4 x5 x6 x7 x8 x9 _ _)).trans
      (congrArg₂ (gated x0 x1 x2 x3 x4 x5 x6) (Fin.ext (by show 1 * 128 + (x 1).val = 128 + 1 * (x 1).val; omega)) (Fin.ext (by show 0 * 128 + (x 2).val = 0 + 1 * (x 2).val; omega))))
    · pointwise [sh, k0_pay32, k0_pay31]
    · intro d; pointwise
    · intro q; pointwise
  · refine Eq.trans ?_ ((gated_at x0 x1 x2 x3 x4 x5 x6 x7 x8 x9 0 0 (x 1) (x 2) (k0_pay63 (F := Ideal) x0 x1 x2 x3 x4 x5 x6 x7 x8 x9 (ix2 (sh 0 (x 1)) (sh 0 (x 2)))) (k0_pay58 (F := Ideal) x0 x1 x2 x3 x4 x5 x6 x7 x8 x9 (ix2 (x 1) (sh 0 (x 2)))) (View.ld x4 r0_11) (View.ld x5 r0_12) ?_ ?_ (gate_u x0 x1 x2 x3 x4 x5 x6 x7 x8 x9 _ _) (spat_0 x0 x1 x2 x3 x4 x5 x6 x7 x8 x9 _ _)).trans
      (congrArg₂ (gated x0 x1 x2 x3 x4 x5 x6) (Fin.ext (by show 0 * 128 + (x 1).val = 0 + 1 * (x 1).val; omega)) (Fin.ext (by show 0 * 128 + (x 2).val = 0 + 1 * (x 2).val; omega))))
    · show k0_pay30 (k0_pay51 (F := Ideal) x0 x1 x2 x3 x4 x5 x6 x7 x8 x9) _ _ x = k0_pay29 (k0_pay51 (F := Ideal) x0 x1 x2 x3 x4 x5 x6 x7 x8 x9) _ * _
      pointwise [sh, k0_pay30, k0_pay29]
    · intro d; pointwise
    · intro q; pointwise

end Tile

/-! The stage's results as functions of its arguments. -/

/-- One entry of the gated product, from the projection's entries. -/
def oaOf (p : Fin 8192 → Fin 1792 → EReal) (A4 : FVec Ideal S1x4x128x128 .f32) (A5 A6 : FVec Ideal S1x4x128 .f32) (r : Fin 8192) (j : Fin 512) : EReal :=
  gelu (p r ⟨j.val, by omega⟩)
    * ((∑ q : Fin 128, A4 (ix4 0 ⟨j.val / 128, by omega⟩ ⟨r.val % 128, by omega⟩ q)
          * unit (fun d => gelu (p ⟨r.val / 128 * 128 + q.val, by omega⟩ ⟨512 + (j.val / 128 * 128 + d.val), by omega⟩))
              (A6 (ix3 0 ⟨j.val / 128, by omega⟩ ⟨j.val % 128, by omega⟩)) ⟨j.val % 128, by omega⟩)
      + A5 (ix3 0 ⟨j.val / 128, by omega⟩ ⟨r.val % 128, by omega⟩))

section Stage

variable (X : FVec Ideal S1x8192x1024 .f32) (A1 : FVec Ideal S1x1x9x1024 .f32) (A2 : FVec Ideal S2x3x1024 .f32) (A3 : FVec Ideal S1x1024x1792 .f32)
  (A4 : FVec Ideal S1x4x128x128 .f32) (A5 A6 : FVec Ideal S1x4x128 .f32) (A7 A8 : FVec Ideal S1x64 .f32)

/-- One column of one row's input projection. -/
def proj (r : Fin 8192) (j : Fin 1792) : EReal :=
  ∑ k, FfnMath.hid (fun l => X (ix3 0 r l)) (fun l => A2 (ix3 0 1 l)) (fun l => A1 (ix4 0 0 3 l)) (fun l => A1 (ix4 0 0 4 l)) k * A3 (ix3 0 k j)

/-- The gated product. -/
def oaAt (r : Fin 8192) (j : Fin 512) : EReal := oaOf (proj X A1 A2 A3) A4 A5 A6 r j

/-- A head's column over the root of the head's mean square, times its gain. -/
def headAt (o : ℕ) (N : ℕ) (hN : o + N ≤ 1792) (h64 : 64 ∣ N) (g : FVec Ideal S1x64 .f32) (r : Fin 8192) (j : Fin N) : EReal :=
  proj X A1 A2 A3 r ⟨o + j.val, by omega⟩
    * Ideal.rsqrt (Ideal.div (∑ e : Fin 64, proj X A1 A2 A3 r ⟨o + (j.val / 64 * 64 + e.val), by omega⟩ * proj X A1 A2 A3 r ⟨o + (j.val / 64 * 64 + e.val), by omega⟩)
        (Ideal.ofBits .f32 0x42800000#32) + Ideal.ofBits .f32 0x358637BD#32)
    * g (ix2 0 ⟨j.val % 64, by omega⟩)

def oa : FVec Ideal S1x8192x512 .bf16 := fun i => oaAt X A1 A2 A3 A4 A5 A6 (i 1) (i 2)
def query : FVec Ideal S1x8192x512 .f32 := fun i => headAt X A1 A2 A3 1024 512 (by omega) (by omega) A7 (i 1) (i 2)
def key : FVec Ideal S1x8192x128 .f32 := fun i => headAt X A1 A2 A3 1536 128 (by omega) (by omega) A8 (i 1) (i 2)
def value : FVec Ideal S1x8192x128 .f32 := fun i => proj X A1 A2 A3 (i 1) ⟨1664 + (i 2 : Fin 128).val, by have h : (i 2 : Fin 128).val < 128 := (i 2 : Fin 128).isLt; omega⟩

/-! The tile's columns are the projection's. -/

/-- The modulation and the gains as the host program lays them out. -/
def modOp : FVec Ideal S1x9x1024 .f32 := shapeCast _ A1 shapeCasts_S1x1x9x1024_S1x9x1024
def gainOp : FVec Ideal S3x1024 .f32 := shapeCast _ (extractStridedSlice S1x3x1024 ![0, 0, 0] A2 slices_S2x3x1024_S1x3x1024_0_0_0) shapeCasts_S1x3x1024_S3x1024

theorem mod_at (s : Fin 9) (l : Fin 1024) : modOp A1 (ix3 0 s l) = A1 (ix4 0 0 s l) := by
  pointwise [modOp]

theorem gain_at (l : Fin 1024) : gainOp A2 (ix2 1 l) = A2 (ix3 0 1 l) := by
  pointwise [gainOp]

variable (x0 : Vec Ideal S1x512x1024 .f32) (r : Fin 512) (R : Fin 8192) (h : ∀ l, x0 (ix3 0 r l) = X (ix3 0 R l))

include h

theorem col_low (j : Fin 2048) (hj : j.val < 1536) : col x0 (modOp A1) (gainOp A2) (weights A3) r j = proj X A1 A2 A3 R ⟨j.val, by omega⟩ := by
  unfold col proj
  simp only [h, mod_at, gain_at, weights_low A3 _ j hj]

theorem col_key (j : Fin 256) : col x0 (modOp A1) (gainOp A2) (weights A3) r ⟨1536 + j.val, by omega⟩ = proj X A1 A2 A3 R (keyCol j) := by
  unfold col proj
  simp only [h, mod_at, gain_at, weights_key]

theorem col_val (j : Fin 256) : col x0 (modOp A1) (gainOp A2) (weights A3) r ⟨1792 + j.val, by omega⟩ = proj X A1 A2 A3 R (valCol j) := by
  unfold col proj
  simp only [h, mod_at, gain_at, weights_val]

/-- The tile's values. -/
theorem value_eq (a : Fin 128) : (if a.val < 64 then col x0 (modOp A1) (gainOp A2) (weights A3) r ⟨1792 + a.val, by omega⟩ else col x0 (modOp A1) (gainOp A2) (weights A3) r ⟨1792 + (128 + a.val), by omega⟩)
    = value X A1 A2 A3 (ix3 0 R a) := by
  rw [col_val X A1 A2 A3 x0 r R h ⟨a.val, by omega⟩, col_val X A1 A2 A3 x0 r R h ⟨128 + a.val, by omega⟩]
  show _ = proj X A1 A2 A3 R ⟨1664 + a.val, _⟩
  split_ifs
  · exact congrArg _ (Fin.ext (by show 1664 + (a.val / 128 * 64 + a.val % 64) = 1664 + a.val; omega))
  · exact congrArg _ (Fin.ext (by show 1664 + ((128 + a.val) / 128 * 64 + (128 + a.val) % 64) = 1664 + a.val; omega))

/-- One of the tile's head columns. -/
theorem scaled_eq (o N : ℕ) (hN : o + N ≤ 1792) (h64 : 64 ∣ N) {M : ℕ} (f : Fin M → EReal) (B : Fin M → EReal) (g : FVec Ideal S1x64 .f32) (gj : EReal) (c : Fin M) (j : Fin N)
    (hM : c.val / 64 * 64 + 64 ≤ M)
    (hf : ∀ e : Fin 64, f ⟨c.val / 64 * 64 + e.val, by omega⟩ = proj X A1 A2 A3 R ⟨o + (j.val / 64 * 64 + e.val), by omega⟩) (hc : c.val % 64 = j.val % 64)
    (hB : ∀ x : Fin M, B x = if x.val / 64 = c.val / 64 then Ideal.ofBits .f32 0x3C800000#32 else 0) (hg : gj = g (ix2 0 ⟨j.val % 64, by omega⟩)) :
    scaled f B gj c = headAt X A1 A2 A3 o N hN h64 g R j := by
  unfold scaled headAt
  rw [group_mean (fun x => f x * f x) B c hM hB, hg]
  have e : f c = proj X A1 A2 A3 R ⟨o + j.val, by omega⟩ := by
    have := hf ⟨c.val % 64, by omega⟩
    rw [show (⟨c.val / 64 * 64 + c.val % 64, by omega⟩ : Fin M) = c from Fin.ext (by show c.val / 64 * 64 + c.val % 64 = c.val; omega)] at this
    rw [this]
    exact congrArg _ (Fin.ext (by show o + (j.val / 64 * 64 + c.val % 64) = o + j.val; omega))
  simp only [hf, e]

theorem query_eq (j : Fin 512) : scaled (fun j : Fin 512 => col x0 (modOp A1) (gainOp A2) (weights A3) r ⟨1024 + j.val, by omega⟩) (fun x => diag (ix2 x j)) (A7 (ix2 0 ⟨j.val % 64, by omega⟩)) j
    = query X A1 A2 A3 A7 (ix3 0 R j) :=
  scaled_eq X A1 A2 A3 x0 r R h 1024 512 (by omega) (by omega) _ _ A7 _ j j (by omega) (fun e => col_low X A1 A2 A3 x0 r R h _ (by show 1024 + (j.val / 64 * 64 + e.val) < 1536; omega)) rfl
    (fun x => diag_at x j) rfl

theorem key_eq (a : Fin 128) : (if a.val < 64 then scaled (fun j : Fin 256 => col x0 (modOp A1) (gainOp A2) (weights A3) r ⟨1536 + j.val, by omega⟩) (fun x => diag (ix2 ⟨x.val, by omega⟩ ⟨a.val, by omega⟩)) (A8 (ix2 0 ⟨a.val % 64, by omega⟩)) ⟨a.val, by omega⟩
      else scaled (fun j : Fin 256 => col x0 (modOp A1) (gainOp A2) (weights A3) r ⟨1536 + j.val, by omega⟩) (fun x => diag (ix2 ⟨x.val, by omega⟩ ⟨128 + a.val, by omega⟩)) (A8 (ix2 0 ⟨(128 + a.val) % 64, by omega⟩)) ⟨128 + a.val, by omega⟩)
    = key X A1 A2 A3 A8 (ix3 0 R a) := by
  split_ifs
  · refine scaled_eq X A1 A2 A3 x0 r R h 1536 128 (by omega) (by omega) _ _ A8 _ (⟨a.val, by omega⟩ : Fin 256) a (by show a.val / 64 * 64 + 64 ≤ 256; omega) (fun e => ?_) rfl (fun x => diag_at _ _) rfl
    refine (col_key X A1 A2 A3 x0 r R h ⟨a.val / 64 * 64 + e.val, by omega⟩).trans (congrArg _ (Fin.ext ?_))
    show 1536 + ((a.val / 64 * 64 + e.val) / 128 * 64 + (a.val / 64 * 64 + e.val) % 64) = 1536 + (a.val / 64 * 64 + e.val)
    omega
  · refine scaled_eq X A1 A2 A3 x0 r R h 1536 128 (by omega) (by omega) _ _ A8 _ (⟨128 + a.val, by omega⟩ : Fin 256) a (by show (128 + a.val) / 64 * 64 + 64 ≤ 256; omega) (fun e => ?_) (by show (128 + a.val) % 64 = a.val % 64; omega) (fun x => diag_at _ _)
      (congrArg (fun z : Fin 64 => A8 (ix2 0 z)) (Fin.ext (by show (128 + a.val) % 64 = a.val % 64; omega)))
    refine (col_key X A1 A2 A3 x0 r R h ⟨(128 + a.val) / 64 * 64 + e.val, by omega⟩).trans (congrArg _ (Fin.ext ?_))
    show 1536 + (((128 + a.val) / 64 * 64 + e.val) / 128 * 64 + ((128 + a.val) / 64 * 64 + e.val) % 64) = 1536 + (a.val / 64 * 64 + e.val)
    omega

omit h in
theorem oa_eq (t : Fin 16) (hx : ∀ (r : Fin 512) l, x0 (ix3 0 r l) = X (ix3 0 ⟨t.val * 512 + r.val, by omega⟩ l)) (x4 : Vec Ideal S1x512 .f32) (x5 : Vec Ideal S4x128x128 .bf16) (x6 : Vec Ideal S4x128x128 .f32)
    (h4 : ∀ j, x4 (ix2 0 j) = A6 (ix3 0 ⟨j.val / 128, by omega⟩ ⟨j.val % 128, by omega⟩)) (h5 : ∀ g p q, x5 (ix3 g p q) = A4 (ix4 0 g p q)) (h6 : ∀ g p q, x6 (ix3 g p q) = A5 (ix3 0 g p)) (j : Fin 512) :
    gated x0 (modOp A1) (gainOp A2) (weights A3) x4 x5 x6 r j = oa X A1 A2 A3 A4 A5 A6 (ix3 0 ⟨t.val * 512 + r.val, by omega⟩ j) := by
  show _ = oaAt X A1 A2 A3 A4 A5 A6 ⟨t.val * 512 + r.val, _⟩ j
  unfold gated oaAt oaOf
  have e1 : (t.val * 512 + r.val) % 128 = r.val % 128 := by omega
  have e2 : ∀ q : ℕ, (t.val * 512 + r.val) / 128 * 128 + q = t.val * 512 + (r.val / 128 * 128 + q) := by intro q; omega
  have c1 := fun (r : Fin 512) (j : Fin 2048) hj => col_low X A1 A2 A3 x0 r _ (hx r) j hj
  simp only [e1, e2, h4, h5, h6]
  rw [c1 r ⟨j.val, by omega⟩ (by show j.val < 1536; omega)]
  have c2 : ∀ q d : Fin 128, col x0 (modOp A1) (gainOp A2) (weights A3) ⟨r.val / 128 * 128 + q.val, by omega⟩ ⟨512 + (j.val / 128 * 128 + d.val), by omega⟩
      = proj X A1 A2 A3 ⟨t.val * 512 + (r.val / 128 * 128 + q.val), by omega⟩ ⟨512 + (j.val / 128 * 128 + d.val), by omega⟩ :=
    fun q d => c1 _ _ (by show 512 + (j.val / 128 * 128 + d.val) < 1536; omega)
  simp only [c2]

end Stage

end Cert.EvenMath

end
-- ==== Proof.EvenInValue.lean ====
/- What the EvenIn program's kernel stores over its whole launch, as functions of the arguments, and the same functions of its reference's results. -/
module

public import proofs.«01_k».proof.Proof.Gen.EvenInIdeal.Value
public import proofs.«01_k».proof.Proof.Gen.EvenInRefIdeal.Run
public import proofs.«01_k».proof.Proof.EvenTile
public import Idealize.ShloMosaic.Lib.Claim
public import Idealize.ShloMosaic.Lib.Tactic.CleanTypes
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.EvenInIdeal.Whole

open Cert.EvenInIdeal Cert.EvenInIdeal.Gen

variable (m : (ℓ : Loc nD τ sig) → Buf (Elt Ideal) ℓ)

/-- Which block each window of the launch holds at a grid point. -/
theorem idx : ∀ t : Fin cfg0.N, win0_0.index t = ![0, t.val, 0] ∧ win0_1.index t = ![0, 0, 0] ∧ win0_2.index t = ![0, 0] ∧ win0_3.index t = ![0, 0] ∧ win0_4.index t = ![0, 0] ∧ win0_5.index t = ![0, 0, 0] ∧ win0_6.index t = ![0, 0, 0] ∧ win0_7.index t = ![0, 0] ∧ win0_8.index t = ![0, 0] ∧ win0_9.index t = ![0, 0] ∧ win0_10.index t = ![0, t.val, 0] ∧ win0_11.index t = ![0, t.val, 0] ∧ win0_14.index t = ![0, t.val, 0] ∧ win0_15.index t = ![0, t.val, 0] :=
  (by decide +kernel : ∀ t : Fin grid0.N, _)

/-! What the host program hands each window. -/

theorem V_main_v25 (c : Dev nD) : V m c main_v25 = EvenMath.modOp (m (c.tc.loc main_arg1)) := by
  unfold V
  after_reads_simp
  rfl

theorem V_main_v27 (c : Dev nD) : V m c main_v27 = EvenMath.gainOp (m (c.tc.loc main_arg2)) := by
  unfold V
  after_reads_simp
  rfl

theorem V_main_v28 (c : Dev nD) : V m c main_v28 = EvenMath.weights (m (c.tc.loc main_arg3)) := by
  unfold V
  after_reads_simp
  rfl

theorem V_main_v10 (c : Dev nD) : V m c main_v10 = EvenMath.diag := by
  unfold V
  after_reads_simp
  rfl

theorem V_main_v30 (c : Dev nD) : V m c main_v30 = shapeCast _ (shapeCast S4x128 (m (c.tc.loc main_arg6)) shapeCasts_S1x4x128_S4x128) shapeCasts_S4x128_S1x512 := by
  unfold V
  after_reads_simp
  rfl

theorem V_main_v32 (c : Dev nD) : V m c main_v32 = truncf (F := Ideal) .bf16 (shapeCast S4x128x128 (m (c.tc.loc main_arg4)) shapeCasts_S1x4x128x128_S4x128x128) bitsLt_bf16_f32 := by
  unfold V
  after_reads_simp
  rfl

theorem V_main_v24 (c : Dev nD) : V m c main_v24 = broadcastInDim S4x128x128 ![0, 1, 2] bcast_S4x128x1_S4x128x128_0_1_2 (broadcastInDim S4x128x1 ![0, 1] bcast_S4x128_S4x128x1_0_1 (shapeCast S4x128 (m (c.tc.loc main_arg5)) shapeCasts_S1x4x128_S4x128)) := by
  unfold V
  after_reads_simp
  rfl

theorem V_main_v37 (c : Dev nD) : V m c main_v37 = broadcastInDim S1x512 ![1] bcast_S512_S1x512_1 (shapeCast S512 (broadcastInDim S8x64 ![0, 1] bcast_S1x64_S8x64_0_1 (shapeCast S1x64 (shapeCast S64 (m (c.tc.loc main_arg7)) shapeCasts_S1x64_S64) shapeCasts_S64_S1x64)) shapeCasts_S8x64_S512) := by
  unfold V
  after_reads_simp
  rfl

theorem V_main_v42 (c : Dev nD) : V m c main_v42 = broadcastInDim S1x256 ![1] bcast_S256_S1x256_1 (shapeCast S256 (broadcastInDim S4x64 ![0, 1] bcast_S1x64_S4x64_0_1 (shapeCast S1x64 (shapeCast S64 (m (c.tc.loc main_arg8)) shapeCasts_S1x64_S64) shapeCasts_S64_S1x64)) shapeCasts_S4x64_S256) := by
  unfold V
  after_reads_simp
  rfl

/-- The row of the whole array a tile's row is. -/
def row (t : Fin cfg0.N) (r : Fin 512) : Fin 8192 := ⟨t.val * 512 + r.val, by have h : t.val < 16 := t.isLt; omega⟩

theorem whole1 (c : Dev nD) (t : Fin cfg0.N) : iblk m c 1 t = V m c main_v25 := by
  funext i
  refine congrArg (V m c main_v25) (funext fun d => Fin.ext ?_)
  have e := (idx t).2.1
  fin_cases d
  · show (win0_1.index t) 0 * 1 + 1 * (i 0).val = (i 0).val; rw [e]; show 0 * 1 + 1 * (i 0).val = (i 0).val; omega
  · show (win0_1.index t) 1 * 9 + 1 * (i 1).val = (i 1).val; rw [e]; show 0 * 9 + 1 * (i 1).val = (i 1).val; omega
  · show (win0_1.index t) 2 * 1024 + 1 * (i 2).val = (i 2).val; rw [e]; show 0 * 1024 + 1 * (i 2).val = (i 2).val; omega

theorem whole2 (c : Dev nD) (t : Fin cfg0.N) : iblk m c 2 t = V m c main_v27 := by
  funext i
  refine congrArg (V m c main_v27) (funext fun d => Fin.ext ?_)
  have e := (idx t).2.2.1
  fin_cases d
  · show (win0_2.index t) 0 * 3 + 1 * (i 0).val = (i 0).val; rw [e]; show 0 * 3 + 1 * (i 0).val = (i 0).val; omega
  · show (win0_2.index t) 1 * 1024 + 1 * (i 1).val = (i 1).val; rw [e]; show 0 * 1024 + 1 * (i 1).val = (i 1).val; omega

theorem whole3 (c : Dev nD) (t : Fin cfg0.N) : iblk m c 3 t = V m c main_v28 := by
  funext i
  refine congrArg (V m c main_v28) (funext fun d => Fin.ext ?_)
  have e := (idx t).2.2.2.1
  fin_cases d
  · show (win0_3.index t) 0 * 1024 + 1 * (i 0).val = (i 0).val; rw [e]; show 0 * 1024 + 1 * (i 0).val = (i 0).val; omega
  · show (win0_3.index t) 1 * 2048 + 1 * (i 1).val = (i 1).val; rw [e]; show 0 * 2048 + 1 * (i 1).val = (i 1).val; omega

theorem whole4 (c : Dev nD) (t : Fin cfg0.N) : iblk m c 4 t = V m c main_v30 := by
  funext i
  refine congrArg (V m c main_v30) (funext fun d => Fin.ext ?_)
  have e := (idx t).2.2.2.2.1
  fin_cases d
  · show (win0_4.index t) 0 * 1 + 1 * (i 0).val = (i 0).val; rw [e]; show 0 * 1 + 1 * (i 0).val = (i 0).val; omega
  · show (win0_4.index t) 1 * 512 + 1 * (i 1).val = (i 1).val; rw [e]; show 0 * 512 + 1 * (i 1).val = (i 1).val; omega

theorem whole5 (c : Dev nD) (t : Fin cfg0.N) : iblk m c 5 t = V m c main_v32 := by
  funext i
  refine congrArg (V m c main_v32) (funext fun d => Fin.ext ?_)
  have e := (idx t).2.2.2.2.2.1
  fin_cases d
  · show (win0_5.index t) 0 * 4 + 1 * (i 0).val = (i 0).val; rw [e]; show 0 * 4 + 1 * (i 0).val = (i 0).val; omega
  · show (win0_5.index t) 1 * 128 + 1 * (i 1).val = (i 1).val; rw [e]; show 0 * 128 + 1 * (i 1).val = (i 1).val; omega
  · show (win0_5.index t) 2 * 128 + 1 * (i 2).val = (i 2).val; rw [e]; show 0 * 128 + 1 * (i 2).val = (i 2).val; omega

theorem whole6 (c : Dev nD) (t : Fin cfg0.N) : iblk m c 6 t = V m c main_v24 := by
  funext i
  refine congrArg (V m c main_v24) (funext fun d => Fin.ext ?_)
  have e := (idx t).2.2.2.2.2.2.1
  fin_cases d
  · show (win0_6.index t) 0 * 4 + 1 * (i 0).val = (i 0).val; rw [e]; show 0 * 4 + 1 * (i 0).val = (i 0).val; omega
  · show (win0_6.index t) 1 * 128 + 1 * (i 1).val = (i 1).val; rw [e]; show 0 * 128 + 1 * (i 1).val = (i 1).val; omega
  · show (win0_6.index t) 2 * 128 + 1 * (i 2).val = (i 2).val; rw [e]; show 0 * 128 + 1 * (i 2).val = (i 2).val; omega

theorem whole7 (c : Dev nD) (t : Fin cfg0.N) : iblk m c 7 t = V m c main_v37 := by
  funext i
  refine congrArg (V m c main_v37) (funext fun d => Fin.ext ?_)
  have e := (idx t).2.2.2.2.2.2.2.1
  fin_cases d
  · show (win0_7.index t) 0 * 1 + 1 * (i 0).val = (i 0).val; rw [e]; show 0 * 1 + 1 * (i 0).val = (i 0).val; omega
  · show (win0_7.index t) 1 * 512 + 1 * (i 1).val = (i 1).val; rw [e]; show 0 * 512 + 1 * (i 1).val = (i 1).val; omega

theorem whole8 (c : Dev nD) (t : Fin cfg0.N) : iblk m c 8 t = V m c main_v42 := by
  funext i
  refine congrArg (V m c main_v42) (funext fun d => Fin.ext ?_)
  have e := (idx t).2.2.2.2.2.2.2.2.1
  fin_cases d
  · show (win0_8.index t) 0 * 1 + 1 * (i 0).val = (i 0).val; rw [e]; show 0 * 1 + 1 * (i 0).val = (i 0).val; omega
  · show (win0_8.index t) 1 * 256 + 1 * (i 1).val = (i 1).val; rw [e]; show 0 * 256 + 1 * (i 1).val = (i 1).val; omega

theorem whole9 (c : Dev nD) (t : Fin cfg0.N) : iblk m c 9 t = V m c main_v10 := by
  funext i
  refine congrArg (V m c main_v10) (funext fun d => Fin.ext ?_)
  have e := (idx t).2.2.2.2.2.2.2.2.2.1
  fin_cases d
  · show (win0_9.index t) 0 * 512 + 1 * (i 0).val = (i 0).val; rw [e]; show 0 * 512 + 1 * (i 0).val = (i 0).val; omega
  · show (win0_9.index t) 1 * 512 + 1 * (i 1).val = (i 1).val; rw [e]; show 0 * 512 + 1 * (i 1).val = (i 1).val; omega

theorem tile_row (c : Dev nD) (t : Fin cfg0.N) (r : Fin 512) (l : Fin 1024) : iblk m c 0 t (ix3 0 r l) = m (c.tc.loc main_arg0) (ix3 0 (row t r) l) := by
  have e := (idx t).1
  refine congrArg (m (c.tc.loc main_arg0)) (funext fun d => Fin.ext ?_)
  fin_cases d
  · show (win0_0.index t) 0 * 1 + 1 * 0 = 0; rw [e]; rfl
  · show (win0_0.index t) 1 * 512 + 1 * r.val = t.val * 512 + r.val; rw [e]; show t.val * 512 + 1 * r.val = _; omega
  · show (win0_0.index t) 2 * 1024 + 1 * l.val = l.val; rw [e]; show 0 * 1024 + 1 * l.val = l.val; omega

/-! The results the whole launch leaves. -/

theorem final10 (c : Dev nD) : (dats m 0 c).arrAt 10 cfg0.N = EvenMath.oa (m (c.tc.loc main_arg0)) (m (c.tc.loc main_arg1)) (m (c.tc.loc main_arg2)) (m (c.tc.loc main_arg3)) (m (c.tc.loc main_arg4)) (m (c.tc.loc main_arg5)) (m (c.tc.loc main_arg6)) := by
  refine (dats m 0 c).arrAt_eq_of_covers 10 _ (by decide +kernel) fun t hf y => ?_
  blk_simp
  rw [after0_10]
  have e := (idx t).2.2.2.2.2.2.2.2.2.2.1
  refine Eq.trans ?_ (congrArg₂ (fun r a => EvenMath.oa (m (c.tc.loc main_arg0)) (m (c.tc.loc main_arg1)) (m (c.tc.loc main_arg2)) (m (c.tc.loc main_arg3)) (m (c.tc.loc main_arg4)) (m (c.tc.loc main_arg5)) (m (c.tc.loc main_arg6)) (ix3 0 r a))
    (Fin.ext (by show t.val * 512 + (y 1).val = (win0_10.index t) 1 * 512 + 1 * (y 1).val; rw [e]; show _ = t.val * 512 + 1 * (y 1).val; omega) : row t (y 1) = _)
    (Fin.ext (by show (y 2).val = (win0_10.index t) 2 * 512 + 1 * (y 2).val; rw [e]; show _ = 0 * 512 + 1 * (y 2).val; omega) : y 2 = _))
  rw [EvenMath.out_tile]
  show EvenMath.gated (iblk m c 0 t) (iblk m c 1 t) (iblk m c 2 t) (iblk m c 3 t) (iblk m c 4 t) (iblk m c 5 t) (iblk m c 6 t) (y 1) (y 2) = _
  rw [whole1, whole2, whole3, whole4, whole5, whole6, V_main_v25, V_main_v27, V_main_v28, V_main_v30, V_main_v32, V_main_v24]
  exact EvenMath.oa_eq (m (c.tc.loc main_arg0)) (m (c.tc.loc main_arg1)) (m (c.tc.loc main_arg2)) (m (c.tc.loc main_arg3)) (m (c.tc.loc main_arg4)) (m (c.tc.loc main_arg5)) (m (c.tc.loc main_arg6)) (iblk m c 0 t) (y 1) t (fun r l => tile_row m c t r l) _ _ _
    (fun j => EvenMath.sgu_at _ j) (fun g p q => EvenMath.spatw_at _ g p q) (fun g p q => EvenMath.spatb_at _ g p q) (y 2)

theorem final11 (c : Dev nD) : (dats m 0 c).arrAt 11 cfg0.N = EvenMath.query (m (c.tc.loc main_arg0)) (m (c.tc.loc main_arg1)) (m (c.tc.loc main_arg2)) (m (c.tc.loc main_arg3)) (m (c.tc.loc main_arg7)) := by
  refine (dats m 0 c).arrAt_eq_of_covers 11 _ (by decide +kernel) fun t hf y => ?_
  blk_simp
  rw [after0_11]
  have e := (idx t).2.2.2.2.2.2.2.2.2.2.2.1
  refine Eq.trans ?_ (congrArg₂ (fun r a => EvenMath.query (m (c.tc.loc main_arg0)) (m (c.tc.loc main_arg1)) (m (c.tc.loc main_arg2)) (m (c.tc.loc main_arg3)) (m (c.tc.loc main_arg7)) (ix3 0 r a))
    (Fin.ext (by show t.val * 512 + (y 1).val = (win0_11.index t) 1 * 512 + 1 * (y 1).val; rw [e]; show _ = t.val * 512 + 1 * (y 1).val; omega) : row t (y 1) = _)
    (Fin.ext (by show (y 2).val = (win0_11.index t) 2 * 512 + 1 * (y 2).val; rw [e]; show _ = 0 * 512 + 1 * (y 2).val; omega) : y 2 = _))
  unfold out0_11
  frame_out
  obtain ⟨z, r, n, rfl⟩ : ∃ (z : Fin 1) (r : Fin 512) (n : Fin 512), y = ix3 z r n := ⟨y 0, y 1, y 2, eq_ix3 y⟩
  obtain rfl : z = 0 := Subsingleton.elim _ _
  rw [EvenMath.query_tile, whole1, whole2, whole3, whole7, whole9, V_main_v25, V_main_v27, V_main_v28, V_main_v37, V_main_v10]
  rw [EvenMath.qgain_at]
  exact EvenMath.query_eq (m (c.tc.loc main_arg0)) (m (c.tc.loc main_arg1)) (m (c.tc.loc main_arg2)) (m (c.tc.loc main_arg3)) (m (c.tc.loc main_arg7)) (iblk m c 0 t) r (row t r) (tile_row m c t r) n

theorem final14 (c : Dev nD) : (dats m 0 c).arrAt 14 cfg0.N = EvenMath.key (m (c.tc.loc main_arg0)) (m (c.tc.loc main_arg1)) (m (c.tc.loc main_arg2)) (m (c.tc.loc main_arg3)) (m (c.tc.loc main_arg8)) := by
  refine (dats m 0 c).arrAt_eq_of_covers 14 _ (by decide +kernel) fun t hf y => ?_
  blk_simp
  rw [after0_14]
  have e := (idx t).2.2.2.2.2.2.2.2.2.2.2.2.1
  refine Eq.trans ?_ (congrArg₂ (fun r a => EvenMath.key (m (c.tc.loc main_arg0)) (m (c.tc.loc main_arg1)) (m (c.tc.loc main_arg2)) (m (c.tc.loc main_arg3)) (m (c.tc.loc main_arg8)) (ix3 0 r a))
    (Fin.ext (by show t.val * 512 + (y 1).val = (win0_14.index t) 1 * 512 + 1 * (y 1).val; rw [e]; show _ = t.val * 512 + 1 * (y 1).val; omega) : row t (y 1) = _)
    (Fin.ext (by show (y 2).val = (win0_14.index t) 2 * 128 + 1 * (y 2).val; rw [e]; show _ = 0 * 128 + 1 * (y 2).val; omega) : y 2 = _))
  unfold out0_14
  frame_out
  obtain ⟨z, r, n, rfl⟩ : ∃ (z : Fin 1) (r : Fin 512) (n : Fin 128), y = ix3 z r n := ⟨y 0, y 1, y 2, eq_ix3 y⟩
  obtain rfl : z = 0 := Subsingleton.elim _ _
  rw [EvenMath.key_tile, whole1, whole2, whole3, whole8, whole9, V_main_v25, V_main_v27, V_main_v28, V_main_v42, V_main_v10]
  rw [EvenMath.kgain_at, EvenMath.kgain_at]
  exact EvenMath.key_eq (m (c.tc.loc main_arg0)) (m (c.tc.loc main_arg1)) (m (c.tc.loc main_arg2)) (m (c.tc.loc main_arg3)) (m (c.tc.loc main_arg8)) (iblk m c 0 t) r (row t r) (tile_row m c t r) n

theorem final15 (c : Dev nD) : (dats m 0 c).arrAt 15 cfg0.N = EvenMath.value (m (c.tc.loc main_arg0)) (m (c.tc.loc main_arg1)) (m (c.tc.loc main_arg2)) (m (c.tc.loc main_arg3)) := by
  refine (dats m 0 c).arrAt_eq_of_covers 15 _ (by decide +kernel) fun t hf y => ?_
  blk_simp
  rw [after0_15]
  have e := (idx t).2.2.2.2.2.2.2.2.2.2.2.2.2
  refine Eq.trans ?_ (congrArg₂ (fun r a => EvenMath.value (m (c.tc.loc main_arg0)) (m (c.tc.loc main_arg1)) (m (c.tc.loc main_arg2)) (m (c.tc.loc main_arg3)) (ix3 0 r a))
    (Fin.ext (by show t.val * 512 + (y 1).val = (win0_15.index t) 1 * 512 + 1 * (y 1).val; rw [e]; show _ = t.val * 512 + 1 * (y 1).val; omega) : row t (y 1) = _)
    (Fin.ext (by show (y 2).val = (win0_15.index t) 2 * 128 + 1 * (y 2).val; rw [e]; show _ = 0 * 128 + 1 * (y 2).val; omega) : y 2 = _))
  unfold out0_15
  frame_out
  obtain ⟨z, r, n, rfl⟩ : ∃ (z : Fin 1) (r : Fin 512) (n : Fin 128), y = ix3 z r n := ⟨y 0, y 1, y 2, eq_ix3 y⟩
  obtain rfl : z = 0 := Subsingleton.elim _ _
  rw [EvenMath.value_tile, whole1, whole2, whole3, V_main_v25, V_main_v27, V_main_v28]
  exact EvenMath.value_eq (m (c.tc.loc main_arg0)) (m (c.tc.loc main_arg1)) (m (c.tc.loc main_arg2)) (m (c.tc.loc main_arg3)) (iblk m c 0 t) r (row t r) (tile_row m c t r) n

end Cert.EvenInIdeal.Whole

namespace Cert.EvenInRefIdeal.Whole

open Cert.EvenInRefIdeal Cert.EvenInRefIdeal.Gen

variable (m : (ℓ : Loc nD τ sig) → Buf (Elt Ideal) ℓ)

/-! The reference's results. -/

theorem result116 (c : Dev nD) : Value.res_main_v116 m c = EvenMath.query (m (c.tc.loc main_arg0)) (m (c.tc.loc main_arg1)) (m (c.tc.loc main_arg2)) (m (c.tc.loc main_arg3)) (m (c.tc.loc main_arg7)) := by
  funext i
  obtain ⟨z, r, n, rfl⟩ : ∃ (z : Fin 1) (r : Fin 8192) (n : Fin 512), i = ix3 z r n := ⟨i 0, i 1, i 2, eq_ix3 i⟩
  obtain rfl : z = 0 := Subsingleton.elim _ _
  unfold Value.res_main_v116
  clean_types
  generalize hP : Host.dotGeneral (F := Ideal) dot_S1x8192x1024_S1024x1792_S1x8192x1792_2_0_01_1_n_n none _ _ = P
  have e : ∀ r j, P (ix3 0 r j) = EvenMath.proj (m (c.tc.loc main_arg0)) (m (c.tc.loc main_arg1)) (m (c.tc.loc main_arg2)) (m (c.tc.loc main_arg3)) r j := by
    intro r j
    subst hP
    unfold EvenMath.proj FfnMath.hid
    pointwise
  clear hP
  show _ = EvenMath.headAt (m (c.tc.loc main_arg0)) (m (c.tc.loc main_arg1)) (m (c.tc.loc main_arg2)) (m (c.tc.loc main_arg3)) 1024 512 (by omega) (by omega) (m (c.tc.loc main_arg7)) r n
  unfold EvenMath.headAt
  pointwise
  simp only [e]

theorem result117 (c : Dev nD) : Value.res_main_v117 m c = EvenMath.key (m (c.tc.loc main_arg0)) (m (c.tc.loc main_arg1)) (m (c.tc.loc main_arg2)) (m (c.tc.loc main_arg3)) (m (c.tc.loc main_arg8)) := by
  funext i
  obtain ⟨z, r, n, rfl⟩ : ∃ (z : Fin 1) (r : Fin 8192) (n : Fin 128), i = ix3 z r n := ⟨i 0, i 1, i 2, eq_ix3 i⟩
  obtain rfl : z = 0 := Subsingleton.elim _ _
  unfold Value.res_main_v117
  clean_types
  generalize hP : Host.dotGeneral (F := Ideal) dot_S1x8192x1024_S1024x1792_S1x8192x1792_2_0_01_1_n_n none _ _ = P
  have e : ∀ r j, P (ix3 0 r j) = EvenMath.proj (m (c.tc.loc main_arg0)) (m (c.tc.loc main_arg1)) (m (c.tc.loc main_arg2)) (m (c.tc.loc main_arg3)) r j := by
    intro r j
    subst hP
    unfold EvenMath.proj FfnMath.hid
    pointwise
  clear hP
  show _ = EvenMath.headAt (m (c.tc.loc main_arg0)) (m (c.tc.loc main_arg1)) (m (c.tc.loc main_arg2)) (m (c.tc.loc main_arg3)) 1536 128 (by omega) (by omega) (m (c.tc.loc main_arg8)) r n
  unfold EvenMath.headAt
  pointwise
  simp only [e]

theorem result115 (c : Dev nD) : Value.res_main_v115 m c = EvenMath.oa (m (c.tc.loc main_arg0)) (m (c.tc.loc main_arg1)) (m (c.tc.loc main_arg2)) (m (c.tc.loc main_arg3)) (m (c.tc.loc main_arg4)) (m (c.tc.loc main_arg5)) (m (c.tc.loc main_arg6)) := by
  funext i
  obtain ⟨z, r, n, rfl⟩ : ∃ (z : Fin 1) (r : Fin 8192) (n : Fin 512), i = ix3 z r n := ⟨i 0, i 1, i 2, eq_ix3 i⟩
  obtain rfl : z = 0 := Subsingleton.elim _ _
  unfold Value.res_main_v115
  clean_types
  generalize hP : Host.dotGeneral (F := Ideal) dot_S1x8192x1024_S1024x1792_S1x8192x1792_2_0_01_1_n_n none _ _ = P
  have e : ∀ r j, P (ix3 0 r j) = EvenMath.proj (m (c.tc.loc main_arg0)) (m (c.tc.loc main_arg1)) (m (c.tc.loc main_arg2)) (m (c.tc.loc main_arg3)) r j := by
    intro r j
    subst hP
    unfold EvenMath.proj FfnMath.hid
    pointwise
  clear hP
  show _ = EvenMath.oaOf (EvenMath.proj (m (c.tc.loc main_arg0)) (m (c.tc.loc main_arg1)) (m (c.tc.loc main_arg2)) (m (c.tc.loc main_arg3))) (m (c.tc.loc main_arg4)) (m (c.tc.loc main_arg5)) (m (c.tc.loc main_arg6)) r n
  rw [show EvenMath.proj (m (c.tc.loc main_arg0)) (m (c.tc.loc main_arg1)) (m (c.tc.loc main_arg2)) (m (c.tc.loc main_arg3)) = fun r j => P (ix3 0 r j) from funext fun r => funext fun j => (e r j).symm]
  clear e
  unfold EvenMath.oaOf EvenMath.unit EvenMath.gelu
  pointwise
  have en : n.val / 128 * 128 + n.val % 128 = n.val := by omega
  simp only [en]
  refine congrArg₂ (· * ·) ?_ (congrArg₂ (· + ·) (Finset.sum_congr rfl fun q _ => mul_comm _ _) rfl)
  rfl

end Cert.EvenInRefIdeal.Whole

end
-- ==== Proof.OddTile.lean ====
/- The odd layer's input stage as arithmetic on extended reals: the kernel's tiles, its results as functions of the arguments, and what the
   host program lays out for it. -/
module

public import proofs.«01_k».proof.Proof.Gen.OddInIdeal.Frame
public import proofs.«01_k».proof.Proof.EvenTile

@[expose] public section

set_option maxRecDepth 16384

noncomputable section

open Idealize.ShloMosaic Idealize.ShloMosaic.TcCoe Idealize.SL.Sem

namespace Cert.OddMath

open Cert.OddInIdeal Cert.OddInIdeal.Gen

/-- The logistic function. -/
def logistic (x : EReal) : EReal := Ideal.div 1 (1 + Ideal.exp (-x))

section Tile

variable (x0 : Vec Ideal S1x512x1024 .f32) (x1 : Vec Ideal S1x9x1024 .f32) (x2 : Vec Ideal S3x1024 .f32) (x3 : Vec Ideal S1024x1536 .bf16)
  (x4 : Vec Ideal S1024x1024 .bf16) (x5 : Vec Ideal S16x1024 .bf16) (x6 : Vec Ideal S16x128 .f32)

/-- One entry of the tile's modulated rows. -/
def hrow (r : Fin 512) (k : Fin 1024) : EReal :=
  FfnMath.hid (fun l => x0 (ix3 0 r l)) (fun l => x2 (ix2 1 l)) (fun l => x1 (ix3 0 3 l)) (fun l => x1 (ix3 0 4 l)) k

theorem norm_at (r : Fin 512) (k : Fin 1024) : k0_pay24 (F := Ideal) x0 x1 x2 x3 x4 x5 x6 (ix2 r k) = hrow x0 x1 x2 r k := by
  unfold k0_pay24 hrow FfnMath.hid
  pointwise [k0_pay2]

theorem q_at (r j : Fin 512) : k0_pay3 (F := Ideal) x0 (View.ld x2 r0_1) (View.ld x1 r0_2) (View.ld x1 r0_3) (View.ld x3 r0_4) (ix3 0 r j)
    = ∑ k, hrow x0 x1 x2 r k * x3 (ix2 k ⟨j.val, by omega⟩) := by
  unfold hrow FfnMath.hid
  pointwise [k0_pay3, k0_pay2]

theorem k_at (r j : Fin 512) : k0_pay4 (F := Ideal) (k0_pay24 (F := Ideal) x0 x1 x2 x3 x4 x5 x6) (View.ld x3 r0_6) (ix3 0 r j)
    = (∑ k, hrow x0 x1 x2 r k * x3 (ix2 k ⟨512 + j.val, by omega⟩)) * Ideal.ofBits .f32 0x3DB504F3#32 := by
  pointwise [k0_pay4]
  simp only [norm_at]

theorem d_at (r j : Fin 512) : k0_pay5 (F := Ideal) (k0_pay24 (F := Ideal) x0 x1 x2 x3 x4 x5 x6) (View.ld x3 r0_7) (ix3 0 r j)
    = ∑ k, hrow x0 x1 x2 r k * x3 (ix2 k ⟨1024 + j.val, by omega⟩) := by
  pointwise [k0_pay5]
  simp only [norm_at]

theorem v_at (j r : Fin 512) : k0_pay26 (F := Ideal) x0 x1 x2 x3 x4 x5 x6 (ix2 j r) = ∑ k, hrow x0 x1 x2 r k * x4 (ix2 ⟨j.val, by omega⟩ k) := by
  unfold k0_pay26
  pointwise [k0_pay6]
  simp only [norm_at, mul_comm]

theorem o_at (j r : Fin 512) : k0_pay27 (F := Ideal) x0 x1 x2 x3 x4 x5 x6 (ix2 j r) = logistic (∑ k, hrow x0 x1 x2 r k * x4 (ix2 ⟨512 + j.val, by omega⟩ k)) := by
  unfold k0_pay27 logistic
  pointwise [k0_pay7]
  simp only [norm_at, mul_comm, zero_sub]

theorem g_at (j : Fin 16) (r : Fin 512) : k0_pay28 (F := Ideal) x0 x1 x2 x3 x4 x5 x6 (ix2 j r) = ∑ k, hrow x0 x1 x2 r k * x5 (ix2 j k) := by
  unfold k0_pay28
  pointwise [k0_pay8]
  simp only [norm_at, mul_comm]

/-- The tile's row that lane `p` of its block `n` is. -/
def sh (n : Fin 4) (p : Fin 128) : Fin 512 := ⟨n.val * 128 + p.val, by omega⟩

def vOf (n : Fin 4) (j : Fin 512) (p : Fin 128) : EReal := ∑ k, hrow x0 x1 x2 (sh n p) k * x4 (ix2 ⟨j.val, by omega⟩ k)
def oOf (n : Fin 4) (j : Fin 512) (p : Fin 128) : EReal := logistic (∑ k, hrow x0 x1 x2 (sh n p) k * x4 (ix2 ⟨512 + j.val, by omega⟩ k))

theorem v_tile : out0_10 (F := Ideal) x0 x1 x2 x3 x4 x5 x6 = fun y => vOf x0 x1 x2 x4 (y 1) (y 2) (y 3) := by
  unfold out0_10
  refine EvenMath.canon_pieces _ _ (View.cover_of_tiledL _ ![1, 1, 512, 128] (by sl_kernel_rfl))
    ⟨fun (x : S1x1x512x128.Idx) => ?_, fun (x : S1x1x512x128.Idx) => ?_, fun (x : S1x1x512x128.Idx) => ?_, fun (x : S1x1x512x128.Idx) => ?_, trivial⟩
  · obtain ⟨z, w, j, p, rfl⟩ : ∃ (z w : Fin 1) (j : Fin 512) (p : Fin 128), x = ix4 z w j p := ⟨x 0, x 1, x 2, x 3, eq_ix4 x⟩
    have h1 : r0_18.emb (ix4 z w j p) 1 = (⟨3, by omega⟩ : Fin 4) := Fin.ext (by show 3 + 1 * w.val = 3; omega)
    have h2 : r0_18.emb (ix4 z w j p) 2 = j := Fin.ext (by show 0 + 1 * j.val = j.val; omega)
    have h3 : r0_18.emb (ix4 z w j p) 3 = p := Fin.ext (by show 0 + 1 * p.val = p.val; omega)
    show k0_pay20 (F := Ideal) (k0_pay26 (F := Ideal) x0 x1 x2 x3 x4 x5 x6) (ix4 z w j p) = vOf x0 x1 x2 x4 (r0_18.emb (ix4 z w j p) 1) (r0_18.emb (ix4 z w j p) 2) (r0_18.emb (ix4 z w j p) 3)
    rw [h1, h2, h3]
    unfold vOf sh
    pointwise [k0_pay20]
    simp only [v_at]
    try rfl
  · obtain ⟨z, w, j, p, rfl⟩ : ∃ (z w : Fin 1) (j : Fin 512) (p : Fin 128), x = ix4 z w j p := ⟨x 0, x 1, x 2, x 3, eq_ix4 x⟩
    have h1 : r0_16.emb (ix4 z w j p) 1 = (⟨2, by omega⟩ : Fin 4) := Fin.ext (by show 2 + 1 * w.val = 2; omega)
    have h2 : r0_16.emb (ix4 z w j p) 2 = j := Fin.ext (by show 0 + 1 * j.val = j.val; omega)
    have h3 : r0_16.emb (ix4 z w j p) 3 = p := Fin.ext (by show 0 + 1 * p.val = p.val; omega)
    show k0_pay17 (F := Ideal) (k0_pay26 (F := Ideal) x0 x1 x2 x3 x4 x5 x6) (ix4 z w j p) = vOf x0 x1 x2 x4 (r0_16.emb (ix4 z w j p) 1) (r0_16.emb (ix4 z w j p) 2) (r0_16.emb (ix4 z w j p) 3)
    rw [h1, h2, h3]
    unfold vOf sh
    pointwise [k0_pay17]
    simp only [v_at]
    try rfl
  · obtain ⟨z, w, j, p, rfl⟩ : ∃ (z w : Fin 1) (j : Fin 512) (p : Fin 128), x = ix4 z w j p := ⟨x 0, x 1, x 2, x 3, eq_ix4 x⟩
    have h1 : r0_14.emb (ix4 z w j p) 1 = (⟨1, by omega⟩ : Fin 4) := Fin.ext (by show 1 + 1 * w.val = 1; omega)
    have h2 : r0_14.emb (ix4 z w j p) 2 = j := Fin.ext (by show 0 + 1 * j.val = j.val; omega)
    have h3 : r0_14.emb (ix4 z w j p) 3 = p := Fin.ext (by show 0 + 1 * p.val = p.val; omega)
    show k0_pay13 (F := Ideal) (k0_pay26 (F := Ideal) x0 x1 x2 x3 x4 x5 x6) (ix4 z w j p) = vOf x0 x1 x2 x4 (r0_14.emb (ix4 z w j p) 1) (r0_14.emb (ix4 z w j p) 2) (r0_14.emb (ix4 z w j p) 3)
    rw [h1, h2, h3]
    unfold vOf sh
    pointwise [k0_pay13]
    simp only [v_at]
    try rfl
  · obtain ⟨z, w, j, p, rfl⟩ : ∃ (z w : Fin 1) (j : Fin 512) (p : Fin 128), x = ix4 z w j p := ⟨x 0, x 1, x 2, x 3, eq_ix4 x⟩
    have h1 : r0_11.emb (ix4 z w j p) 1 = (⟨0, by omega⟩ : Fin 4) := Fin.ext (by show 0 + 1 * w.val = 0; omega)
    have h2 : r0_11.emb (ix4 z w j p) 2 = j := Fin.ext (by show 0 + 1 * j.val = j.val; omega)
    have h3 : r0_11.emb (ix4 z w j p) 3 = p := Fin.ext (by show 0 + 1 * p.val = p.val; omega)
    show k0_pay10 (F := Ideal) (k0_pay9 (F := Ideal) (k0_pay24 (F := Ideal) x0 x1 x2 x3 x4 x5 x6) (View.ld x4 r0_8)) (ix4 z w j p) = vOf x0 x1 x2 x4 (r0_11.emb (ix4 z w j p) 1) (r0_11.emb (ix4 z w j p) 2) (r0_11.emb (ix4 z w j p) 3)
    rw [h1, h2, h3]
    unfold vOf sh
    pointwise [k0_pay10, k0_pay9, k0_pay6]
    simp only [norm_at]
    exact Finset.sum_congr rfl fun _ _ => mul_comm _ _

theorem o_tile : out0_11 (F := Ideal) x0 x1 x2 x3 x4 x5 x6 = fun y => oOf x0 x1 x2 x4 (y 1) (y 2) (y 3) := by
  unfold out0_11
  refine EvenMath.canon_pieces _ _ (View.cover_of_tiledL _ ![1, 1, 512, 128] (by sl_kernel_rfl))
    ⟨fun (x : S1x1x512x128.Idx) => ?_, fun (x : S1x1x512x128.Idx) => ?_, fun (x : S1x1x512x128.Idx) => ?_, fun (x : S1x1x512x128.Idx) => ?_, trivial⟩
  · obtain ⟨z, w, j, p, rfl⟩ : ∃ (z w : Fin 1) (j : Fin 512) (p : Fin 128), x = ix4 z w j p := ⟨x 0, x 1, x 2, x 3, eq_ix4 x⟩
    have h1 : r0_18.emb (ix4 z w j p) 1 = (⟨3, by omega⟩ : Fin 4) := Fin.ext (by show 3 + 1 * w.val = 3; omega)
    have h2 : r0_18.emb (ix4 z w j p) 2 = j := Fin.ext (by show 0 + 1 * j.val = j.val; omega)
    have h3 : r0_18.emb (ix4 z w j p) 3 = p := Fin.ext (by show 0 + 1 * p.val = p.val; omega)
    show k0_pay21 (F := Ideal) (k0_pay27 (F := Ideal) x0 x1 x2 x3 x4 x5 x6) (ix4 z w j p) = oOf x0 x1 x2 x4 (r0_18.emb (ix4 z w j p) 1) (r0_18.emb (ix4 z w j p) 2) (r0_18.emb (ix4 z w j p) 3)
    rw [h1, h2, h3]
    unfold oOf sh
    pointwise [k0_pay21]
    simp only [o_at]
    try rfl
  · obtain ⟨z, w, j, p, rfl⟩ : ∃ (z w : Fin 1) (j : Fin 512) (p : Fin 128), x = ix4 z w j p := ⟨x 0, x 1, x 2, x 3, eq_ix4 x⟩
    have h1 : r0_16.emb (ix4 z w j p) 1 = (⟨2, by omega⟩ : Fin 4) := Fin.ext (by show 2 + 1 * w.val = 2; omega)
    have h2 : r0_16.emb (ix4 z w j p) 2 = j := Fin.ext (by show 0 + 1 * j.val = j.val; omega)
    have h3 : r0_16.emb (ix4 z w j p) 3 = p := Fin.ext (by show 0 + 1 * p.val = p.val; omega)
    show k0_pay18 (F := Ideal) (k0_pay27 (F := Ideal) x0 x1 x2 x3 x4 x5 x6) (ix4 z w j p) = oOf x0 x1 x2 x4 (r0_16.emb (ix4 z w j p) 1) (r0_16.emb (ix4 z w j p) 2) (r0_16.emb (ix4 z w j p) 3)
    rw [h1, h2, h3]
    unfold oOf sh
    pointwise [k0_pay18]
    simp only [o_at]
    try rfl
  · obtain ⟨z, w, j, p, rfl⟩ : ∃ (z w : Fin 1) (j : Fin 512) (p : Fin 128), x = ix4 z w j p := ⟨x 0, x 1, x 2, x 3, eq_ix4 x⟩
    have h1 : r0_14.emb (ix4 z w j p) 1 = (⟨1, by omega⟩ : Fin 4) := Fin.ext (by show 1 + 1 * w.val = 1; omega)
    have h2 : r0_14.emb (ix4 z w j p) 2 = j := Fin.ext (by show 0 + 1 * j.val = j.val; omega)
    have h3 : r0_14.emb (ix4 z w j p) 3 = p := Fin.ext (by show 0 + 1 * p.val = p.val; omega)
    show k0_pay15 (F := Ideal) (k0_pay14 (F := Ideal) (k0_pay27 (F := Ideal) x0 x1 x2 x3 x4 x5 x6)) (ix4 z w j p) = oOf x0 x1 x2 x4 (r0_14.emb (ix4 z w j p) 1) (r0_14.emb (ix4 z w j p) 2) (r0_14.emb (ix4 z w j p) 3)
    rw [h1, h2, h3]
    unfold oOf sh
    pointwise [k0_pay15, k0_pay14]
    simp only [o_at]
    try rfl
  · obtain ⟨z, w, j, p, rfl⟩ : ∃ (z w : Fin 1) (j : Fin 512) (p : Fin 128), x = ix4 z w j p := ⟨x 0, x 1, x 2, x 3, eq_ix4 x⟩
    have h1 : r0_11.emb (ix4 z w j p) 1 = (⟨0, by omega⟩ : Fin 4) := Fin.ext (by show 0 + 1 * w.val = 0; omega)
    have h2 : r0_11.emb (ix4 z w j p) 2 = j := Fin.ext (by show 0 + 1 * j.val = j.val; omega)
    have h3 : r0_11.emb (ix4 z w j p) 3 = p := Fin.ext (by show 0 + 1 * p.val = p.val; omega)
    show k0_pay11 (F := Ideal) (k0_pay27 (F := Ideal) x0 x1 x2 x3 x4 x5 x6) (ix4 z w j p) = oOf x0 x1 x2 x4 (r0_11.emb (ix4 z w j p) 1) (r0_11.emb (ix4 z w j p) 2) (r0_11.emb (ix4 z w j p) 3)
    rw [h1, h2, h3]
    unfold oOf sh
    pointwise [k0_pay11]
    simp only [o_at]
    try rfl

/-- The logarithm of the logistic function, in the form the tile takes it. -/
def logsig (x : EReal) : EReal := min x 0 - Ideal.log (1 + Ideal.exp (-FloatOps.absf (F := Ideal) (φ := .f32) x))

theorem log_one_exp (y : EReal) : Ideal.log (1 + Ideal.exp y) ≠ ⊥ := by
  have one (r : ℝ) (h : 0 < r) : Ideal.log (r : EReal) ≠ ⊥ := by
    show (if r ≤ 0 then (⊥ : EReal) else (Real.log r : EReal)) ≠ ⊥
    rw [if_neg (not_le.2 h)]
    exact EReal.coe_ne_bot _
  induction y with
  | bot =>
    show Ideal.log (1 + 0) ≠ ⊥
    rw [add_zero, ← EReal.coe_one]
    exact one 1 one_pos
  | top =>
    show Ideal.log (1 + ⊤) ≠ ⊥
    rw [← EReal.coe_one, EReal.coe_add_top]
    exact top_ne_bot
  | coe r =>
    show Ideal.log (1 + (Real.exp r : EReal)) ≠ ⊥
    rw [← EReal.coe_one, ← EReal.coe_add]
    exact one _ (by positivity)

/-- The same logarithm as minus the soft plus of the negated argument. -/
theorem logsig_eq (x : EReal) :
    -(max (-x) 0 + Ideal.log1p (Ideal.exp (-FloatOps.absf (F := Ideal) (φ := .f32) (-x)))) = logsig x := by
  have hm : -max (-x) 0 = min x 0 := by
    rcases le_total x 0 with h | h
    · rw [min_eq_left h, max_eq_left (by rwa [← neg_zero, EReal.neg_le_neg_iff]), neg_neg]
    · rw [min_eq_right h, max_eq_right (by rwa [← neg_zero, EReal.neg_le_neg_iff]), neg_zero]
  have ha : FloatOps.absf (F := Ideal) (φ := .f32) (-x) = FloatOps.absf (F := Ideal) (φ := .f32) x := by
    show max (-x) (- -x) = max x (-x)
    rw [neg_neg, max_comm]
  unfold logsig Ideal.log1p
  rw [ha, EReal.neg_add (Or.inl (ne_of_gt (lt_of_lt_of_le EReal.bot_lt_zero (le_max_right _ _)))) (Or.inr (log_one_exp _)), hm]

/-- A gate: the forget gates' rows go through `logsig`, the input gates' rows stay. -/
def gate (g : Fin 16) (x : EReal) : EReal := if 8 ≤ g.val then logsig x else x

/-- The gates as the stack of the input gates and of minus the soft plus of the negated forget gates. -/
theorem gate_choice (g : Fin 16) (z : EReal) (x : g.val / 8 < 1 → EReal) (y : ¬ g.val / 8 < 1 → EReal) (d : ∀ h, Decidable (-y h ≠ -y h))
    (hx : ∀ h, x h = z) (hy : ∀ h, y h = z) :
    (if h : g.val / 8 < 1 then x h else
      -(@ite _ _ (d h) (-y h) (max (-y h) 0 + Ideal.log1p (Ideal.exp (-FloatOps.absf (F := Ideal) (φ := .f32) (-y h)))))) = gate g z := by
  unfold gate
  by_cases h : g.val / 8 < 1
  · rw [dif_pos h, if_neg (by omega), hx]
  · rw [dif_neg h, if_pos (show 8 ≤ g.val by omega), if_neg (not_not.2 rfl), logsig_eq, hy]

/-- The test the tile makes of a gate's row number: it is a forget gate's. -/
theorem forget_row {α : Type} (g : Fin 16) (x y : α) :
    Scalar.select (IntOp.cmpi .sge (BitVec.ofNat 32 g.val) 8#32) x y = if 8 ≤ g.val then x else y := by
  by_cases h : 8 ≤ g.val
  · rw [if_pos h]
    have : IntOp.cmpi .sge (BitVec.ofNat 32 g.val) 8#32 = 1#1 := by revert g; decide
    rw [this]; rfl
  · rw [if_neg h]
    have : IntOp.cmpi .sge (BitVec.ofNat 32 g.val) 8#32 = 0#1 := by revert g; decide
    rw [this]; rfl

def gOf (n : Fin 4) (g : Fin 16) (p : Fin 128) : EReal := gate g ((∑ k, hrow x0 x1 x2 (sh n p) k * x5 (ix2 g k)) + x6 (ix2 g p))

theorem g_tile : out0_12 (F := Ideal) x0 x1 x2 x3 x4 x5 x6 = fun y => gOf x0 x1 x2 x5 x6 (y 1) (y 2) (y 3) := by
  unfold out0_12
  refine EvenMath.canon_pieces _ _ (View.cover_of_tiledL _ ![1, 1, 16, 128] (by sl_kernel_rfl))
    ⟨fun (x : S1x1x16x128.Idx) => ?_, fun (x : S1x1x16x128.Idx) => ?_, fun (x : S1x1x16x128.Idx) => ?_, fun (x : S1x1x16x128.Idx) => ?_, trivial⟩
  · obtain ⟨z, w, j, p, rfl⟩ : ∃ (z w : Fin 1) (j : Fin 16) (p : Fin 128), x = ix4 z w j p := ⟨x 0, x 1, x 2, x 3, eq_ix4 x⟩
    have h1 : r0_19.emb (ix4 z w j p) 1 = (⟨3, by omega⟩ : Fin 4) := Fin.ext (by show 3 + 1 * w.val = 3; omega)
    have h2 : r0_19.emb (ix4 z w j p) 2 = j := Fin.ext (by show 0 + 1 * j.val = j.val; omega)
    have h3 : r0_19.emb (ix4 z w j p) 3 = p := Fin.ext (by show 0 + 1 * p.val = p.val; omega)
    show k0_pay1 (F := Ideal) (k0_pay22 (F := Ideal) (k0_pay28 (F := Ideal) x0 x1 x2 x3 x4 x5 x6) (View.ld x6 r0_12)) (k0_pay23 (k0_pay25 (F := Ideal) x0 x1 x2 x3 x4 x5 x6)) (ix4 z w j p) = gOf x0 x1 x2 x5 x6 (r0_19.emb (ix4 z w j p) 1) (r0_19.emb (ix4 z w j p) 2) (r0_19.emb (ix4 z w j p) 3)
    rw [h1, h2, h3]
    unfold gOf gate logsig sh k0_pay25
    pointwise [k0_pay1, k0_pay22, k0_pay23]
    simp only [g_at, zero_sub, forget_row]
    try rfl
  · obtain ⟨z, w, j, p, rfl⟩ : ∃ (z w : Fin 1) (j : Fin 16) (p : Fin 128), x = ix4 z w j p := ⟨x 0, x 1, x 2, x 3, eq_ix4 x⟩
    have h1 : r0_17.emb (ix4 z w j p) 1 = (⟨2, by omega⟩ : Fin 4) := Fin.ext (by show 2 + 1 * w.val = 2; omega)
    have h2 : r0_17.emb (ix4 z w j p) 2 = j := Fin.ext (by show 0 + 1 * j.val = j.val; omega)
    have h3 : r0_17.emb (ix4 z w j p) 3 = p := Fin.ext (by show 0 + 1 * p.val = p.val; omega)
    show k0_pay19 (F := Ideal) (k0_pay28 (F := Ideal) x0 x1 x2 x3 x4 x5 x6) (k0_pay25 (F := Ideal) x0 x1 x2 x3 x4 x5 x6) (View.ld x6 r0_12) (ix4 z w j p) = gOf x0 x1 x2 x5 x6 (r0_17.emb (ix4 z w j p) 1) (r0_17.emb (ix4 z w j p) 2) (r0_17.emb (ix4 z w j p) 3)
    rw [h1, h2, h3]
    unfold gOf gate logsig sh k0_pay25
    pointwise [k0_pay19]
    simp only [g_at, zero_sub, forget_row]
    try rfl
  · obtain ⟨z, w, j, p, rfl⟩ : ∃ (z w : Fin 1) (j : Fin 16) (p : Fin 128), x = ix4 z w j p := ⟨x 0, x 1, x 2, x 3, eq_ix4 x⟩
    have h1 : r0_15.emb (ix4 z w j p) 1 = (⟨1, by omega⟩ : Fin 4) := Fin.ext (by show 1 + 1 * w.val = 1; omega)
    have h2 : r0_15.emb (ix4 z w j p) 2 = j := Fin.ext (by show 0 + 1 * j.val = j.val; omega)
    have h3 : r0_15.emb (ix4 z w j p) 3 = p := Fin.ext (by show 0 + 1 * p.val = p.val; omega)
    show k0_pay16 (F := Ideal) (k0_pay28 (F := Ideal) x0 x1 x2 x3 x4 x5 x6) (k0_pay25 (F := Ideal) x0 x1 x2 x3 x4 x5 x6) (View.ld x6 r0_12) (ix4 z w j p) = gOf x0 x1 x2 x5 x6 (r0_15.emb (ix4 z w j p) 1) (r0_15.emb (ix4 z w j p) 2) (r0_15.emb (ix4 z w j p) 3)
    rw [h1, h2, h3]
    unfold gOf gate logsig sh k0_pay25
    pointwise [k0_pay16]
    simp only [g_at, zero_sub, forget_row]
    try rfl
  · obtain ⟨z, w, j, p, rfl⟩ : ∃ (z w : Fin 1) (j : Fin 16) (p : Fin 128), x = ix4 z w j p := ⟨x 0, x 1, x 2, x 3, eq_ix4 x⟩
    have h1 : r0_13.emb (ix4 z w j p) 1 = (⟨0, by omega⟩ : Fin 4) := Fin.ext (by show 0 + 1 * w.val = 0; omega)
    have h2 : r0_13.emb (ix4 z w j p) 2 = j := Fin.ext (by show 0 + 1 * j.val = j.val; omega)
    have h3 : r0_13.emb (ix4 z w j p) 3 = p := Fin.ext (by show 0 + 1 * p.val = p.val; omega)
    show k0_pay12 (F := Ideal) (k0_pay28 (F := Ideal) x0 x1 x2 x3 x4 x5 x6) (k0_pay25 (F := Ideal) x0 x1 x2 x3 x4 x5 x6) (View.ld x6 r0_12) (ix4 z w j p) = gOf x0 x1 x2 x5 x6 (r0_13.emb (ix4 z w j p) 1) (r0_13.emb (ix4 z w j p) 2) (r0_13.emb (ix4 z w j p) 3)
    rw [h1, h2, h3]
    unfold gOf gate logsig sh k0_pay25
    pointwise [k0_pay12]
    simp only [g_at, zero_sub, forget_row]
    try rfl

end Tile

end Cert.OddMath

end
-- ==== Proof.OddHost.lean ====
/- The odd layer's input stage as functions of the arguments, and what its host program lays out for the kernel: weights by rows or by
   columns, the gates' columns and biases in the kernel's order. -/
module

public import proofs.«01_k».proof.Proof.OddTile

@[expose] public section

set_option maxRecDepth 16384

noncomputable section

open Idealize.ShloMosaic Idealize.ShloMosaic.TcCoe Idealize.SL.Sem

namespace Cert.OddMath

open Cert.OddInIdeal Cert.OddInIdeal.Gen

/-! What the host program lays out. -/

/-- The gate's column among the projection's sixteen gate columns. -/
def perm (g : Fin 16) : Fin 16 := ⟨g.val / 4 % 2 * 8 + g.val / 8 * 4 + g.val % 4, by omega⟩

/-- The column numbers as the host program computes them. -/
def pick : IVec S16x1 32 :=
  broadcastInDim S16x1 ![0] bcast_S16_S16x1_0
    (select (cmpi .slt (fun i => lit0 (S16.rowMajor i)) (broadcastInDim S16 ![] bcast_S_S16 (constantI S_ 32 0#32)))
      (addi (fun i => lit0 (S16.rowMajor i)) (broadcastInDim S16 ![] bcast_S_S16 (constantI S_ 32 16#32))) (fun i => lit0 (S16.rowMajor i)))

theorem pick_at : ∀ g : Fin 16, pick (ix2 g 0) = BitVec.ofNat 32 (perm g).val := by decide +kernel

theorem cols_at (w : FVec Ideal S1024x16 .f32) (k : Fin 1024) (g : Fin 16) :
    Host.gather gather_S1024x16_S16x1_S1024x16_0_1_n_n_1_1_10241 w pick (ix2 k g) = w (ix2 k (perm g)) := by
  set d := gather_S1024x16_S16x1_S1024x16_0_1_n_n_1_1_10241 with hd
  unfold Host.gather
  refine congrArg w (funext fun a => Fin.ext ?_)
  have none (a) : a ∉ d.operandBatchingDims := List.not_mem_nil
  match a with
  | ⟨0, _⟩ =>
    show d.start (ix2 k g) pick 0 + d.batchCoord (ix2 k g) 0 + d.offCoord (ix2 k g) 0 = k.val
    have hs : (0 : Fin 2) ∉ d.startIndexMap := by decide
    have hk : (0 : Fin 2) ∈ d.sKept := by decide
    have at0 (X : Fin 2) (h : X = 0) : (ix2 k g X).val = k.val := by subst h; rfl
    rw [d.batchCoord_eq_zero _ _ (none 0), Nat.add_zero]
    unfold GatherDims.start GatherDims.offCoord
    rw [dif_neg hs, dif_pos hk, Nat.zero_add]
    exact at0 _ (List.mem_singleton.1 (List.getElem_mem (l := d.offsetDims) _))
  | ⟨1, _⟩ =>
    show d.start (ix2 k g) pick 1 + d.batchCoord (ix2 k g) 1 + d.offCoord (ix2 k g) 1 = (perm g).val
    have hk : (1 : Fin 2) ∉ d.sKept := by decide
    have hs : (1 : Fin 2) ∈ d.startIndexMap := by decide
    have si (c) : d.siIdx (ix2 k g) c = ix2 g 0 := by
      funext b
      match b with
      | ⟨0, _⟩ => rfl
      | ⟨1, _⟩ => exact Fin.ext (by have := c.isLt; show c.val = 0; have : c.val < 1 := c.isLt; omega)
    rw [d.batchCoord_eq_zero _ _ (none 1), d.offCoord_eq_zero _ _ hk]
    unfold GatherDims.start
    rw [dif_pos hs, si, pick_at]
    generalize perm g = p
    revert p
    decide

theorem bias_at (b : FVec Ideal S16 .f32) (g : Fin 16) :
    Host.gather gather_S16_S16x1_S16_n_0_n_n_0_1_1 b pick (ix1 g) = b (ix1 (perm g)) := by
  set d := gather_S16_S16x1_S16_n_0_n_n_0_1_1 with hd
  unfold Host.gather
  refine congrArg b (funext fun a => Fin.ext ?_)
  match a with
  | ⟨0, _⟩ =>
    show d.start (ix1 g) pick 0 + d.batchCoord (ix1 g) 0 + d.offCoord (ix1 g) 0 = (perm g).val
    have hk : (0 : Fin 1) ∉ d.sKept := by decide
    have hs : (0 : Fin 1) ∈ d.startIndexMap := by decide
    have si (c) : d.siIdx (ix1 g) c = ix2 g 0 := by
      funext b
      match b with
      | ⟨0, _⟩ => rfl
      | ⟨1, _⟩ => exact Fin.ext (by show c.val = 0; have : c.val < 1 := c.isLt; omega)
    rw [d.batchCoord_eq_zero _ _ List.not_mem_nil, d.offCoord_eq_zero _ _ hk]
    unfold GatherDims.start
    rw [dif_pos hs, si, pick_at]
    generalize perm g = p
    revert p
    decide

/-! The results as functions of the arguments. -/

section Results

variable (X : FVec Ideal S1x8192x1024 .f32) (A1 : FVec Ideal S1x1x9x1024 .f32) (A2 : FVec Ideal S2x3x1024 .f32)
  (A3 : FVec Ideal S1x1024x2576 .f32) (A4 : FVec Ideal S1x2x2x4 .f32)

/-- A column of the projection of a row's modulated norm. -/
def proj (r : Fin 8192) (j : Fin 2576) : EReal :=
  ∑ k, FfnMath.hid (fun l => X (ix3 0 r l)) (fun l => A2 (ix3 1 1 l)) (fun l => A1 (ix4 0 0 3 l)) (fun l => A1 (ix4 0 0 4 l)) k * A3 (ix3 0 k j)

/-- The row that place `p` of chunk `n` is. -/
def chunkRow (n : Fin 64) (p : Fin 128) : Fin 8192 := ⟨n.val * 128 + p.val, by omega⟩

/-- The row of the whole array a tile's row is. -/
def tileRow (t : Fin 16) (r : Fin 512) : Fin 8192 := ⟨t.val * 512 + r.val, by omega⟩

/-- The chunk that a tile's block is. -/
def chunkNo (t : Fin 16) (n : Fin 4) : Fin 64 := ⟨t.val * 4 + n.val, by omega⟩

/-- Equal at three arguments. -/
theorem congr_three {α β γ δ : Type} (f : α → β → γ → δ) {a a' : α} {b b' : β} {c c' : γ} (h1 : a = a') (h2 : b = b') (h3 : c = c') :
    f a b c = f a' b' c' := by
  rw [h1, h2, h3]

/-- A gate's column of the projection plus its bias. -/
def preGate (r : Fin 8192) (g : Fin 16) : EReal :=
  proj X A1 A2 A3 r ⟨2048 + (perm g).val, by omega⟩
    + A4 (ix4 0 ⟨(perm g).val / 8, by omega⟩ ⟨(perm g).val / 4 % 2, by omega⟩ ⟨(perm g).val % 4, by omega⟩)

/-- A gate's column and bias, found at whatever coordinates have the same values. -/
theorem preGate_eq (r r' : Fin 8192) (j : Fin 2576) (g : Fin 16) (a b : Fin 2) (d : Fin 4) (hr : r.val = r'.val)
    (hj : j.val = 2048 + (a.val * 8 + b.val * 4 + d.val)) (ha : a.val = g.val / 4 % 2) (hb : b.val = g.val / 8) (hd : d.val = g.val % 4) :
    proj X A1 A2 A3 r j + A4 (ix4 0 a b d) = preGate X A1 A2 A3 A4 r' g := by
  have e : (perm g).val = a.val * 8 + b.val * 4 + d.val := by rw [ha, hb, hd]; rfl
  unfold preGate
  refine congrArg₂ (· + ·) (congrArg₂ (proj X A1 A2 A3) (Fin.ext hr) (Fin.ext (by rw [hj]; exact congrArg (2048 + ·) e.symm)))
    (congr_three (fun a b d => A4 (ix4 0 a b d)) (Fin.ext ?_) (Fin.ext ?_) (Fin.ext ?_))
  · show a.val = (perm g).val / 8; omega
  · show b.val = (perm g).val / 4 % 2; omega
  · show d.val = (perm g).val % 4; omega

def qAt (r : Fin 8192) (j : Fin 512) : EReal := proj X A1 A2 A3 r ⟨j.val, by omega⟩
def kAt (r : Fin 8192) (j : Fin 512) : EReal := proj X A1 A2 A3 r ⟨512 + j.val, by omega⟩ * Ideal.ofBits .f32 0x3DB504F3#32
def dAt (r : Fin 8192) (j : Fin 512) : EReal := proj X A1 A2 A3 r ⟨2064 + j.val, by omega⟩
def vAt (n : Fin 64) (j : Fin 512) (p : Fin 128) : EReal := proj X A1 A2 A3 (chunkRow n p) ⟨1024 + j.val, by omega⟩
def oAt (n : Fin 64) (j : Fin 512) (p : Fin 128) : EReal := logistic (proj X A1 A2 A3 (chunkRow n p) ⟨1536 + j.val, by omega⟩)
def gAt (n : Fin 64) (g : Fin 16) (p : Fin 128) : EReal := gate g (preGate X A1 A2 A3 A4 (chunkRow n p) g)

def qOut : FVec Ideal S1x8192x512 .bf16 := fun i => qAt X A1 A2 A3 (i 1) (i 2)
def kOut : FVec Ideal S1x8192x512 .bf16 := fun i => kAt X A1 A2 A3 (i 1) (i 2)
def dOut : FVec Ideal S1x8192x512 .bf16 := fun i => dAt X A1 A2 A3 (i 1) (i 2)
def vOut : FVec Ideal S1x64x512x128 .bf16 := fun i => vAt X A1 A2 A3 (i 1) (i 2) (i 3)
def oOut : FVec Ideal S1x64x512x128 .bf16 := fun i => oAt X A1 A2 A3 (i 1) (i 2) (i 3)
def gOut : FVec Ideal S1x64x16x128 .f32 := fun i => gAt X A1 A2 A3 A4 (i 1) (i 2) (i 3)

/-! The kernel's operands as the host program lays them out. -/

def modOp : FVec Ideal S1x9x1024 .f32 := shapeCast _ A1 shapeCasts_S1x1x9x1024_S1x9x1024
def gainOp : FVec Ideal S3x1024 .f32 := shapeCast _ (extractStridedSlice S1x3x1024 ![1, 0, 0] A2 slices_S2x3x1024_S1x3x1024_1_0_0) shapeCasts_S1x3x1024_S3x1024
def rowW : FVec Ideal S1024x1536 .bf16 :=
  truncf .bf16 (concatenate S1024x1536 1 [⟨S1024x1024, extractStridedSlice S1024x1024 ![0, 0] (shapeCast _ A3 shapeCasts_S1x1024x2576_S1024x2576) slices_S1024x2576_S1024x1024_0_0⟩,
    ⟨S1024x512, extractStridedSlice S1024x512 ![0, 2064] (shapeCast _ A3 shapeCasts_S1x1024x2576_S1024x2576) slices_S1024x2576_S1024x512_0_2064⟩] concatenates_S1024x1024_S1024x512_S1024x1536_d1) bitsLt_bf16_f32
def colW : FVec Ideal S1024x1024 .bf16 :=
  truncf .bf16 (transpose S1024x1024 [1, 0] (extractStridedSlice S1024x1024 ![0, 1024] (shapeCast _ A3 shapeCasts_S1x1024x2576_S1024x2576) slices_S1024x2576_S1024x1024_0_1024) transposes_S1024x1024_S1024x1024_1_0) bitsLt_bf16_f32
def gateW : FVec Ideal S16x1024 .bf16 :=
  truncf .bf16 (transpose S16x1024 [1, 0] (Host.gather gather_S1024x16_S16x1_S1024x16_0_1_n_n_1_1_10241
    (extractStridedSlice S1024x16 ![0, 2048] (shapeCast _ A3 shapeCasts_S1x1024x2576_S1024x2576) slices_S1024x2576_S1024x16_0_2048) pick) transposes_S1024x16_S16x1024_1_0) bitsLt_bf16_f32
def gateB : FVec Ideal S16x128 .f32 :=
  broadcastInDim S16x128 ![0, 1] bcast_S16x1_S16x128_0_1 (broadcastInDim S16x1 ![0] bcast_S16_S16x1_0 (Host.gather gather_S16_S16x1_S16_n_0_n_n_0_1_1
    (shapeCast S16 (shapeCast S2x2x4 A4 shapeCasts_S1x2x2x4_S2x2x4) shapeCasts_S2x2x4_S16) pick))

theorem mod_at (s : Fin 9) (l : Fin 1024) : modOp A1 (ix3 0 s l) = A1 (ix4 0 0 s l) := by
  pointwise [modOp]

theorem gain_at (l : Fin 1024) : gainOp A2 (ix2 1 l) = A2 (ix3 1 1 l) := by
  pointwise [gainOp]

theorem rowW_low (k j : Fin 1024) : rowW A3 (ix2 k ⟨j.val, by omega⟩) = A3 (ix3 0 k ⟨j.val, by omega⟩) := by
  pointwise [rowW]

theorem rowW_high (k : Fin 1024) (j : Fin 512) : rowW A3 (ix2 k ⟨1024 + j.val, by omega⟩) = A3 (ix3 0 k ⟨2064 + j.val, by omega⟩) := by
  pointwise [rowW]

theorem colW_at (j k : Fin 1024) : colW A3 (ix2 j k) = A3 (ix3 0 k ⟨1024 + j.val, by omega⟩) := by
  pointwise [colW]

theorem gateW_at (g : Fin 16) (k : Fin 1024) : gateW A3 (ix2 g k) = A3 (ix3 0 k ⟨2048 + (perm g).val, by omega⟩) := by
  pointwise [gateW]
  rw [cols_at]
  pointwise

theorem gateB_at (g : Fin 16) (p : Fin 128) :
    gateB A4 (ix2 g p) = A4 (ix4 0 ⟨(perm g).val / 8, by omega⟩ ⟨(perm g).val / 4 % 2, by omega⟩ ⟨(perm g).val % 4, by omega⟩) := by
  pointwise [gateB]
  rw [bias_at]
  pointwise

variable (x0 : Vec Ideal S1x512x1024 .f32) (t : Fin 16) (h : ∀ (r : Fin 512) l, x0 (ix3 0 r l) = X (ix3 0 (tileRow t r) l))

include h

theorem hrow_eq (r : Fin 512) (k : Fin 1024) : hrow x0 (modOp A1) (gainOp A2) r k
    = FfnMath.hid (fun l => X (ix3 0 (tileRow t r) l)) (fun l => A2 (ix3 1 1 l)) (fun l => A1 (ix4 0 0 3 l)) (fun l => A1 (ix4 0 0 4 l)) k := by
  unfold hrow
  simp only [h, mod_at, gain_at]

theorem q_eq (r j : Fin 512) : ∑ k, hrow x0 (modOp A1) (gainOp A2) r k * rowW A3 (ix2 k ⟨j.val, by omega⟩) = qAt X A1 A2 A3 (tileRow t r) j := by
  simp only [hrow_eq X A1 A2 x0 t h, rowW_low A3 _ ⟨j.val, by omega⟩]
  rfl

theorem k_eq (r j : Fin 512) : (∑ k, hrow x0 (modOp A1) (gainOp A2) r k * rowW A3 (ix2 k ⟨512 + j.val, by omega⟩)) * Ideal.ofBits .f32 0x3DB504F3#32
    = kAt X A1 A2 A3 (tileRow t r) j := by
  simp only [hrow_eq X A1 A2 x0 t h, rowW_low A3 _ ⟨512 + j.val, by omega⟩]
  rfl

theorem d_eq (r j : Fin 512) : ∑ k, hrow x0 (modOp A1) (gainOp A2) r k * rowW A3 (ix2 k ⟨1024 + j.val, by omega⟩) = dAt X A1 A2 A3 (tileRow t r) j := by
  simp only [hrow_eq X A1 A2 x0 t h, rowW_high A3 _ j]
  rfl

omit h in
/-- A row of the tile, by its block and lane, is the row of its chunk. -/
theorem row_chunk (n : Fin 4) (p : Fin 128) : tileRow t (sh n p) = chunkRow (chunkNo t n) p :=
  Fin.ext (by show t.val * 512 + (n.val * 128 + p.val) = (t.val * 4 + n.val) * 128 + p.val; omega)

theorem v_eq (n : Fin 4) (j : Fin 512) (p : Fin 128) : vOf x0 (modOp A1) (gainOp A2) (colW A3) n j p = vAt X A1 A2 A3 (chunkNo t n) j p := by
  unfold vOf
  simp only [hrow_eq X A1 A2 x0 t h, colW_at, row_chunk]
  rfl

theorem o_eq (n : Fin 4) (j : Fin 512) (p : Fin 128) : oOf x0 (modOp A1) (gainOp A2) (colW A3) n j p = oAt X A1 A2 A3 (chunkNo t n) j p := by
  unfold oOf oAt proj
  simp only [hrow_eq X A1 A2 x0 t h, colW_at, row_chunk]
  refine congrArg logistic (Finset.sum_congr rfl fun k _ => congrArg (_ * ·) (congrArg (fun z => A3 (ix3 0 k z)) (Fin.ext ?_)))
  show 1024 + (512 + j.val) = 1536 + j.val
  omega

theorem g_eq (n : Fin 4) (g : Fin 16) (p : Fin 128) : gOf x0 (modOp A1) (gainOp A2) (gateW A3) (gateB A4) n g p = gAt X A1 A2 A3 A4 (chunkNo t n) g p := by
  unfold gOf
  simp only [hrow_eq X A1 A2 x0 t h, gateW_at, gateB_at, row_chunk]
  rfl

end Results

end Cert.OddMath

end
-- ==== Proof.OddInValue.lean ====
/- What the OddIn program's kernel stores over its whole launch, as functions of the arguments, and the same function of its reference's gates. -/
module

public import proofs.«01_k».proof.Proof.Gen.OddInIdeal.Value
public import proofs.«01_k».proof.Proof.Gen.OddInRefIdeal.Run
public import proofs.«01_k».proof.Proof.OddHost
public import Idealize.ShloMosaic.Lib.Claim
public import Idealize.ShloMosaic.Lib.Tactic.CleanTypes
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.OddInIdeal.Whole

open Cert.OddInIdeal Cert.OddInIdeal.Gen

variable (m : (ℓ : Loc nD τ sig) → Buf (Elt Ideal) ℓ)

/-- Which block each window of the launch holds at a grid point. -/
theorem idx : ∀ t : Fin cfg0.N, win0_0.index t = ![0, t.val, 0] ∧ win0_1.index t = ![0, 0, 0] ∧ win0_2.index t = ![0, 0] ∧ win0_3.index t = ![0, 0] ∧ win0_4.index t = ![0, 0] ∧ win0_5.index t = ![0, 0] ∧ win0_6.index t = ![0, 0] ∧ win0_7.index t = ![0, t.val, 0] ∧ win0_8.index t = ![0, t.val, 0] ∧ win0_9.index t = ![0, t.val, 0] ∧ win0_10.index t = ![0, t.val, 0, 0] ∧ win0_11.index t = ![0, t.val, 0, 0] ∧ win0_12.index t = ![0, t.val, 0, 0] :=
  (by decide +kernel : ∀ t : Fin grid0.N, _)

/-! What the host program hands each window. -/

theorem V_main_v26 (c : Dev nD) : V m c main_v26 = OddMath.modOp (m (c.tc.loc main_arg1)) := by
  unfold V
  after_reads_simp
  rfl

theorem V_main_v28 (c : Dev nD) : V m c main_v28 = OddMath.gainOp (m (c.tc.loc main_arg2)) := by
  unfold V
  after_reads_simp
  rfl

theorem V_main_v29 (c : Dev nD) : V m c main_v29 = OddMath.rowW (m (c.tc.loc main_arg3)) := by
  unfold V
  after_reads_simp
  rfl

theorem V_main_v30 (c : Dev nD) : V m c main_v30 = OddMath.colW (m (c.tc.loc main_arg3)) := by
  unfold V
  after_reads_simp
  rfl

theorem V_main_v31 (c : Dev nD) : V m c main_v31 = OddMath.gateW (m (c.tc.loc main_arg3)) := by
  unfold V
  after_reads_simp
  rfl

theorem V_main_v25 (c : Dev nD) : V m c main_v25 = OddMath.gateB (m (c.tc.loc main_arg4)) := by
  unfold V
  after_reads_simp
  rfl

theorem whole1 (c : Dev nD) (t : Fin cfg0.N) : iblk m c 1 t = V m c main_v26 := by
  funext i
  refine congrArg (V m c main_v26) (funext fun d => Fin.ext ?_)
  have e := (idx t).2.1
  fin_cases d
  · show (win0_1.index t) 0 * 1 + 1 * (i 0).val = (i 0).val; rw [e]; show 0 * 1 + 1 * (i 0).val = (i 0).val; omega
  · show (win0_1.index t) 1 * 9 + 1 * (i 1).val = (i 1).val; rw [e]; show 0 * 9 + 1 * (i 1).val = (i 1).val; omega
  · show (win0_1.index t) 2 * 1024 + 1 * (i 2).val = (i 2).val; rw [e]; show 0 * 1024 + 1 * (i 2).val = (i 2).val; omega

theorem whole2 (c : Dev nD) (t : Fin cfg0.N) : iblk m c 2 t = V m c main_v28 := by
  funext i
  refine congrArg (V m c main_v28) (funext fun d => Fin.ext ?_)
  have e := (idx t).2.2.1
  fin_cases d
  · show (win0_2.index t) 0 * 3 + 1 * (i 0).val = (i 0).val; rw [e]; show 0 * 3 + 1 * (i 0).val = (i 0).val; omega
  · show (win0_2.index t) 1 * 1024 + 1 * (i 1).val = (i 1).val; rw [e]; show 0 * 1024 + 1 * (i 1).val = (i 1).val; omega

theorem whole3 (c : Dev nD) (t : Fin cfg0.N) : iblk m c 3 t = V m c main_v29 := by
  funext i
  refine congrArg (V m c main_v29) (funext fun d => Fin.ext ?_)
  have e := (idx t).2.2.2.1
  fin_cases d
  · show (win0_3.index t) 0 * 1024 + 1 * (i 0).val = (i 0).val; rw [e]; show 0 * 1024 + 1 * (i 0).val = (i 0).val; omega
  · show (win0_3.index t) 1 * 1536 + 1 * (i 1).val = (i 1).val; rw [e]; show 0 * 1536 + 1 * (i 1).val = (i 1).val; omega

theorem whole4 (c : Dev nD) (t : Fin cfg0.N) : iblk m c 4 t = V m c main_v30 := by
  funext i
  refine congrArg (V m c main_v30) (funext fun d => Fin.ext ?_)
  have e := (idx t).2.2.2.2.1
  fin_cases d
  · show (win0_4.index t) 0 * 1024 + 1 * (i 0).val = (i 0).val; rw [e]; show 0 * 1024 + 1 * (i 0).val = (i 0).val; omega
  · show (win0_4.index t) 1 * 1024 + 1 * (i 1).val = (i 1).val; rw [e]; show 0 * 1024 + 1 * (i 1).val = (i 1).val; omega

theorem whole5 (c : Dev nD) (t : Fin cfg0.N) : iblk m c 5 t = V m c main_v31 := by
  funext i
  refine congrArg (V m c main_v31) (funext fun d => Fin.ext ?_)
  have e := (idx t).2.2.2.2.2.1
  fin_cases d
  · show (win0_5.index t) 0 * 16 + 1 * (i 0).val = (i 0).val; rw [e]; show 0 * 16 + 1 * (i 0).val = (i 0).val; omega
  · show (win0_5.index t) 1 * 1024 + 1 * (i 1).val = (i 1).val; rw [e]; show 0 * 1024 + 1 * (i 1).val = (i 1).val; omega

theorem whole6 (c : Dev nD) (t : Fin cfg0.N) : iblk m c 6 t = V m c main_v25 := by
  funext i
  refine congrArg (V m c main_v25) (funext fun d => Fin.ext ?_)
  have e := (idx t).2.2.2.2.2.2.1
  fin_cases d
  · show (win0_6.index t) 0 * 16 + 1 * (i 0).val = (i 0).val; rw [e]; show 0 * 16 + 1 * (i 0).val = (i 0).val; omega
  · show (win0_6.index t) 1 * 128 + 1 * (i 1).val = (i 1).val; rw [e]; show 0 * 128 + 1 * (i 1).val = (i 1).val; omega

theorem tile_row (c : Dev nD) (t : Fin cfg0.N) (r : Fin 512) (l : Fin 1024) :
    iblk m c 0 t (ix3 0 r l) = m (c.tc.loc main_arg0) (ix3 0 (OddMath.tileRow t r) l) := by
  have e := (idx t).1
  refine congrArg (m (c.tc.loc main_arg0)) (funext fun d => Fin.ext ?_)
  fin_cases d
  · show (win0_0.index t) 0 * 1 + 1 * 0 = 0; rw [e]; rfl
  · show (win0_0.index t) 1 * 512 + 1 * r.val = t.val * 512 + r.val; rw [e]; show t.val * 512 + 1 * r.val = _; omega
  · show (win0_0.index t) 2 * 1024 + 1 * l.val = l.val; rw [e]; show 0 * 1024 + 1 * l.val = l.val; omega

/-! The results the whole launch leaves. -/

theorem final7 (c : Dev nD) : (dats m 0 c).arrAt 7 cfg0.N = OddMath.qOut (m (c.tc.loc main_arg0)) (m (c.tc.loc main_arg1)) (m (c.tc.loc main_arg2)) (m (c.tc.loc main_arg3)) := by
  refine (dats m 0 c).arrAt_eq_of_covers 7 _ (by decide +kernel) fun t hf y => ?_
  blk_simp
  rw [after0_7]
  have e := (idx t).2.2.2.2.2.2.2.1
  refine Eq.trans ?_ (congrArg₂ (fun r a => OddMath.qOut (m (c.tc.loc main_arg0)) (m (c.tc.loc main_arg1)) (m (c.tc.loc main_arg2)) (m (c.tc.loc main_arg3)) (ix3 0 r a))
    (Fin.ext (by show t.val * 512 + (y 1).val = (win0_7.index t) 1 * 512 + 1 * (y 1).val; rw [e]; show _ = t.val * 512 + 1 * (y 1).val; omega) : OddMath.tileRow t (y 1) = _)
    (Fin.ext (by show (y 2).val = (win0_7.index t) 2 * 512 + 1 * (y 2).val; rw [e]; show _ = 0 * 512 + 1 * (y 2).val; omega) : y 2 = _))
  unfold out0_7
  frame_out
  obtain ⟨z, r, n, rfl⟩ : ∃ (z : Fin 1) (r : Fin 512) (n : Fin 512), y = ix3 z r n := ⟨y 0, y 1, y 2, eq_ix3 y⟩
  obtain rfl : z = 0 := Subsingleton.elim _ _
  rw [OddMath.q_at, whole1, whole2, whole3, V_main_v26, V_main_v28, V_main_v29]
  exact OddMath.q_eq (m (c.tc.loc main_arg0)) (m (c.tc.loc main_arg1)) (m (c.tc.loc main_arg2)) (m (c.tc.loc main_arg3)) (iblk m c 0 t) t (tile_row m c t) r n

theorem final8 (c : Dev nD) : (dats m 0 c).arrAt 8 cfg0.N = OddMath.kOut (m (c.tc.loc main_arg0)) (m (c.tc.loc main_arg1)) (m (c.tc.loc main_arg2)) (m (c.tc.loc main_arg3)) := by
  refine (dats m 0 c).arrAt_eq_of_covers 8 _ (by decide +kernel) fun t hf y => ?_
  blk_simp
  rw [after0_8]
  have e := (idx t).2.2.2.2.2.2.2.2.1
  refine Eq.trans ?_ (congrArg₂ (fun r a => OddMath.kOut (m (c.tc.loc main_arg0)) (m (c.tc.loc main_arg1)) (m (c.tc.loc main_arg2)) (m (c.tc.loc main_arg3)) (ix3 0 r a))
    (Fin.ext (by show t.val * 512 + (y 1).val = (win0_8.index t) 1 * 512 + 1 * (y 1).val; rw [e]; show _ = t.val * 512 + 1 * (y 1).val; omega) : OddMath.tileRow t (y 1) = _)
    (Fin.ext (by show (y 2).val = (win0_8.index t) 2 * 512 + 1 * (y 2).val; rw [e]; show _ = 0 * 512 + 1 * (y 2).val; omega) : y 2 = _))
  unfold out0_8
  frame_out
  obtain ⟨z, r, n, rfl⟩ : ∃ (z : Fin 1) (r : Fin 512) (n : Fin 512), y = ix3 z r n := ⟨y 0, y 1, y 2, eq_ix3 y⟩
  obtain rfl : z = 0 := Subsingleton.elim _ _
  rw [OddMath.k_at, whole1, whole2, whole3, V_main_v26, V_main_v28, V_main_v29]
  exact OddMath.k_eq (m (c.tc.loc main_arg0)) (m (c.tc.loc main_arg1)) (m (c.tc.loc main_arg2)) (m (c.tc.loc main_arg3)) (iblk m c 0 t) t (tile_row m c t) r n

theorem final9 (c : Dev nD) : (dats m 0 c).arrAt 9 cfg0.N = OddMath.dOut (m (c.tc.loc main_arg0)) (m (c.tc.loc main_arg1)) (m (c.tc.loc main_arg2)) (m (c.tc.loc main_arg3)) := by
  refine (dats m 0 c).arrAt_eq_of_covers 9 _ (by decide +kernel) fun t hf y => ?_
  blk_simp
  rw [after0_9]
  have e := (idx t).2.2.2.2.2.2.2.2.2.1
  refine Eq.trans ?_ (congrArg₂ (fun r a => OddMath.dOut (m (c.tc.loc main_arg0)) (m (c.tc.loc main_arg1)) (m (c.tc.loc main_arg2)) (m (c.tc.loc main_arg3)) (ix3 0 r a))
    (Fin.ext (by show t.val * 512 + (y 1).val = (win0_9.index t) 1 * 512 + 1 * (y 1).val; rw [e]; show _ = t.val * 512 + 1 * (y 1).val; omega) : OddMath.tileRow t (y 1) = _)
    (Fin.ext (by show (y 2).val = (win0_9.index t) 2 * 512 + 1 * (y 2).val; rw [e]; show _ = 0 * 512 + 1 * (y 2).val; omega) : y 2 = _))
  unfold out0_9
  frame_out
  obtain ⟨z, r, n, rfl⟩ : ∃ (z : Fin 1) (r : Fin 512) (n : Fin 512), y = ix3 z r n := ⟨y 0, y 1, y 2, eq_ix3 y⟩
  obtain rfl : z = 0 := Subsingleton.elim _ _
  rw [OddMath.d_at, whole1, whole2, whole3, V_main_v26, V_main_v28, V_main_v29]
  exact OddMath.d_eq (m (c.tc.loc main_arg0)) (m (c.tc.loc main_arg1)) (m (c.tc.loc main_arg2)) (m (c.tc.loc main_arg3)) (iblk m c 0 t) t (tile_row m c t) r n

theorem final10 (c : Dev nD) : (dats m 0 c).arrAt 10 cfg0.N = OddMath.vOut (m (c.tc.loc main_arg0)) (m (c.tc.loc main_arg1)) (m (c.tc.loc main_arg2)) (m (c.tc.loc main_arg3)) := by
  refine (dats m 0 c).arrAt_eq_of_covers 10 _ (by decide +kernel) fun t hf y => ?_
  blk_simp
  rw [after0_10]
  have e := (idx t).2.2.2.2.2.2.2.2.2.2.1
  refine Eq.trans ?_ (OddMath.congr_three (fun n a b => OddMath.vOut (m (c.tc.loc main_arg0)) (m (c.tc.loc main_arg1)) (m (c.tc.loc main_arg2)) (m (c.tc.loc main_arg3)) (ix4 0 n a b))
    (Fin.ext (by show t.val * 4 + (y 1).val = (win0_10.index t) 1 * 4 + 1 * (y 1).val; rw [e]; show _ = t.val * 4 + 1 * (y 1).val; omega) : OddMath.chunkNo t (y 1) = _)
    (Fin.ext (by show (y 2).val = (win0_10.index t) 2 * 512 + 1 * (y 2).val; rw [e]; show _ = 0 * 512 + 1 * (y 2).val; omega) : y 2 = _)
      (Fin.ext (by show (y 3).val = (win0_10.index t) 3 * 128 + 1 * (y 3).val; rw [e]; show _ = 0 * 128 + 1 * (y 3).val; omega) : y 3 = _))
  rw [OddMath.v_tile, whole1, whole2, whole4, V_main_v26, V_main_v28, V_main_v30]
  exact OddMath.v_eq (m (c.tc.loc main_arg0)) (m (c.tc.loc main_arg1)) (m (c.tc.loc main_arg2)) (m (c.tc.loc main_arg3)) (iblk m c 0 t) t (tile_row m c t) (y 1) (y 2) (y 3)

theorem final11 (c : Dev nD) : (dats m 0 c).arrAt 11 cfg0.N = OddMath.oOut (m (c.tc.loc main_arg0)) (m (c.tc.loc main_arg1)) (m (c.tc.loc main_arg2)) (m (c.tc.loc main_arg3)) := by
  refine (dats m 0 c).arrAt_eq_of_covers 11 _ (by decide +kernel) fun t hf y => ?_
  blk_simp
  rw [after0_11]
  have e := (idx t).2.2.2.2.2.2.2.2.2.2.2.1
  refine Eq.trans ?_ (OddMath.congr_three (fun n a b => OddMath.oOut (m (c.tc.loc main_arg0)) (m (c.tc.loc main_arg1)) (m (c.tc.loc main_arg2)) (m (c.tc.loc main_arg3)) (ix4 0 n a b))
    (Fin.ext (by show t.val * 4 + (y 1).val = (win0_11.index t) 1 * 4 + 1 * (y 1).val; rw [e]; show _ = t.val * 4 + 1 * (y 1).val; omega) : OddMath.chunkNo t (y 1) = _)
    (Fin.ext (by show (y 2).val = (win0_11.index t) 2 * 512 + 1 * (y 2).val; rw [e]; show _ = 0 * 512 + 1 * (y 2).val; omega) : y 2 = _)
      (Fin.ext (by show (y 3).val = (win0_11.index t) 3 * 128 + 1 * (y 3).val; rw [e]; show _ = 0 * 128 + 1 * (y 3).val; omega) : y 3 = _))
  rw [OddMath.o_tile, whole1, whole2, whole4, V_main_v26, V_main_v28, V_main_v30]
  exact OddMath.o_eq (m (c.tc.loc main_arg0)) (m (c.tc.loc main_arg1)) (m (c.tc.loc main_arg2)) (m (c.tc.loc main_arg3)) (iblk m c 0 t) t (tile_row m c t) (y 1) (y 2) (y 3)

theorem final12 (c : Dev nD) : (dats m 0 c).arrAt 12 cfg0.N = OddMath.gOut (m (c.tc.loc main_arg0)) (m (c.tc.loc main_arg1)) (m (c.tc.loc main_arg2)) (m (c.tc.loc main_arg3)) (m (c.tc.loc main_arg4)) := by
  refine (dats m 0 c).arrAt_eq_of_covers 12 _ (by decide +kernel) fun t hf y => ?_
  blk_simp
  rw [after0_12]
  have e := (idx t).2.2.2.2.2.2.2.2.2.2.2.2
  refine Eq.trans ?_ (OddMath.congr_three (fun n a b => OddMath.gOut (m (c.tc.loc main_arg0)) (m (c.tc.loc main_arg1)) (m (c.tc.loc main_arg2)) (m (c.tc.loc main_arg3)) (m (c.tc.loc main_arg4)) (ix4 0 n a b))
    (Fin.ext (by show t.val * 4 + (y 1).val = (win0_12.index t) 1 * 4 + 1 * (y 1).val; rw [e]; show _ = t.val * 4 + 1 * (y 1).val; omega) : OddMath.chunkNo t (y 1) = _)
    (Fin.ext (by show (y 2).val = (win0_12.index t) 2 * 16 + 1 * (y 2).val; rw [e]; show _ = 0 * 16 + 1 * (y 2).val; omega) : y 2 = _)
      (Fin.ext (by show (y 3).val = (win0_12.index t) 3 * 128 + 1 * (y 3).val; rw [e]; show _ = 0 * 128 + 1 * (y 3).val; omega) : y 3 = _))
  rw [OddMath.g_tile, whole1, whole2, whole5, whole6, V_main_v26, V_main_v28, V_main_v31, V_main_v25]
  exact OddMath.g_eq (m (c.tc.loc main_arg0)) (m (c.tc.loc main_arg1)) (m (c.tc.loc main_arg2)) (m (c.tc.loc main_arg3)) (m (c.tc.loc main_arg4)) (iblk m c 0 t) t (tile_row m c t) (y 1) (y 2) (y 3)

end Cert.OddInIdeal.Whole

namespace Cert.OddInRefIdeal.Whole

open Cert.OddInRefIdeal Cert.OddInRefIdeal.Gen

variable (m : (ℓ : Loc nD τ sig) → Buf (Elt Ideal) ℓ)

theorem result64 (c : Dev nD) : Value.res_main_v64 m c = OddMath.gOut (m (c.tc.loc main_arg0)) (m (c.tc.loc main_arg1)) (m (c.tc.loc main_arg2)) (m (c.tc.loc main_arg3)) (m (c.tc.loc main_arg4)) := by
  funext i
  obtain ⟨z, n, g, p, rfl⟩ : ∃ (z : Fin 1) (n : Fin 64) (g : Fin 16) (p : Fin 128), i = ix4 z n g p := ⟨i 0, i 1, i 2, i 3, eq_ix4 i⟩
  obtain rfl : z = 0 := Subsingleton.elim _ _
  unfold Value.res_main_v64
  clean_types
  generalize hP : Host.dotGeneral (F := Ideal) dot_S1x8192x1024_S1024x2576_S1x8192x2576_2_0_01_1_n_n none _ _ = P
  have e : ∀ r j, P (ix3 0 r j) = OddMath.proj (m (c.tc.loc main_arg0)) (m (c.tc.loc main_arg1)) (m (c.tc.loc main_arg2)) (m (c.tc.loc main_arg3)) r j := by
    intro r j
    subst hP
    unfold OddMath.proj FfnMath.hid
    pointwise
  clear hP
  show _ = OddMath.gate g (OddMath.preGate (m (c.tc.loc main_arg0)) (m (c.tc.loc main_arg1)) (m (c.tc.loc main_arg2)) (m (c.tc.loc main_arg3)) (m (c.tc.loc main_arg4)) (OddMath.chunkRow n p) g)
  pointwise
  simp only [e]
  refine OddMath.gate_choice g _ _ _ _ (fun h => ?_) (fun h => ?_)
  · exact OddMath.preGate_eq (m (c.tc.loc main_arg0)) (m (c.tc.loc main_arg1)) (m (c.tc.loc main_arg2)) (m (c.tc.loc main_arg3)) (m (c.tc.loc main_arg4)) _ (OddMath.chunkRow n p) _ g _ 0 _
      rfl (by show 2048 + (g.val / 4 % 2 * 8 + g.val % 4) = 2048 + (g.val / 4 % 2 * 8 + 0 * 4 + g.val % 4); omega) rfl (by show 0 = g.val / 8; omega) rfl
  · exact OddMath.preGate_eq (m (c.tc.loc main_arg0)) (m (c.tc.loc main_arg1)) (m (c.tc.loc main_arg2)) (m (c.tc.loc main_arg3)) (m (c.tc.loc main_arg4)) _ (OddMath.chunkRow n p) _ g _ 1 _
      rfl (by show 2048 + (g.val / 4 % 2 * 8 + 4 + g.val % 4) = 2048 + (g.val / 4 % 2 * 8 + 1 * 4 + g.val % 4); omega) rfl (by show 1 = g.val / 8; omega) rfl

end Cert.OddInRefIdeal.Whole

end
-- ==== Proof.lean ====
/- The claims, from the generated frames and runs and the value modules of the kernels and their references. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.AttnAlg
public import proofs.«01_k».proof.Proof.Gen.OddFfn.Frame
public import proofs.«01_k».proof.Proof.OddFfnValue
public import proofs.«01_k».proof.Proof.Gen.EvenFfn.Frame
public import proofs.«01_k».proof.Proof.EvenFfnValue
public import proofs.«01_k».proof.Proof.Gen.Ffn.Frame
public import proofs.«01_k».proof.Proof.FfnValue
public import proofs.«01_k».proof.Proof.Gen.LateFfn.Frame
public import proofs.«01_k».proof.Proof.LateFfnValue
public import proofs.«01_k».proof.Proof.Gen.EvenIn.Frame
public import proofs.«01_k».proof.Proof.EvenInValue
public import proofs.«01_k».proof.Proof.Gen.OddIn.Frame
public import proofs.«01_k».proof.Proof.OddInValue
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The attention kernel's result and its reference's are the same function of finite arguments. -/
theorem algebraic_KernelIdeal : Cert.algebraic_KernelIdeal_ReferenceIdeal_pre_finite (hPre_finite := AttnAlg.pre_facts) := by
  intro m ρ m' ρ' hpre hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  obtain ⟨a0, a1, a2, a3, a4⟩ := hagree c
  obtain ⟨hq, hk, hc⟩ := AttnAlg.reals (hf := AttnAlg.pre_facts) _ _ _ _ _ (hpre c)
  rw [(h c).1, Cert.KernelIdeal.Whole.final, a0, a1, a2, a3, a4]
  funext i
  obtain ⟨b, r, n, rfl⟩ : ∃ (b : Fin 8) (r : Fin 4096) (n : Fin 512), i = ix3 b r n := ⟨i 0, i 1, i 2, eq_ix3 i⟩
  exact (AttnAlg.same _ _ _ _ _ hq hk hc b r n).symm

theorem quiescent_OddFfnRefIdeal : Cert.quiescent_OddFfnRefIdeal := fun m ρ _ =>
  (θ_run Cert.OddFfnRefIdeal.defs _ _).mono (fun r h => ⟨fun c => (h c).2, sem_eq_zero_of_no_sems (by decide) r.2⟩)
    (Cert.OddFfnRefIdeal.Value.run (F := Ideal) m ρ)

/-- The kernel's stored rows and the reference's result are the same function of the arguments. -/
theorem algebraic_OddFfn : Cert.algebraic_OddFfnIdeal_OddFfnRefIdeal := by
  intro m ρ m' ρ' _ hagree
  refine ⟨_, Cert.OddFfnIdeal.Value.run_blocks (F := Ideal) m ρ, ?_⟩
  refine (θ_run Cert.OddFfnRefIdeal.defs _ _).mono (fun _ h c => ⟨?_, (h c).2⟩) (Cert.OddFfnRefIdeal.Value.run (F := Ideal) m' ρ')
  rw [(h c).1, Cert.OddFfnIdeal.Whole.final, Cert.OddFfnRefIdeal.Whole.result, Cert.OddFfnIdeal.Whole.G]
  simp only [hagree c]

theorem quiescent_EvenFfnRefIdeal : Cert.quiescent_EvenFfnRefIdeal := fun m ρ _ =>
  (θ_run Cert.EvenFfnRefIdeal.defs _ _).mono (fun r h => ⟨fun c => (h c).2, sem_eq_zero_of_no_sems (by decide) r.2⟩)
    (Cert.EvenFfnRefIdeal.Value.run (F := Ideal) m ρ)

/-- The kernel's stored rows and the reference's result are the same function of the arguments. -/
theorem algebraic_EvenFfn : Cert.algebraic_EvenFfnIdeal_EvenFfnRefIdeal := by
  intro m ρ m' ρ' _ hagree
  refine ⟨_, Cert.EvenFfnIdeal.Value.run_blocks (F := Ideal) m ρ, ?_⟩
  refine (θ_run Cert.EvenFfnRefIdeal.defs _ _).mono (fun _ h c => ⟨?_, (h c).2⟩) (Cert.EvenFfnRefIdeal.Value.run (F := Ideal) m' ρ')
  rw [(h c).1, Cert.EvenFfnIdeal.Whole.final, Cert.EvenFfnRefIdeal.Whole.result, Cert.EvenFfnIdeal.Whole.G]
  simp only [hagree c]

theorem quiescent_FfnRefIdeal : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The kernel's stored rows and the reference's result are the same function of the arguments. -/
theorem algebraic_Ffn : Cert.algebraic_FfnIdeal_FfnRefIdeal := by
  intro m ρ m' ρ' _ hagree
  refine ⟨_, Cert.FfnIdeal.Value.run_blocks (F := Ideal) m ρ, ?_⟩
  refine (θ_run Cert.FfnRefIdeal.defs _ _).mono (fun _ h c => ⟨?_, (h c).2⟩) (Cert.FfnRefIdeal.Value.run (F := Ideal) m' ρ')
  rw [(h c).1, Cert.FfnIdeal.Whole.final, Cert.FfnRefIdeal.Whole.result, Cert.FfnIdeal.Whole.G]
  simp only [hagree c]

theorem quiescent_LateFfnRefIdeal : Cert.quiescent_LateFfnRefIdeal := fun m ρ _ =>
  (θ_run Cert.LateFfnRefIdeal.defs _ _).mono (fun r h => ⟨fun c => (h c).2, sem_eq_zero_of_no_sems (by decide) r.2⟩)
    (Cert.LateFfnRefIdeal.Value.run (F := Ideal) m ρ)

/-- The kernel's stored rows and the reference's result are the same function of the arguments. -/
theorem algebraic_LateFfn : Cert.algebraic_LateFfnIdeal_LateFfnRefIdeal := by
  intro m ρ m' ρ' _ hagree
  refine ⟨_, Cert.LateFfnIdeal.Value.run_blocks (F := Ideal) m ρ, ?_⟩
  refine (θ_run Cert.LateFfnRefIdeal.defs _ _).mono (fun _ h c => ⟨?_, (h c).2⟩) (Cert.LateFfnRefIdeal.Value.run (F := Ideal) m' ρ')
  rw [(h c).1, Cert.LateFfnIdeal.Whole.final, Cert.LateFfnRefIdeal.Whole.result, Cert.LateFfnIdeal.Whole.G]
  simp only [hagree c]

theorem quiescent_EvenInRefIdeal : Cert.quiescent_EvenInRefIdeal := fun m ρ _ =>
  (θ_run Cert.EvenInRefIdeal.defs _ _).mono (fun r h => ⟨fun c => (h c).2.2.2.2, sem_eq_zero_of_no_sems (by decide) r.2⟩)
    (Cert.EvenInRefIdeal.Value.run (F := Ideal) m ρ)

/-- The kernel's stored rows and the reference's results are the same functions of the arguments. -/
theorem algebraic_EvenIn : Cert.algebraic_EvenInIdeal_EvenInRefIdeal := by
  intro m ρ m' ρ' _ hagree
  refine ⟨_, _, _, _, (θ_run Cert.EvenInIdeal.defs _ _).mono (fun _ h c => ⟨(h c).1, (h c).2.1, (h c).2.2.2.2.1, (h c).2.2.2.2.2⟩) (Cert.EvenInIdeal.Value.run_blocks (F := Ideal) m ρ), ?_⟩
  refine (θ_run Cert.EvenInRefIdeal.defs _ _).mono (fun _ h c => ⟨?_, ?_, ?_, ?_, (h c).2.2.2.2⟩) (Cert.EvenInRefIdeal.Value.run (F := Ideal) m' ρ')
  · rw [(h c).1, Cert.EvenInIdeal.Whole.final10, Cert.EvenInRefIdeal.Whole.result115]
    simp only [hagree c]
  · rw [(h c).2.1, Cert.EvenInIdeal.Whole.final11, Cert.EvenInRefIdeal.Whole.result116]
    simp only [hagree c]
  · rw [(h c).2.2.1, Cert.EvenInIdeal.Whole.final14, Cert.EvenInRefIdeal.Whole.result117]
    simp only [hagree c]
  · rw [(h c).2.2.2.1, Cert.EvenInIdeal.Whole.final15]
    simp only [hagree c]
    funext i
    obtain ⟨z, r, n, rfl⟩ : ∃ (z : Fin 1) (r : Fin 8192) (n : Fin 128), i = ix3 z r n := ⟨i 0, i 1, i 2, eq_ix3 i⟩
    obtain rfl : z = 0 := Subsingleton.elim _ _
    clean_types
    pointwise [EvenMath.value, EvenMath.proj, FfnMath.hid]

theorem quiescent_OddInRefIdeal : Cert.quiescent_OddInRefIdeal := fun m ρ _ =>
  (θ_run Cert.OddInRefIdeal.defs _ _).mono (fun r h => ⟨fun c => (h c).2.2.2.2.2.2, sem_eq_zero_of_no_sems (by decide) r.2⟩)
    (Cert.OddInRefIdeal.Value.run (F := Ideal) m ρ)

/-- The kernel's stored blocks and the reference's results are the same functions of the arguments. -/
theorem algebraic_OddIn : Cert.algebraic_OddInIdeal_OddInRefIdeal := by
  intro m ρ m' ρ' _ hagree
  refine ⟨_, _, _, _, _, _, (θ_run Cert.OddInIdeal.defs _ _).mono (fun _ h c => ⟨(h c).1, (h c).2.1, (h c).2.2.1, (h c).2.2.2.1, (h c).2.2.2.2.1, (h c).2.2.2.2.2.1, (h c).2.2.2.2.2.2⟩) (Cert.OddInIdeal.Value.run_blocks (F := Ideal) m ρ), ?_⟩
  refine (θ_run Cert.OddInRefIdeal.defs _ _).mono (fun _ h c => ⟨?_, ?_, ?_, ?_, ?_, ?_, (h c).2.2.2.2.2.2⟩) (Cert.OddInRefIdeal.Value.run (F := Ideal) m' ρ')
  · rw [(h c).1, Cert.OddInIdeal.Whole.final7]
    simp only [hagree c]
    funext i
    obtain ⟨z, r, n, rfl⟩ : ∃ (z : Fin 1) (r : Fin 8192) (n : Fin 512), i = ix3 z r n := ⟨i 0, i 1, i 2, eq_ix3 i⟩
    obtain rfl : z = 0 := Subsingleton.elim _ _
    clean_types
    pointwise [OddMath.qOut, OddMath.qAt, OddMath.proj, FfnMath.hid]
  · rw [(h c).2.1, Cert.OddInIdeal.Whole.final8]
    simp only [hagree c]
    funext i
    obtain ⟨z, r, n, rfl⟩ : ∃ (z : Fin 1) (r : Fin 8192) (n : Fin 512), i = ix3 z r n := ⟨i 0, i 1, i 2, eq_ix3 i⟩
    obtain rfl : z = 0 := Subsingleton.elim _ _
    clean_types
    pointwise [OddMath.kOut, OddMath.kAt, OddMath.proj, FfnMath.hid]
  · rw [(h c).2.2.1, Cert.OddInIdeal.Whole.final9]
    simp only [hagree c]
    funext i
    obtain ⟨z, r, n, rfl⟩ : ∃ (z : Fin 1) (r : Fin 8192) (n : Fin 512), i = ix3 z r n := ⟨i 0, i 1, i 2, eq_ix3 i⟩
    obtain rfl : z = 0 := Subsingleton.elim _ _
    clean_types
    pointwise [OddMath.dOut, OddMath.dAt, OddMath.proj, FfnMath.hid]
  · rw [(h c).2.2.2.1, Cert.OddInIdeal.Whole.final10]
    simp only [hagree c]
    funext i
    obtain ⟨z, n, j, p, rfl⟩ : ∃ (z : Fin 1) (n : Fin 64) (j : Fin 512) (p : Fin 128), i = ix4 z n j p := ⟨i 0, i 1, i 2, i 3, eq_ix4 i⟩
    obtain rfl : z = 0 := Subsingleton.elim _ _
    clean_types
    pointwise [OddMath.vOut, OddMath.vAt, OddMath.proj, OddMath.chunkRow, FfnMath.hid]
  · rw [(h c).2.2.2.2.1, Cert.OddInIdeal.Whole.final11]
    simp only [hagree c]
    funext i
    obtain ⟨z, n, j, p, rfl⟩ : ∃ (z : Fin 1) (n : Fin 64) (j : Fin 512) (p : Fin 128), i = ix4 z n j p := ⟨i 0, i 1, i 2, i 3, eq_ix4 i⟩
    obtain rfl : z = 0 := Subsingleton.elim _ _
    clean_types
    pointwise [OddMath.oOut, OddMath.oAt, OddMath.logistic, OddMath.proj, OddMath.chunkRow, FfnMath.hid]
  · rw [(h c).2.2.2.2.2.1, Cert.OddInIdeal.Whole.final12, Cert.OddInRefIdeal.Whole.result64]
    simp only [hagree c]

theorem claim : Cert.Claim := ⟨Cert.Kernel.Gen.facts, Cert.KernelIdeal.Gen.facts, Cert.ReferenceIdeal.Gen.facts, Cert.OddFfn.Gen.facts, Cert.OddFfnIdeal.Gen.facts, Cert.OddFfnRefIdeal.Gen.facts, Cert.EvenFfn.Gen.facts, Cert.EvenFfnIdeal.Gen.facts, Cert.EvenFfnRefIdeal.Gen.facts, Cert.Ffn.Gen.facts, Cert.FfnIdeal.Gen.facts, Cert.FfnRefIdeal.Gen.facts, Cert.LateFfn.Gen.facts, Cert.LateFfnIdeal.Gen.facts, Cert.LateFfnRefIdeal.Gen.facts, Cert.EvenIn.Gen.facts, Cert.EvenInIdeal.Gen.facts, Cert.EvenInRefIdeal.Gen.facts, Cert.OddIn.Gen.facts, Cert.OddInIdeal.Gen.facts, Cert.OddInRefIdeal.Gen.facts, AttnAlg.pre_facts,
    fun m ρ _ => Cert.Kernel.Gen.frame m ρ, fun m ρ _ => Cert.KernelIdeal.Gen.frame m ρ, fun m ρ _ => Cert.KernelIdeal.Gen.frame m ρ, quiescent_ReferenceIdeal, fun m ρ _ => quiescent_ReferenceIdeal m ρ trivial,
    fun m ρ _ => Cert.OddFfn.Gen.frame m ρ, fun m ρ _ => Cert.OddFfnIdeal.Gen.frame m ρ, quiescent_OddFfnRefIdeal,
    fun m ρ _ => Cert.EvenFfn.Gen.frame m ρ, fun m ρ _ => Cert.EvenFfnIdeal.Gen.frame m ρ, quiescent_EvenFfnRefIdeal,
    fun m ρ _ => Cert.Ffn.Gen.frame m ρ, fun m ρ _ => Cert.FfnIdeal.Gen.frame m ρ, quiescent_FfnRefIdeal,
    fun m ρ _ => Cert.LateFfn.Gen.frame m ρ, fun m ρ _ => Cert.LateFfnIdeal.Gen.frame m ρ, quiescent_LateFfnRefIdeal,
    fun m ρ _ => Cert.EvenIn.Gen.frame m ρ, fun m ρ _ => Cert.EvenInIdeal.Gen.frame m ρ, quiescent_EvenInRefIdeal,
    fun m ρ _ => Cert.OddIn.Gen.frame m ρ, fun m ρ _ => Cert.OddInIdeal.Gen.frame m ρ, quiescent_OddInRefIdeal,
    IdealRules.named_const.statement Cert.KernelIdeal.κ "q_scale" .f32 0x3E38AA3B#32 ((8⁻¹ * (Real.log 2)⁻¹ : ℝ) : EReal) rfl, algebraic_KernelIdeal,
    (trivial : preserves_OddFfn_OddFfnIdeal), algebraic_OddFfn,
    (trivial : preserves_EvenFfn_EvenFfnIdeal), algebraic_EvenFfn,
    (trivial : preserves_Ffn_FfnIdeal), algebraic_Ffn,
    (trivial : preserves_LateFfn_LateFfnIdeal), algebraic_LateFfn,
    (trivial : preserves_EvenIn_EvenInIdeal), algebraic_EvenIn,
    (trivial : preserves_OddIn_OddInIdeal), algebraic_OddIn⟩

end Cert.Proof

end
